-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_KernelT (m : (ℓ : Loc Cert.KernelT.nD Cert.KernelT.τ Cert.KernelT.sig) → Buf (Elt Bits) ℓ) : Prop :=
  True

def Pre_KernelTIdeal (m : (ℓ : Loc Cert.KernelTIdeal.nD Cert.KernelTIdeal.τ Cert.KernelTIdeal.sig) → Buf (Elt Ideal) ℓ) : Prop :=
  True

def Pre_ReferenceTIdeal (m : (ℓ : Loc Cert.ReferenceTIdeal.nD Cert.ReferenceTIdeal.τ Cert.ReferenceTIdeal.sig) → Buf (Elt Ideal) ℓ) : Prop :=
  True

def Pre_KernelK (m : (ℓ : Loc Cert.KernelK.nD Cert.KernelK.τ Cert.KernelK.sig) → Buf (Elt Bits) ℓ) : Prop :=
  True

def Pre_KernelKIdeal (m : (ℓ : Loc Cert.KernelKIdeal.nD Cert.KernelKIdeal.τ Cert.KernelKIdeal.sig) → Buf (Elt Ideal) ℓ) : Prop :=
  True

def Pre_ReferenceKIdeal (m : (ℓ : Loc Cert.ReferenceKIdeal.nD Cert.ReferenceKIdeal.τ Cert.ReferenceKIdeal.sig) → Buf (Elt Ideal) ℓ) : Prop :=
  True

def Pre_KernelG (m : (ℓ : Loc Cert.KernelG.nD Cert.KernelG.τ Cert.KernelG.sig) → Buf (Elt Bits) ℓ) : Prop :=
  True

def Pre_KernelGIdeal (m : (ℓ : Loc Cert.KernelGIdeal.nD Cert.KernelGIdeal.τ Cert.KernelGIdeal.sig) → Buf (Elt Ideal) ℓ) : Prop :=
  True

def Pre_ReferenceGIdeal (m : (ℓ : Loc Cert.ReferenceGIdeal.nD Cert.ReferenceGIdeal.τ Cert.ReferenceGIdeal.sig) → Buf (Elt Ideal) ℓ) : Prop :=
  True

def Pre_KernelO (m : (ℓ : Loc Cert.KernelO.nD Cert.KernelO.τ Cert.KernelO.sig) → Buf (Elt Bits) ℓ) : Prop :=
  True

def Pre_KernelOIdeal (m : (ℓ : Loc Cert.KernelOIdeal.nD Cert.KernelOIdeal.τ Cert.KernelOIdeal.sig) → Buf (Elt Ideal) ℓ) : Prop :=
  True

def Pre_ReferenceOIdeal (m : (ℓ : Loc Cert.ReferenceOIdeal.nD Cert.ReferenceOIdeal.τ Cert.ReferenceOIdeal.sig) → Buf (Elt Ideal) ℓ) : Prop :=
  True

def Pre_KernelN (m : (ℓ : Loc Cert.KernelN.nD Cert.KernelN.τ Cert.KernelN.sig) → Buf (Elt Bits) ℓ) : Prop :=
  True

def Pre_KernelNIdeal (m : (ℓ : Loc Cert.KernelNIdeal.nD Cert.KernelNIdeal.τ Cert.KernelNIdeal.sig) → Buf (Elt Ideal) ℓ) : Prop :=
  True

def Pre_ReferenceNIdeal (m : (ℓ : Loc Cert.ReferenceNIdeal.nD Cert.ReferenceNIdeal.τ Cert.ReferenceNIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_KernelT [hKernelT : Cert.KernelT.Facts] : Prop :=
  ∀ (m : (ℓ : Loc Cert.KernelT.nD Cert.KernelT.τ Cert.KernelT.sig) → Buf (Elt Bits) ℓ) (g : Dev Cert.KernelT.nD → PrngReg), Pre_KernelT m →
    θ_run (Cert.KernelT.defs (F := Bits)) (onTc (τ := Cert.KernelT.τ) (Cert.KernelT.main (F := Bits))) ⟨m, fun _ => 0, g⟩ (fun r => (∀ c : Dev Cert.KernelT.nD,
      r.2.mem ((c.tc : Thread Cert.KernelT.nD Cert.KernelT.τ).loc Cert.KernelT.main_arg0) = m ((c.tc : Thread Cert.KernelT.nD Cert.KernelT.τ).loc Cert.KernelT.main_arg0)
      ∧ r.2.mem ((c.tc : Thread Cert.KernelT.nD Cert.KernelT.τ).loc Cert.KernelT.main_arg1) = m ((c.tc : Thread Cert.KernelT.nD Cert.KernelT.τ).loc Cert.KernelT.main_arg1))
      ∧ r.2.sem = fun _ => 0)

def quiescent_KernelTIdeal [hKernelTIdeal : Cert.KernelTIdeal.Facts] : Prop :=
  ∀ (m : (ℓ : Loc Cert.KernelTIdeal.nD Cert.KernelTIdeal.τ Cert.KernelTIdeal.sig) → Buf (Elt Ideal) ℓ) (g : Dev Cert.KernelTIdeal.nD → PrngReg), Pre_KernelTIdeal m →
    θ_run (Cert.KernelTIdeal.defs (F := Ideal)) (onTc (τ := Cert.KernelTIdeal.τ) (Cert.KernelTIdeal.main (F := Ideal))) ⟨m, fun _ => 0, g⟩ (fun r => (∀ c : Dev Cert.KernelTIdeal.nD,
      r.2.mem ((c.tc : Thread Cert.KernelTIdeal.nD Cert.KernelTIdeal.τ).loc Cert.KernelTIdeal.main_arg0) = m ((c.tc : Thread Cert.KernelTIdeal.nD Cert.KernelTIdeal.τ).loc Cert.KernelTIdeal.main_arg0)
      ∧ r.2.mem ((c.tc : Thread Cert.KernelTIdeal.nD Cert.KernelTIdeal.τ).loc Cert.KernelTIdeal.main_arg1) = m ((c.tc : Thread Cert.KernelTIdeal.nD Cert.KernelTIdeal.τ).loc Cert.KernelTIdeal.main_arg1))
      ∧ r.2.sem = fun _ => 0)

def quiescent_ReferenceTIdeal [hReferenceTIdeal : Cert.ReferenceTIdeal.Facts] : Prop :=
  ∀ (m : (ℓ : Loc Cert.ReferenceTIdeal.nD Cert.ReferenceTIdeal.τ Cert.ReferenceTIdeal.sig) → Buf (Elt Ideal) ℓ) (g : Dev Cert.ReferenceTIdeal.nD → PrngReg), Pre_ReferenceTIdeal m →
    θ_run (Cert.ReferenceTIdeal.defs (F := Ideal)) (onTc (τ := Cert.ReferenceTIdeal.τ) (Cert.ReferenceTIdeal.main (F := Ideal))) ⟨m, fun _ => 0, g⟩ (fun r => (∀ c : Dev Cert.ReferenceTIdeal.nD,
      r.2.mem ((c.tc : Thread Cert.ReferenceTIdeal.nD Cert.ReferenceTIdeal.τ).loc Cert.ReferenceTIdeal.main_arg0) = m ((c.tc : Thread Cert.ReferenceTIdeal.nD Cert.ReferenceTIdeal.τ).loc Cert.ReferenceTIdeal.main_arg0)
      ∧ r.2.mem ((c.tc : Thread Cert.ReferenceTIdeal.nD Cert.ReferenceTIdeal.τ).loc Cert.ReferenceTIdeal.main_arg1) = m ((c.tc : Thread Cert.ReferenceTIdeal.nD Cert.ReferenceTIdeal.τ).loc Cert.ReferenceTIdeal.main_arg1))
      ∧ r.2.sem = fun _ => 0)

def quiescent_KernelK [hKernelK : Cert.KernelK.Facts] : Prop :=
  ∀ (m : (ℓ : Loc Cert.KernelK.nD Cert.KernelK.τ Cert.KernelK.sig) → Buf (Elt Bits) ℓ) (g : Dev Cert.KernelK.nD → PrngReg), Pre_KernelK m →
    θ_run (Cert.KernelK.defs (F := Bits)) (onTc (τ := Cert.KernelK.τ) (Cert.KernelK.main (F := Bits))) ⟨m, fun _ => 0, g⟩ (fun r => (∀ c : Dev Cert.KernelK.nD,
      r.2.mem ((c.tc : Thread Cert.KernelK.nD Cert.KernelK.τ).loc Cert.KernelK.main_arg0) = m ((c.tc : Thread Cert.KernelK.nD Cert.KernelK.τ).loc Cert.KernelK.main_arg0)
      ∧ r.2.mem ((c.tc : Thread Cert.KernelK.nD Cert.KernelK.τ).loc Cert.KernelK.main_arg1) = m ((c.tc : Thread Cert.KernelK.nD Cert.KernelK.τ).loc Cert.KernelK.main_arg1))
      ∧ r.2.sem = fun _ => 0)

def quiescent_KernelKIdeal [hKernelKIdeal : Cert.KernelKIdeal.Facts] : Prop :=
  ∀ (m : (ℓ : Loc Cert.KernelKIdeal.nD Cert.KernelKIdeal.τ Cert.KernelKIdeal.sig) → Buf (Elt Ideal) ℓ) (g : Dev Cert.KernelKIdeal.nD → PrngReg), Pre_KernelKIdeal m →
    θ_run (Cert.KernelKIdeal.defs (F := Ideal)) (onTc (τ := Cert.KernelKIdeal.τ) (Cert.KernelKIdeal.main (F := Ideal))) ⟨m, fun _ => 0, g⟩ (fun r => (∀ c : Dev Cert.KernelKIdeal.nD,
      r.2.mem ((c.tc : Thread Cert.KernelKIdeal.nD Cert.KernelKIdeal.τ).loc Cert.KernelKIdeal.main_arg0) = m ((c.tc : Thread Cert.KernelKIdeal.nD Cert.KernelKIdeal.τ).loc Cert.KernelKIdeal.main_arg0)
      ∧ r.2.mem ((c.tc : Thread Cert.KernelKIdeal.nD Cert.KernelKIdeal.τ).loc Cert.KernelKIdeal.main_arg1) = m ((c.tc : Thread Cert.KernelKIdeal.nD Cert.KernelKIdeal.τ).loc Cert.KernelKIdeal.main_arg1))
      ∧ r.2.sem = fun _ => 0)

def quiescent_ReferenceKIdeal [hReferenceKIdeal : Cert.ReferenceKIdeal.Facts] : Prop :=
  ∀ (m : (ℓ : Loc Cert.ReferenceKIdeal.nD Cert.ReferenceKIdeal.τ Cert.ReferenceKIdeal.sig) → Buf (Elt Ideal) ℓ) (g : Dev Cert.ReferenceKIdeal.nD → PrngReg), Pre_ReferenceKIdeal m →
    θ_run (Cert.ReferenceKIdeal.defs (F := Ideal)) (onTc (τ := Cert.ReferenceKIdeal.τ) (Cert.ReferenceKIdeal.main (F := Ideal))) ⟨m, fun _ => 0, g⟩ (fun r => (∀ c : Dev Cert.ReferenceKIdeal.nD,
      r.2.mem ((c.tc : Thread Cert.ReferenceKIdeal.nD Cert.ReferenceKIdeal.τ).loc Cert.ReferenceKIdeal.main_arg0) = m ((c.tc : Thread Cert.ReferenceKIdeal.nD Cert.ReferenceKIdeal.τ).loc Cert.ReferenceKIdeal.main_arg0)
      ∧ r.2.mem ((c.tc : Thread Cert.ReferenceKIdeal.nD Cert.ReferenceKIdeal.τ).loc Cert.ReferenceKIdeal.main_arg1) = m ((c.tc : Thread Cert.ReferenceKIdeal.nD Cert.ReferenceKIdeal.τ).loc Cert.ReferenceKIdeal.main_arg1))
      ∧ r.2.sem = fun _ => 0)

def quiescent_KernelG [hKernelG : Cert.KernelG.Facts] : Prop :=
  ∀ (m : (ℓ : Loc Cert.KernelG.nD Cert.KernelG.τ Cert.KernelG.sig) → Buf (Elt Bits) ℓ) (g : Dev Cert.KernelG.nD → PrngReg), Pre_KernelG m →
    θ_run (Cert.KernelG.defs (F := Bits)) (onTc (τ := Cert.KernelG.τ) (Cert.KernelG.main (F := Bits))) ⟨m, fun _ => 0, g⟩ (fun r => (∀ c : Dev Cert.KernelG.nD,
      r.2.mem ((c.tc : Thread Cert.KernelG.nD Cert.KernelG.τ).loc Cert.KernelG.main_arg0) = m ((c.tc : Thread Cert.KernelG.nD Cert.KernelG.τ).loc Cert.KernelG.main_arg0)
      ∧ r.2.mem ((c.tc : Thread Cert.KernelG.nD Cert.KernelG.τ).loc Cert.KernelG.main_arg1) = m ((c.tc : Thread Cert.KernelG.nD Cert.KernelG.τ).loc Cert.KernelG.main_arg1))
      ∧ r.2.sem = fun _ => 0)

def quiescent_KernelGIdeal [hKernelGIdeal : Cert.KernelGIdeal.Facts] : Prop :=
  ∀ (m : (ℓ : Loc Cert.KernelGIdeal.nD Cert.KernelGIdeal.τ Cert.KernelGIdeal.sig) → Buf (Elt Ideal) ℓ) (g : Dev Cert.KernelGIdeal.nD → PrngReg), Pre_KernelGIdeal m →
    θ_run (Cert.KernelGIdeal.defs (F := Ideal)) (onTc (τ := Cert.KernelGIdeal.τ) (Cert.KernelGIdeal.main (F := Ideal))) ⟨m, fun _ => 0, g⟩ (fun r => (∀ c : Dev Cert.KernelGIdeal.nD,
      r.2.mem ((c.tc : Thread Cert.KernelGIdeal.nD Cert.KernelGIdeal.τ).loc Cert.KernelGIdeal.main_arg0) = m ((c.tc : Thread Cert.KernelGIdeal.nD Cert.KernelGIdeal.τ).loc Cert.KernelGIdeal.main_arg0)
      ∧ r.2.mem ((c.tc : Thread Cert.KernelGIdeal.nD Cert.KernelGIdeal.τ).loc Cert.KernelGIdeal.main_arg1) = m ((c.tc : Thread Cert.KernelGIdeal.nD Cert.KernelGIdeal.τ).loc Cert.KernelGIdeal.main_arg1))
      ∧ r.2.sem = fun _ => 0)

def quiescent_ReferenceGIdeal [hReferenceGIdeal : Cert.ReferenceGIdeal.Facts] : Prop :=
  ∀ (m : (ℓ : Loc Cert.ReferenceGIdeal.nD Cert.ReferenceGIdeal.τ Cert.ReferenceGIdeal.sig) → Buf (Elt Ideal) ℓ) (g : Dev Cert.ReferenceGIdeal.nD → PrngReg), Pre_ReferenceGIdeal m →
    θ_run (Cert.ReferenceGIdeal.defs (F := Ideal)) (onTc (τ := Cert.ReferenceGIdeal.τ) (Cert.ReferenceGIdeal.main (F := Ideal))) ⟨m, fun _ => 0, g⟩ (fun r => (∀ c : Dev Cert.ReferenceGIdeal.nD,
      r.2.mem ((c.tc : Thread Cert.ReferenceGIdeal.nD Cert.ReferenceGIdeal.τ).loc Cert.ReferenceGIdeal.main_arg0) = m ((c.tc : Thread Cert.ReferenceGIdeal.nD Cert.ReferenceGIdeal.τ).loc Cert.ReferenceGIdeal.main_arg0)
      ∧ r.2.mem ((c.tc : Thread Cert.ReferenceGIdeal.nD Cert.ReferenceGIdeal.τ).loc Cert.ReferenceGIdeal.main_arg1) = m ((c.tc : Thread Cert.ReferenceGIdeal.nD Cert.ReferenceGIdeal.τ).loc Cert.ReferenceGIdeal.main_arg1))
      ∧ r.2.sem = fun _ => 0)

def quiescent_KernelO [hKernelO : Cert.KernelO.Facts] : Prop :=
  ∀ (m : (ℓ : Loc Cert.KernelO.nD Cert.KernelO.τ Cert.KernelO.sig) → Buf (Elt Bits) ℓ) (g : Dev Cert.KernelO.nD → PrngReg), Pre_KernelO m →
    θ_run (Cert.KernelO.defs (F := Bits)) (onTc (τ := Cert.KernelO.τ) (Cert.KernelO.main (F := Bits))) ⟨m, fun _ => 0, g⟩ (fun r => (∀ c : Dev Cert.KernelO.nD,
      r.2.mem ((c.tc : Thread Cert.KernelO.nD Cert.KernelO.τ).loc Cert.KernelO.main_arg0) = m ((c.tc : Thread Cert.KernelO.nD Cert.KernelO.τ).loc Cert.KernelO.main_arg0)
      ∧ r.2.mem ((c.tc : Thread Cert.KernelO.nD Cert.KernelO.τ).loc Cert.KernelO.main_arg1) = m ((c.tc : Thread Cert.KernelO.nD Cert.KernelO.τ).loc Cert.KernelO.main_arg1)
      ∧ r.2.mem ((c.tc : Thread Cert.KernelO.nD Cert.KernelO.τ).loc Cert.KernelO.main_arg2) = m ((c.tc : Thread Cert.KernelO.nD Cert.KernelO.τ).loc Cert.KernelO.main_arg2)
      ∧ r.2.mem ((c.tc : Thread Cert.KernelO.nD Cert.KernelO.τ).loc Cert.KernelO.main_arg3) = m ((c.tc : Thread Cert.KernelO.nD Cert.KernelO.τ).loc Cert.KernelO.main_arg3)
      ∧ r.2.mem ((c.tc : Thread Cert.KernelO.nD Cert.KernelO.τ).loc Cert.KernelO.main_arg4) = m ((c.tc : Thread Cert.KernelO.nD Cert.KernelO.τ).loc Cert.KernelO.main_arg4))
      ∧ r.2.sem = fun _ => 0)

def quiescent_KernelOIdeal [hKernelOIdeal : Cert.KernelOIdeal.Facts] : Prop :=
  ∀ (m : (ℓ : Loc Cert.KernelOIdeal.nD Cert.KernelOIdeal.τ Cert.KernelOIdeal.sig) → Buf (Elt Ideal) ℓ) (g : Dev Cert.KernelOIdeal.nD → PrngReg), Pre_KernelOIdeal m →
    θ_run (Cert.KernelOIdeal.defs (F := Ideal)) (onTc (τ := Cert.KernelOIdeal.τ) (Cert.KernelOIdeal.main (F := Ideal))) ⟨m, fun _ => 0, g⟩ (fun r => (∀ c : Dev Cert.KernelOIdeal.nD,
      r.2.mem ((c.tc : Thread Cert.KernelOIdeal.nD Cert.KernelOIdeal.τ).loc Cert.KernelOIdeal.main_arg0) = m ((c.tc : Thread Cert.KernelOIdeal.nD Cert.KernelOIdeal.τ).loc Cert.KernelOIdeal.main_arg0)
      ∧ r.2.mem ((c.tc : Thread Cert.KernelOIdeal.nD Cert.KernelOIdeal.τ).loc Cert.KernelOIdeal.main_arg1) = m ((c.tc : Thread Cert.KernelOIdeal.nD Cert.KernelOIdeal.τ).loc Cert.KernelOIdeal.main_arg1)
      ∧ r.2.mem ((c.tc : Thread Cert.KernelOIdeal.nD Cert.KernelOIdeal.τ).loc Cert.KernelOIdeal.main_arg2) = m ((c.tc : Thread Cert.KernelOIdeal.nD Cert.KernelOIdeal.τ).loc Cert.KernelOIdeal.main_arg2)
      ∧ r.2.mem ((c.tc : Thread Cert.KernelOIdeal.nD Cert.KernelOIdeal.τ).loc Cert.KernelOIdeal.main_arg3) = m ((c.tc : Thread Cert.KernelOIdeal.nD Cert.KernelOIdeal.τ).loc Cert.KernelOIdeal.main_arg3)
      ∧ r.2.mem ((c.tc : Thread Cert.KernelOIdeal.nD Cert.KernelOIdeal.τ).loc Cert.KernelOIdeal.main_arg4) = m ((c.tc : Thread Cert.KernelOIdeal.nD Cert.KernelOIdeal.τ).loc Cert.KernelOIdeal.main_arg4))
      ∧ r.2.sem = fun _ => 0)

def quiescent_ReferenceOIdeal [hReferenceOIdeal : Cert.ReferenceOIdeal.Facts] : Prop :=
  ∀ (m : (ℓ : Loc Cert.ReferenceOIdeal.nD Cert.ReferenceOIdeal.τ Cert.ReferenceOIdeal.sig) → Buf (Elt Ideal) ℓ) (g : Dev Cert.ReferenceOIdeal.nD → PrngReg), Pre_ReferenceOIdeal m →
    θ_run (Cert.ReferenceOIdeal.defs (F := Ideal)) (onTc (τ := Cert.ReferenceOIdeal.τ) (Cert.ReferenceOIdeal.main (F := Ideal))) ⟨m, fun _ => 0, g⟩ (fun r => (∀ c : Dev Cert.ReferenceOIdeal.nD,
      r.2.mem ((c.tc : Thread Cert.ReferenceOIdeal.nD Cert.ReferenceOIdeal.τ).loc Cert.ReferenceOIdeal.main_arg0) = m ((c.tc : Thread Cert.ReferenceOIdeal.nD Cert.ReferenceOIdeal.τ).loc Cert.ReferenceOIdeal.main_arg0)
      ∧ r.2.mem ((c.tc : Thread Cert.ReferenceOIdeal.nD Cert.ReferenceOIdeal.τ).loc Cert.ReferenceOIdeal.main_arg1) = m ((c.tc : Thread Cert.ReferenceOIdeal.nD Cert.ReferenceOIdeal.τ).loc Cert.ReferenceOIdeal.main_arg1)
      ∧ r.2.mem ((c.tc : Thread Cert.ReferenceOIdeal.nD Cert.ReferenceOIdeal.τ).loc Cert.ReferenceOIdeal.main_arg2) = m ((c.tc : Thread Cert.ReferenceOIdeal.nD Cert.ReferenceOIdeal.τ).loc Cert.ReferenceOIdeal.main_arg2)
      ∧ r.2.mem ((c.tc : Thread Cert.ReferenceOIdeal.nD Cert.ReferenceOIdeal.τ).loc Cert.ReferenceOIdeal.main_arg3) = m ((c.tc : Thread Cert.ReferenceOIdeal.nD Cert.ReferenceOIdeal.τ).loc Cert.ReferenceOIdeal.main_arg3)
      ∧ r.2.mem ((c.tc : Thread Cert.ReferenceOIdeal.nD Cert.ReferenceOIdeal.τ).loc Cert.ReferenceOIdeal.main_arg4) = m ((c.tc : Thread Cert.ReferenceOIdeal.nD Cert.ReferenceOIdeal.τ).loc Cert.ReferenceOIdeal.main_arg4))
      ∧ r.2.sem = fun _ => 0)

def quiescent_KernelN [hKernelN : Cert.KernelN.Facts] : Prop :=
  ∀ (m : (ℓ : Loc Cert.KernelN.nD Cert.KernelN.τ Cert.KernelN.sig) → Buf (Elt Bits) ℓ) (g : Dev Cert.KernelN.nD → PrngReg), Pre_KernelN m →
    θ_run (Cert.KernelN.defs (F := Bits)) (onTc (τ := Cert.KernelN.τ) (Cert.KernelN.main (F := Bits))) ⟨m, fun _ => 0, g⟩ (fun r => (∀ c : Dev Cert.KernelN.nD,
      r.2.mem ((c.tc : Thread Cert.KernelN.nD Cert.KernelN.τ).loc Cert.KernelN.main_arg0) = m ((c.tc : Thread Cert.KernelN.nD Cert.KernelN.τ).loc Cert.KernelN.main_arg0)
      ∧ r.2.mem ((c.tc : Thread Cert.KernelN.nD Cert.KernelN.τ).loc Cert.KernelN.main_arg1) = m ((c.tc : Thread Cert.KernelN.nD Cert.KernelN.τ).loc Cert.KernelN.main_arg1)
      ∧ r.2.mem ((c.tc : Thread Cert.KernelN.nD Cert.KernelN.τ).loc Cert.KernelN.main_arg2) = m ((c.tc : Thread Cert.KernelN.nD Cert.KernelN.τ).loc Cert.KernelN.main_arg2))
      ∧ r.2.sem = fun _ => 0)

def quiescent_KernelNIdeal [hKernelNIdeal : Cert.KernelNIdeal.Facts] : Prop :=
  ∀ (m : (ℓ : Loc Cert.KernelNIdeal.nD Cert.KernelNIdeal.τ Cert.KernelNIdeal.sig) → Buf (Elt Ideal) ℓ) (g : Dev Cert.KernelNIdeal.nD → PrngReg), Pre_KernelNIdeal m →
    θ_run (Cert.KernelNIdeal.defs (F := Ideal)) (onTc (τ := Cert.KernelNIdeal.τ) (Cert.KernelNIdeal.main (F := Ideal))) ⟨m, fun _ => 0, g⟩ (fun r => (∀ c : Dev Cert.KernelNIdeal.nD,
      r.2.mem ((c.tc : Thread Cert.KernelNIdeal.nD Cert.KernelNIdeal.τ).loc Cert.KernelNIdeal.main_arg0) = m ((c.tc : Thread Cert.KernelNIdeal.nD Cert.KernelNIdeal.τ).loc Cert.KernelNIdeal.main_arg0)
      ∧ r.2.mem ((c.tc : Thread Cert.KernelNIdeal.nD Cert.KernelNIdeal.τ).loc Cert.KernelNIdeal.main_arg1) = m ((c.tc : Thread Cert.KernelNIdeal.nD Cert.KernelNIdeal.τ).loc Cert.KernelNIdeal.main_arg1)
      ∧ r.2.mem ((c.tc : Thread Cert.KernelNIdeal.nD Cert.KernelNIdeal.τ).loc Cert.KernelNIdeal.main_arg2) = m ((c.tc : Thread Cert.KernelNIdeal.nD Cert.KernelNIdeal.τ).loc Cert.KernelNIdeal.main_arg2))
      ∧ r.2.sem = fun _ => 0)

def quiescent_ReferenceNIdeal [hReferenceNIdeal : Cert.ReferenceNIdeal.Facts] : Prop :=
  ∀ (m : (ℓ : Loc Cert.ReferenceNIdeal.nD Cert.ReferenceNIdeal.τ Cert.ReferenceNIdeal.sig) → Buf (Elt Ideal) ℓ) (g : Dev Cert.ReferenceNIdeal.nD → PrngReg), Pre_ReferenceNIdeal m →
    θ_run (Cert.ReferenceNIdeal.defs (F := Ideal)) (onTc (τ := Cert.ReferenceNIdeal.τ) (Cert.ReferenceNIdeal.main (F := Ideal))) ⟨m, fun _ => 0, g⟩ (fun r => (∀ c : Dev Cert.ReferenceNIdeal.nD,
      r.2.mem ((c.tc : Thread Cert.ReferenceNIdeal.nD Cert.ReferenceNIdeal.τ).loc Cert.ReferenceNIdeal.main_arg0) = m ((c.tc : Thread Cert.ReferenceNIdeal.nD Cert.ReferenceNIdeal.τ).loc Cert.ReferenceNIdeal.main_arg0)
      ∧ r.2.mem ((c.tc : Thread Cert.ReferenceNIdeal.nD Cert.ReferenceNIdeal.τ).loc Cert.ReferenceNIdeal.main_arg1) = m ((c.tc : Thread Cert.ReferenceNIdeal.nD Cert.ReferenceNIdeal.τ).loc Cert.ReferenceNIdeal.main_arg1)
      ∧ r.2.mem ((c.tc : Thread Cert.ReferenceNIdeal.nD Cert.ReferenceNIdeal.τ).loc Cert.ReferenceNIdeal.main_arg2) = m ((c.tc : Thread Cert.ReferenceNIdeal.nD Cert.ReferenceNIdeal.τ).loc Cert.ReferenceNIdeal.main_arg2))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "scale2" .f32 0x3E0293EE#32 (((11863283 / 134217728) * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_KernelT_KernelTIdeal : Prop :=
  True

def algebraic_KernelTIdeal_ReferenceTIdeal [hKernelTIdeal : Cert.KernelTIdeal.Facts] [hReferenceTIdeal : Cert.ReferenceTIdeal.Facts] : Prop :=
  ∀ (m : (ℓ : Loc Cert.KernelTIdeal.nD Cert.KernelTIdeal.τ Cert.KernelTIdeal.sig) → Buf (Elt Ideal) ℓ) (g : Dev Cert.KernelTIdeal.nD → PrngReg)
    (m' : (ℓ : Loc Cert.ReferenceTIdeal.nD Cert.ReferenceTIdeal.τ Cert.ReferenceTIdeal.sig) → Buf (Elt Ideal) ℓ) (g' : Dev Cert.ReferenceTIdeal.nD → PrngReg), Pre_KernelTIdeal m →
    (∀ c : Dev Cert.KernelTIdeal.nD,
      m' ((c.tc : Thread Cert.ReferenceTIdeal.nD Cert.ReferenceTIdeal.τ).loc Cert.ReferenceTIdeal.main_arg0) = m ((c.tc : Thread Cert.KernelTIdeal.nD Cert.KernelTIdeal.τ).loc Cert.KernelTIdeal.main_arg0)
      ∧ m' ((c.tc : Thread Cert.ReferenceTIdeal.nD Cert.ReferenceTIdeal.τ).loc Cert.ReferenceTIdeal.main_arg1) = m ((c.tc : Thread Cert.KernelTIdeal.nD Cert.KernelTIdeal.τ).loc Cert.KernelTIdeal.main_arg1)) →
    ∃ (v0 : (c : Dev Cert.KernelTIdeal.nD) → Buf (Elt Ideal) ((c.tc : Thread Cert.KernelTIdeal.nD Cert.KernelTIdeal.τ).loc Cert.KernelTIdeal.main_v4)),
      θ_run (Cert.KernelTIdeal.defs (F := Ideal)) (onTc (τ := Cert.KernelTIdeal.τ) (Cert.KernelTIdeal.main (F := Ideal))) ⟨m, fun _ => 0, g⟩ (fun r => ∀ c : Dev Cert.KernelTIdeal.nD,
          r.2.mem ((c.tc : Thread Cert.KernelTIdeal.nD Cert.KernelTIdeal.τ).loc Cert.KernelTIdeal.main_v4) = v0 c
          ∧ r.2.mem ((c.tc : Thread Cert.KernelTIdeal.nD Cert.KernelTIdeal.τ).loc Cert.KernelTIdeal.main_arg0) = m ((c.tc : Thread Cert.KernelTIdeal.nD Cert.KernelTIdeal.τ).loc Cert.KernelTIdeal.main_arg0)
          ∧ r.2.mem ((c.tc : Thread Cert.KernelTIdeal.nD Cert.KernelTIdeal.τ).loc Cert.KernelTIdeal.main_arg1) = m ((c.tc : Thread Cert.KernelTIdeal.nD Cert.KernelTIdeal.τ).loc Cert.KernelTIdeal.main_arg1))
      ∧ θ_run (Cert.ReferenceTIdeal.defs (F := Ideal)) (onTc (τ := Cert.ReferenceTIdeal.τ) (Cert.ReferenceTIdeal.main (F := Ideal))) ⟨m', fun _ => 0, g'⟩ (fun r => ∀ c : Dev Cert.ReferenceTIdeal.nD,
          r.2.mem ((c.tc : Thread Cert.ReferenceTIdeal.nD Cert.ReferenceTIdeal.τ).loc Cert.ReferenceTIdeal.main_v15) = v0 c
          ∧ r.2.mem ((c.tc : Thread Cert.ReferenceTIdeal.nD Cert.ReferenceTIdeal.τ).loc Cert.ReferenceTIdeal.main_arg0) = m' ((c.tc : Thread Cert.ReferenceTIdeal.nD Cert.ReferenceTIdeal.τ).loc Cert.ReferenceTIdeal.main_arg0)
          ∧ r.2.mem ((c.tc : Thread Cert.ReferenceTIdeal.nD Cert.ReferenceTIdeal.τ).loc Cert.ReferenceTIdeal.main_arg1) = m' ((c.tc : Thread Cert.ReferenceTIdeal.nD Cert.ReferenceTIdeal.τ).loc Cert.ReferenceTIdeal.main_arg1))

def preserves_KernelK_KernelKIdeal : Prop :=
  True

def algebraic_KernelKIdeal_ReferenceKIdeal [hKernelKIdeal : Cert.KernelKIdeal.Facts] [hReferenceKIdeal : Cert.ReferenceKIdeal.Facts] : Prop :=
  ∀ (m : (ℓ : Loc Cert.KernelKIdeal.nD Cert.KernelKIdeal.τ Cert.KernelKIdeal.sig) → Buf (Elt Ideal) ℓ) (g : Dev Cert.KernelKIdeal.nD → PrngReg)
    (m' : (ℓ : Loc Cert.ReferenceKIdeal.nD Cert.ReferenceKIdeal.τ Cert.ReferenceKIdeal.sig) → Buf (Elt Ideal) ℓ) (g' : Dev Cert.ReferenceKIdeal.nD → PrngReg), Pre_KernelKIdeal m →
    (∀ c : Dev Cert.KernelKIdeal.nD,
      m' ((c.tc : Thread Cert.ReferenceKIdeal.nD Cert.ReferenceKIdeal.τ).loc Cert.ReferenceKIdeal.main_arg0) = m ((c.tc : Thread Cert.KernelKIdeal.nD Cert.KernelKIdeal.τ).loc Cert.KernelKIdeal.main_arg0)
      ∧ m' ((c.tc : Thread Cert.ReferenceKIdeal.nD Cert.ReferenceKIdeal.τ).loc Cert.ReferenceKIdeal.main_arg1) = m ((c.tc : Thread Cert.KernelKIdeal.nD Cert.KernelKIdeal.τ).loc Cert.KernelKIdeal.main_arg1)) →
    ∃ (v0 : (c : Dev Cert.KernelKIdeal.nD) → Buf (Elt Ideal) ((c.tc : Thread Cert.KernelKIdeal.nD Cert.KernelKIdeal.τ).loc Cert.KernelKIdeal.main_v4)),
      θ_run (Cert.KernelKIdeal.defs (F := Ideal)) (onTc (τ := Cert.KernelKIdeal.τ) (Cert.KernelKIdeal.main (F := Ideal))) ⟨m, fun _ => 0, g⟩ (fun r => ∀ c : Dev Cert.KernelKIdeal.nD,
          r.2.mem ((c.tc : Thread Cert.KernelKIdeal.nD Cert.KernelKIdeal.τ).loc Cert.KernelKIdeal.main_v4) = v0 c
          ∧ r.2.mem ((c.tc : Thread Cert.KernelKIdeal.nD Cert.KernelKIdeal.τ).loc Cert.KernelKIdeal.main_arg0) = m ((c.tc : Thread Cert.KernelKIdeal.nD Cert.KernelKIdeal.τ).loc Cert.KernelKIdeal.main_arg0)
          ∧ r.2.mem ((c.tc : Thread Cert.KernelKIdeal.nD Cert.KernelKIdeal.τ).loc Cert.KernelKIdeal.main_arg1) = m ((c.tc : Thread Cert.KernelKIdeal.nD Cert.KernelKIdeal.τ).loc Cert.KernelKIdeal.main_arg1))
      ∧ θ_run (Cert.ReferenceKIdeal.defs (F := Ideal)) (onTc (τ := Cert.ReferenceKIdeal.τ) (Cert.ReferenceKIdeal.main (F := Ideal))) ⟨m', fun _ => 0, g'⟩ (fun r => ∀ c : Dev Cert.ReferenceKIdeal.nD,
          r.2.mem ((c.tc : Thread Cert.ReferenceKIdeal.nD Cert.ReferenceKIdeal.τ).loc Cert.ReferenceKIdeal.main_v6) = v0 c
          ∧ r.2.mem ((c.tc : Thread Cert.ReferenceKIdeal.nD Cert.ReferenceKIdeal.τ).loc Cert.ReferenceKIdeal.main_arg0) = m' ((c.tc : Thread Cert.ReferenceKIdeal.nD Cert.ReferenceKIdeal.τ).loc Cert.ReferenceKIdeal.main_arg0)
          ∧ r.2.mem ((c.tc : Thread Cert.ReferenceKIdeal.nD Cert.ReferenceKIdeal.τ).loc Cert.ReferenceKIdeal.main_arg1) = m' ((c.tc : Thread Cert.ReferenceKIdeal.nD Cert.ReferenceKIdeal.τ).loc Cert.ReferenceKIdeal.main_arg1))

def preserves_KernelG_KernelGIdeal : Prop :=
  True

def algebraic_KernelGIdeal_ReferenceGIdeal [hKernelGIdeal : Cert.KernelGIdeal.Facts] [hReferenceGIdeal : Cert.ReferenceGIdeal.Facts] : Prop :=
  ∀ (m : (ℓ : Loc Cert.KernelGIdeal.nD Cert.KernelGIdeal.τ Cert.KernelGIdeal.sig) → Buf (Elt Ideal) ℓ) (g : Dev Cert.KernelGIdeal.nD → PrngReg)
    (m' : (ℓ : Loc Cert.ReferenceGIdeal.nD Cert.ReferenceGIdeal.τ Cert.ReferenceGIdeal.sig) → Buf (Elt Ideal) ℓ) (g' : Dev Cert.ReferenceGIdeal.nD → PrngReg), Pre_KernelGIdeal m →
    (∀ c : Dev Cert.KernelGIdeal.nD,
      m' ((c.tc : Thread Cert.ReferenceGIdeal.nD Cert.ReferenceGIdeal.τ).loc Cert.ReferenceGIdeal.main_arg0) = m ((c.tc : Thread Cert.KernelGIdeal.nD Cert.KernelGIdeal.τ).loc Cert.KernelGIdeal.main_arg0)
      ∧ m' ((c.tc : Thread Cert.ReferenceGIdeal.nD Cert.ReferenceGIdeal.τ).loc Cert.ReferenceGIdeal.main_arg1) = m ((c.tc : Thread Cert.KernelGIdeal.nD Cert.KernelGIdeal.τ).loc Cert.KernelGIdeal.main_arg1)) →
    ∃ (v0 : (c : Dev Cert.KernelGIdeal.nD) → Buf (Elt Ideal) ((c.tc : Thread Cert.KernelGIdeal.nD Cert.KernelGIdeal.τ).loc Cert.KernelGIdeal.main_v4)),
      θ_run (Cert.KernelGIdeal.defs (F := Ideal)) (onTc (τ := Cert.KernelGIdeal.τ) (Cert.KernelGIdeal.main (F := Ideal))) ⟨m, fun _ => 0, g⟩ (fun r => ∀ c : Dev Cert.KernelGIdeal.nD,
          r.2.mem ((c.tc : Thread Cert.KernelGIdeal.nD Cert.KernelGIdeal.τ).loc Cert.KernelGIdeal.main_v4) = v0 c
          ∧ r.2.mem ((c.tc : Thread Cert.KernelGIdeal.nD Cert.KernelGIdeal.τ).loc Cert.KernelGIdeal.main_arg0) = m ((c.tc : Thread Cert.KernelGIdeal.nD Cert.KernelGIdeal.τ).loc Cert.KernelGIdeal.main_arg0)
          ∧ r.2.mem ((c.tc : Thread Cert.KernelGIdeal.nD Cert.KernelGIdeal.τ).loc Cert.KernelGIdeal.main_arg1) = m ((c.tc : Thread Cert.KernelGIdeal.nD Cert.KernelGIdeal.τ).loc Cert.KernelGIdeal.main_arg1))
      ∧ θ_run (Cert.ReferenceGIdeal.defs (F := Ideal)) (onTc (τ := Cert.ReferenceGIdeal.τ) (Cert.ReferenceGIdeal.main (F := Ideal))) ⟨m', fun _ => 0, g'⟩ (fun r => ∀ c : Dev Cert.ReferenceGIdeal.nD,
          r.2.mem ((c.tc : Thread Cert.ReferenceGIdeal.nD Cert.ReferenceGIdeal.τ).loc Cert.ReferenceGIdeal.main_v5) = v0 c
          ∧ r.2.mem ((c.tc : Thread Cert.ReferenceGIdeal.nD Cert.ReferenceGIdeal.τ).loc Cert.ReferenceGIdeal.main_arg0) = m' ((c.tc : Thread Cert.ReferenceGIdeal.nD Cert.ReferenceGIdeal.τ).loc Cert.ReferenceGIdeal.main_arg0)
          ∧ r.2.mem ((c.tc : Thread Cert.ReferenceGIdeal.nD Cert.ReferenceGIdeal.τ).loc Cert.ReferenceGIdeal.main_arg1) = m' ((c.tc : Thread Cert.ReferenceGIdeal.nD Cert.ReferenceGIdeal.τ).loc Cert.ReferenceGIdeal.main_arg1))

def preserves_KernelO_KernelOIdeal : Prop :=
  True

def algebraic_KernelOIdeal_ReferenceOIdeal [hKernelOIdeal : Cert.KernelOIdeal.Facts] [hReferenceOIdeal : Cert.ReferenceOIdeal.Facts] : Prop :=
  ∀ (m : (ℓ : Loc Cert.KernelOIdeal.nD Cert.KernelOIdeal.τ Cert.KernelOIdeal.sig) → Buf (Elt Ideal) ℓ) (g : Dev Cert.KernelOIdeal.nD → PrngReg)
    (m' : (ℓ : Loc Cert.ReferenceOIdeal.nD Cert.ReferenceOIdeal.τ Cert.ReferenceOIdeal.sig) → Buf (Elt Ideal) ℓ) (g' : Dev Cert.ReferenceOIdeal.nD → PrngReg), Pre_KernelOIdeal m →
    (∀ c : Dev Cert.KernelOIdeal.nD,
      m' ((c.tc : Thread Cert.ReferenceOIdeal.nD Cert.ReferenceOIdeal.τ).loc Cert.ReferenceOIdeal.main_arg0) = m ((c.tc : Thread Cert.KernelOIdeal.nD Cert.KernelOIdeal.τ).loc Cert.KernelOIdeal.main_arg0)
      ∧ m' ((c.tc : Thread Cert.ReferenceOIdeal.nD Cert.ReferenceOIdeal.τ).loc Cert.ReferenceOIdeal.main_arg1) = m ((c.tc : Thread Cert.KernelOIdeal.nD Cert.KernelOIdeal.τ).loc Cert.KernelOIdeal.main_arg1)
      ∧ m' ((c.tc : Thread Cert.ReferenceOIdeal.nD Cert.ReferenceOIdeal.τ).loc Cert.ReferenceOIdeal.main_arg2) = m ((c.tc : Thread Cert.KernelOIdeal.nD Cert.KernelOIdeal.τ).loc Cert.KernelOIdeal.main_arg2)
      ∧ m' ((c.tc : Thread Cert.ReferenceOIdeal.nD Cert.ReferenceOIdeal.τ).loc Cert.ReferenceOIdeal.main_arg3) = m ((c.tc : Thread Cert.KernelOIdeal.nD Cert.KernelOIdeal.τ).loc Cert.KernelOIdeal.main_arg3)
      ∧ m' ((c.tc : Thread Cert.ReferenceOIdeal.nD Cert.ReferenceOIdeal.τ).loc Cert.ReferenceOIdeal.main_arg4) = m ((c.tc : Thread Cert.KernelOIdeal.nD Cert.KernelOIdeal.τ).loc Cert.KernelOIdeal.main_arg4)) →
    ∃ (v0 : (c : Dev Cert.KernelOIdeal.nD) → Buf (Elt Ideal) ((c.tc : Thread Cert.KernelOIdeal.nD Cert.KernelOIdeal.τ).loc Cert.KernelOIdeal.main_v6)),
      θ_run (Cert.KernelOIdeal.defs (F := Ideal)) (onTc (τ := Cert.KernelOIdeal.τ) (Cert.KernelOIdeal.main (F := Ideal))) ⟨m, fun _ => 0, g⟩ (fun r => ∀ c : Dev Cert.KernelOIdeal.nD,
          r.2.mem ((c.tc : Thread Cert.KernelOIdeal.nD Cert.KernelOIdeal.τ).loc Cert.KernelOIdeal.main_v6) = v0 c
          ∧ r.2.mem ((c.tc : Thread Cert.KernelOIdeal.nD Cert.KernelOIdeal.τ).loc Cert.KernelOIdeal.main_arg0) = m ((c.tc : Thread Cert.KernelOIdeal.nD Cert.KernelOIdeal.τ).loc Cert.KernelOIdeal.main_arg0)
          ∧ r.2.mem ((c.tc : Thread Cert.KernelOIdeal.nD Cert.KernelOIdeal.τ).loc Cert.KernelOIdeal.main_arg1) = m ((c.tc : Thread Cert.KernelOIdeal.nD Cert.KernelOIdeal.τ).loc Cert.KernelOIdeal.main_arg1)
          ∧ r.2.mem ((c.tc : Thread Cert.KernelOIdeal.nD Cert.KernelOIdeal.τ).loc Cert.KernelOIdeal.main_arg2) = m ((c.tc : Thread Cert.KernelOIdeal.nD Cert.KernelOIdeal.τ).loc Cert.KernelOIdeal.main_arg2)
          ∧ r.2.mem ((c.tc : Thread Cert.KernelOIdeal.nD Cert.KernelOIdeal.τ).loc Cert.KernelOIdeal.main_arg3) = m ((c.tc : Thread Cert.KernelOIdeal.nD Cert.KernelOIdeal.τ).loc Cert.KernelOIdeal.main_arg3)
          ∧ r.2.mem ((c.tc : Thread Cert.KernelOIdeal.nD Cert.KernelOIdeal.τ).loc Cert.KernelOIdeal.main_arg4) = m ((c.tc : Thread Cert.KernelOIdeal.nD Cert.KernelOIdeal.τ).loc Cert.KernelOIdeal.main_arg4))
      ∧ θ_run (Cert.ReferenceOIdeal.defs (F := Ideal)) (onTc (τ := Cert.ReferenceOIdeal.τ) (Cert.ReferenceOIdeal.main (F := Ideal))) ⟨m', fun _ => 0, g'⟩ (fun r => ∀ c : Dev Cert.ReferenceOIdeal.nD,
          r.2.mem ((c.tc : Thread Cert.ReferenceOIdeal.nD Cert.ReferenceOIdeal.τ).loc Cert.ReferenceOIdeal.main_v17) = v0 c
          ∧ r.2.mem ((c.tc : Thread Cert.ReferenceOIdeal.nD Cert.ReferenceOIdeal.τ).loc Cert.ReferenceOIdeal.main_arg0) = m' ((c.tc : Thread Cert.ReferenceOIdeal.nD Cert.ReferenceOIdeal.τ).loc Cert.ReferenceOIdeal.main_arg0)
          ∧ r.2.mem ((c.tc : Thread Cert.ReferenceOIdeal.nD Cert.ReferenceOIdeal.τ).loc Cert.ReferenceOIdeal.main_arg1) = m' ((c.tc : Thread Cert.ReferenceOIdeal.nD Cert.ReferenceOIdeal.τ).loc Cert.ReferenceOIdeal.main_arg1)
          ∧ r.2.mem ((c.tc : Thread Cert.ReferenceOIdeal.nD Cert.ReferenceOIdeal.τ).loc Cert.ReferenceOIdeal.main_arg2) = m' ((c.tc : Thread Cert.ReferenceOIdeal.nD Cert.ReferenceOIdeal.τ).loc Cert.ReferenceOIdeal.main_arg2)
          ∧ r.2.mem ((c.tc : Thread Cert.ReferenceOIdeal.nD Cert.ReferenceOIdeal.τ).loc Cert.ReferenceOIdeal.main_arg3) = m' ((c.tc : Thread Cert.ReferenceOIdeal.nD Cert.ReferenceOIdeal.τ).loc Cert.ReferenceOIdeal.main_arg3)
          ∧ r.2.mem ((c.tc : Thread Cert.ReferenceOIdeal.nD Cert.ReferenceOIdeal.τ).loc Cert.ReferenceOIdeal.main_arg4) = m' ((c.tc : Thread Cert.ReferenceOIdeal.nD Cert.ReferenceOIdeal.τ).loc Cert.ReferenceOIdeal.main_arg4))

def preserves_KernelN_KernelNIdeal : Prop :=
  True

def algebraic_KernelNIdeal_ReferenceNIdeal [hKernelNIdeal : Cert.KernelNIdeal.Facts] [hReferenceNIdeal : Cert.ReferenceNIdeal.Facts] : Prop :=
  ∀ (m : (ℓ : Loc Cert.KernelNIdeal.nD Cert.KernelNIdeal.τ Cert.KernelNIdeal.sig) → Buf (Elt Ideal) ℓ) (g : Dev Cert.KernelNIdeal.nD → PrngReg)
    (m' : (ℓ : Loc Cert.ReferenceNIdeal.nD Cert.ReferenceNIdeal.τ Cert.ReferenceNIdeal.sig) → Buf (Elt Ideal) ℓ) (g' : Dev Cert.ReferenceNIdeal.nD → PrngReg), Pre_KernelNIdeal m →
    (∀ c : Dev Cert.KernelNIdeal.nD,
      m' ((c.tc : Thread Cert.ReferenceNIdeal.nD Cert.ReferenceNIdeal.τ).loc Cert.ReferenceNIdeal.main_arg0) = m ((c.tc : Thread Cert.KernelNIdeal.nD Cert.KernelNIdeal.τ).loc Cert.KernelNIdeal.main_arg0)
      ∧ m' ((c.tc : Thread Cert.ReferenceNIdeal.nD Cert.ReferenceNIdeal.τ).loc Cert.ReferenceNIdeal.main_arg1) = m ((c.tc : Thread Cert.KernelNIdeal.nD Cert.KernelNIdeal.τ).loc Cert.KernelNIdeal.main_arg1)
      ∧ m' ((c.tc : Thread Cert.ReferenceNIdeal.nD Cert.ReferenceNIdeal.τ).loc Cert.ReferenceNIdeal.main_arg2) = m ((c.tc : Thread Cert.KernelNIdeal.nD Cert.KernelNIdeal.τ).loc Cert.KernelNIdeal.main_arg2)) →
    ∃ (v0 : (c : Dev Cert.KernelNIdeal.nD) → Buf (Elt Ideal) ((c.tc : Thread Cert.KernelNIdeal.nD Cert.KernelNIdeal.τ).loc Cert.KernelNIdeal.main_v9_0)) (v1 : (c : Dev Cert.KernelNIdeal.nD) → Buf (Elt Ideal) ((c.tc : Thread Cert.KernelNIdeal.nD Cert.KernelNIdeal.τ).loc Cert.KernelNIdeal.main_v9_1)) (v2 : (c : Dev Cert.KernelNIdeal.nD) → Buf (Elt Ideal) ((c.tc : Thread Cert.KernelNIdeal.nD Cert.KernelNIdeal.τ).loc Cert.KernelNIdeal.main_v9_2)),
      θ_run (Cert.KernelNIdeal.defs (F := Ideal)) (onTc (τ := Cert.KernelNIdeal.τ) (Cert.KernelNIdeal.main (F := Ideal))) ⟨m, fun _ => 0, g⟩ (fun r => ∀ c : Dev Cert.KernelNIdeal.nD,
          r.2.mem ((c.tc : Thread Cert.KernelNIdeal.nD Cert.KernelNIdeal.τ).loc Cert.KernelNIdeal.main_v9_0) = v0 c
          ∧ r.2.mem ((c.tc : Thread Cert.KernelNIdeal.nD Cert.KernelNIdeal.τ).loc Cert.KernelNIdeal.main_v9_1) = v1 c
          ∧ r.2.mem ((c.tc : Thread Cert.KernelNIdeal.nD Cert.KernelNIdeal.τ).loc Cert.KernelNIdeal.main_v9_2) = v2 c
          ∧ r.2.mem ((c.tc : Thread Cert.KernelNIdeal.nD Cert.KernelNIdeal.τ).loc Cert.KernelNIdeal.main_arg0) = m ((c.tc : Thread Cert.KernelNIdeal.nD Cert.KernelNIdeal.τ).loc Cert.KernelNIdeal.main_arg0)
          ∧ r.2.mem ((c.tc : Thread Cert.KernelNIdeal.nD Cert.KernelNIdeal.τ).loc Cert.KernelNIdeal.main_arg1) = m ((c.tc : Thread Cert.KernelNIdeal.nD Cert.KernelNIdeal.τ).loc Cert.KernelNIdeal.main_arg1)
          ∧ r.2.mem ((c.tc : Thread Cert.KernelNIdeal.nD Cert.KernelNIdeal.τ).loc Cert.KernelNIdeal.main_arg2) = m ((c.tc : Thread Cert.KernelNIdeal.nD Cert.KernelNIdeal.τ).loc Cert.KernelNIdeal.main_arg2))
      ∧ θ_run (Cert.ReferenceNIdeal.defs (F := Ideal)) (onTc (τ := Cert.ReferenceNIdeal.τ) (Cert.ReferenceNIdeal.main (F := Ideal))) ⟨m', fun _ => 0, g'⟩ (fun r => ∀ c : Dev Cert.ReferenceNIdeal.nD,
          r.2.mem ((c.tc : Thread Cert.ReferenceNIdeal.nD Cert.ReferenceNIdeal.τ).loc Cert.ReferenceNIdeal.main_v20) = v0 c
          ∧ r.2.mem ((c.tc : Thread Cert.ReferenceNIdeal.nD Cert.ReferenceNIdeal.τ).loc Cert.ReferenceNIdeal.main_v18) = v1 c
          ∧ r.2.mem ((c.tc : Thread Cert.ReferenceNIdeal.nD Cert.ReferenceNIdeal.τ).loc Cert.ReferenceNIdeal.main_v21) = v2 c
          ∧ r.2.mem ((c.tc : Thread Cert.ReferenceNIdeal.nD Cert.ReferenceNIdeal.τ).loc Cert.ReferenceNIdeal.main_arg0) = m' ((c.tc : Thread Cert.ReferenceNIdeal.nD Cert.ReferenceNIdeal.τ).loc Cert.ReferenceNIdeal.main_arg0)
          ∧ r.2.mem ((c.tc : Thread Cert.ReferenceNIdeal.nD Cert.ReferenceNIdeal.τ).loc Cert.ReferenceNIdeal.main_arg1) = m' ((c.tc : Thread Cert.ReferenceNIdeal.nD Cert.ReferenceNIdeal.τ).loc Cert.ReferenceNIdeal.main_arg1)
          ∧ r.2.mem ((c.tc : Thread Cert.ReferenceNIdeal.nD Cert.ReferenceNIdeal.τ).loc Cert.ReferenceNIdeal.main_arg2) = m' ((c.tc : Thread Cert.ReferenceNIdeal.nD Cert.ReferenceNIdeal.τ).loc Cert.ReferenceNIdeal.main_arg2))

def Claim : Prop :=
  ∃ (hKernel : Cert.Kernel.Facts) (hKernelIdeal : Cert.KernelIdeal.Facts) (hReferenceIdeal : Cert.ReferenceIdeal.Facts) (hKernelT : Cert.KernelT.Facts) (hKernelTIdeal : Cert.KernelTIdeal.Facts) (hReferenceTIdeal : Cert.ReferenceTIdeal.Facts) (hKernelK : Cert.KernelK.Facts) (hKernelKIdeal : Cert.KernelKIdeal.Facts) (hReferenceKIdeal : Cert.ReferenceKIdeal.Facts) (hKernelG : Cert.KernelG.Facts) (hKernelGIdeal : Cert.KernelGIdeal.Facts) (hReferenceGIdeal : Cert.ReferenceGIdeal.Facts) (hKernelO : Cert.KernelO.Facts) (hKernelOIdeal : Cert.KernelOIdeal.Facts) (hReferenceOIdeal : Cert.ReferenceOIdeal.Facts) (hKernelN : Cert.KernelN.Facts) (hKernelNIdeal : Cert.KernelNIdeal.Facts) (hReferenceNIdeal : Cert.ReferenceNIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelT (hKernelT := hKernelT)
    ∧ quiescent_KernelTIdeal (hKernelTIdeal := hKernelTIdeal)
    ∧ quiescent_ReferenceTIdeal (hReferenceTIdeal := hReferenceTIdeal)
    ∧ quiescent_KernelK (hKernelK := hKernelK)
    ∧ quiescent_KernelKIdeal (hKernelKIdeal := hKernelKIdeal)
    ∧ quiescent_ReferenceKIdeal (hReferenceKIdeal := hReferenceKIdeal)
    ∧ quiescent_KernelG (hKernelG := hKernelG)
    ∧ quiescent_KernelGIdeal (hKernelGIdeal := hKernelGIdeal)
    ∧ quiescent_ReferenceGIdeal (hReferenceGIdeal := hReferenceGIdeal)
    ∧ quiescent_KernelO (hKernelO := hKernelO)
    ∧ quiescent_KernelOIdeal (hKernelOIdeal := hKernelOIdeal)
    ∧ quiescent_ReferenceOIdeal (hReferenceOIdeal := hReferenceOIdeal)
    ∧ quiescent_KernelN (hKernelN := hKernelN)
    ∧ quiescent_KernelNIdeal (hKernelNIdeal := hKernelNIdeal)
    ∧ quiescent_ReferenceNIdeal (hReferenceNIdeal := hReferenceNIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelT_KernelTIdeal
    ∧ algebraic_KernelTIdeal_ReferenceTIdeal (hKernelTIdeal := hKernelTIdeal) (hReferenceTIdeal := hReferenceTIdeal)
    ∧ preserves_KernelK_KernelKIdeal
    ∧ algebraic_KernelKIdeal_ReferenceKIdeal (hKernelKIdeal := hKernelKIdeal) (hReferenceKIdeal := hReferenceKIdeal)
    ∧ preserves_KernelG_KernelGIdeal
    ∧ algebraic_KernelGIdeal_ReferenceGIdeal (hKernelGIdeal := hKernelGIdeal) (hReferenceGIdeal := hReferenceGIdeal)
    ∧ preserves_KernelO_KernelOIdeal
    ∧ algebraic_KernelOIdeal_ReferenceOIdeal (hKernelOIdeal := hKernelOIdeal) (hReferenceOIdeal := hReferenceOIdeal)
    ∧ preserves_KernelN_KernelNIdeal
    ∧ algebraic_KernelNIdeal_ReferenceNIdeal (hKernelNIdeal := hKernelNIdeal) (hReferenceNIdeal := hReferenceNIdeal)
-- ==== Pre_finite.lean ====
abbrev S2x4096x9296 : Shape := ⟨3, ![2, 4096, 9296]⟩
abbrev S1x8x257 : Shape := ⟨3, ![1, 8, 257]⟩
abbrev S2x4096x2048 : Shape := ⟨3, ![2, 4096, 2048]⟩
abbrev S_ : Shape := ⟨0, ![]⟩

class Facts : Prop where
  slices_S2x4096x9296_S2x4096x2048_0_0_0 : S2x4096x9296.Slices ![0, 0, 0] S2x4096x2048
  bcast_S_S2x4096x2048 : S_.BroadcastsInDim S2x4096x2048 (![] : Fin 0 → Fin S2x4096x2048.rank)
  reducesTo_S2x4096x2048_S_d0_1_2 : S2x4096x2048.ReducesTo [0, 1, 2] S_
  h_S_ : 0 < S_.numel
  bcast_S_S1x8x257 : S_.BroadcastsInDim S1x8x257 (![] : Fin 0 → Fin S1x8x257.rank)
  reducesTo_S1x8x257_S_d0_1_2 : S1x8x257.ReducesTo [0, 1, 2] S_

variable [Facts]

def fn {F : FTy → Type} [FloatOps F] (main_arg0 : FVec F S2x4096x9296 .f32) (main_arg1 : FVec F S1x8x257 .f32) : IVec S_ 1 :=
  let main_v0 : FVec F S2x4096x2048 .f32 := (extractStridedSlice S2x4096x2048 ![0, 0, 0] · slices_S2x4096x9296_S2x4096x2048_0_0_0) main_arg0
  let main_v1 : FVec F S2x4096x2048 .f32 := Host.absf main_v0
  let main_cst : FVec F S_ .f32 := constant S_ .f32 0x7F800000#32
  let main_v2 : FVec F S2x4096x2048 .f32 := broadcastInDim S2x4096x2048 ![] bcast_S_S2x4096x2048 main_cst
  let main_v3 : IVec S2x4096x2048 1 := cmpf .olt main_v1 main_v2
  let main_c : IVec S_ 1 := constantI S_ 1 1#1
  let main_v4 : IVec S_ 1 := (fun x v => Host.reduce IntOp.andi x v reducesTo_S2x4096x2048_S_d0_1_2 h_S_) main_v3 main_c
  let main_v5 : FVec F S1x8x257 .f32 := Host.absf main_arg1
  let main_cst_0 : FVec F S_ .f32 := constant S_ .f32 0x7F800000#32
  let main_v6 : FVec F S1x8x257 .f32 := broadcastInDim S1x8x257 ![] bcast_S_S1x8x257 main_cst_0
  let main_v7 : IVec S1x8x257 1 := cmpf .olt main_v5 main_v6
  let main_c_1 : IVec S_ 1 := constantI S_ 1 1#1
  let main_v8 : IVec S_ 1 := (fun x v => Host.reduce IntOp.andi x v reducesTo_S1x8x257_S_d0_1_2 h_S_) main_v7 main_c_1
  let main_v9 : IVec S_ 1 := andi main_v4 main_v8
  main_v9
-- ==== Kernel.lean ====
abbrev S2x4096x9296 : Shape := ⟨3, ![2, 4096, 9296]⟩
abbrev S1x8x257 : Shape := ⟨3, ![1, 8, 257]⟩
abbrev S8192x9296 : Shape := ⟨2, ![8192, 9296]⟩
abbrev S8192x1024 : Shape := ⟨2, ![8192, 1024]⟩
abbrev S32x256x1024 : Shape := ⟨3, ![32, 256, 1024]⟩
abbrev S32x1024x256 : Shape := ⟨3, ![32, 1024, 256]⟩
abbrev S1x32x1024x256 : Shape := ⟨4, ![1, 32, 1024, 256]⟩
abbrev S5x32x1024x256 : Shape := ⟨4, ![5, 32, 1024, 256]⟩
abbrev S8192x2048 : Shape := ⟨2, ![8192, 2048]⟩
abbrev S8x257 : Shape := ⟨2, ![8, 257]⟩
abbrev S8x1 : Shape := ⟨2, ![8, 1]⟩
abbrev S8x384 : Shape := ⟨2, ![8, 384]⟩
abbrev S8x64 : Shape := ⟨2, ![8, 64]⟩
abbrev S8x63 : Shape := ⟨2, ![8, 63]⟩
abbrev S8x768 : Shape := ⟨2, ![8, 768]⟩
abbrev S1x1x1024x256 : Shape := ⟨4, ![1, 1, 1024, 256]⟩
abbrev S256x1024 : Shape := ⟨2, ![256, 1024]⟩
abbrev S8x768x256 : Shape := ⟨3, ![8, 768, 256]⟩
abbrev S256x768 : Shape := ⟨2, ![256, 768]⟩
abbrev S1x768 : Shape := ⟨2, ![1, 768]⟩
abbrev S256x256 : Shape := ⟨2, ![256, 256]⟩
abbrev S768x256 : Shape := ⟨2, ![768, 256]⟩
abbrev S1x768x256 : Shape := ⟨3, ![1, 768, 256]⟩
abbrev S1x1x128x256 : Shape := ⟨4, ![1, 1, 128, 256]⟩
abbrev S128x256 : Shape := ⟨2, ![128, 256]⟩
abbrev S256x128 : Shape := ⟨2, ![256, 128]⟩
abbrev S1x256x256 : Shape := ⟨3, ![1, 256, 256]⟩
abbrev S8x256 : Shape := ⟨2, ![8, 256]⟩
abbrev S1x16x256 : Shape := ⟨3, ![1, 16, 256]⟩
abbrev S16x256 : Shape := ⟨2, ![16, 256]⟩
abbrev S2x8x256 : Shape := ⟨3, ![2, 8, 256]⟩
abbrev S256 : Shape := ⟨1, ![256]⟩
abbrev S1x256 : Shape := ⟨2, ![1, 256]⟩

abbrev nBuf : Space → Nat
  | .hbm => 46
  | .vmem => 22
  | .smem => 0
  | _ => 0

abbrev bufTy : (tb : Table) → Fin (tcTables nBuf tb) → BufTy
  | .hbm, ⟨0, _⟩ => ⟨S2x4096x9296, .f32⟩
  | .hbm, ⟨1, _⟩ => ⟨S1x8x257, .f32⟩
  | .hbm, ⟨2, _⟩ => ⟨S8192x9296, .f32⟩
  | .hbm, ⟨3, _⟩ => ⟨S8192x1024, .f32⟩
  | .hbm, ⟨4, _⟩ => ⟨S8192x1024, .bf16⟩
  | .hbm, ⟨5, _⟩ => ⟨S32x256x1024, .bf16⟩
  | .hbm, ⟨6, _⟩ => ⟨S32x1024x256, .bf16⟩
  | .hbm, ⟨7, _⟩ => ⟨S8192x1024, .f32⟩
  | .hbm, ⟨8, _⟩ => ⟨S8192x1024, .bf16⟩
  | .hbm, ⟨9, _⟩ => ⟨S32x256x1024, .bf16⟩
  | .hbm, ⟨10, _⟩ => ⟨S32x1024x256, .bf16⟩
  | .hbm, ⟨11, _⟩ => ⟨S8192x1024, .f32⟩
  | .hbm, ⟨12, _⟩ => ⟨S8192x1024, .bf16⟩
  | .hbm, ⟨13, _⟩ => ⟨S32x256x1024, .bf16⟩
  | .hbm, ⟨14, _⟩ => ⟨S32x1024x256, .bf16⟩
  | .hbm, ⟨15, _⟩ => ⟨S8192x1024, .f32⟩
  | .hbm, ⟨16, _⟩ => ⟨S8192x1024, .bf16⟩
  | .hbm, ⟨17, _⟩ => ⟨S32x256x1024, .bf16⟩
  | .hbm, ⟨18, _⟩ => ⟨S32x1024x256, .bf16⟩
  | .hbm, ⟨19, _⟩ => ⟨S8192x1024, .f32⟩
  | .hbm, ⟨20, _⟩ => ⟨S8192x1024, .bf16⟩
  | .hbm, ⟨21, _⟩ => ⟨S32x256x1024, .bf16⟩
  | .hbm, ⟨22, _⟩ => ⟨S32x1024x256, .bf16⟩
  | .hbm, ⟨23, _⟩ => ⟨S1x32x1024x256, .bf16⟩
  | .hbm, ⟨24, _⟩ => ⟨S1x32x1024x256, .bf16⟩
  | .hbm, ⟨25, _⟩ => ⟨S1x32x1024x256, .bf16⟩
  | .hbm, ⟨26, _⟩ => ⟨S1x32x1024x256, .bf16⟩
  | .hbm, ⟨27, _⟩ => ⟨S1x32x1024x256, .bf16⟩
  | .hbm, ⟨28, _⟩ => ⟨S5x32x1024x256, .bf16⟩
  | .hbm, ⟨29, _⟩ => ⟨S8192x1024, .f32⟩
  | .hbm, ⟨30, _⟩ => ⟨S8192x1024, .f32⟩
  | .hbm, ⟨31, _⟩ => ⟨S8192x2048, .f32⟩
  | .hbm, ⟨32, _⟩ => ⟨S8192x2048, .bf16⟩
  | .hbm, ⟨33, _⟩ => ⟨S8192x1024, .f32⟩
  | .hbm, ⟨34, _⟩ => ⟨S8192x1024, .f32⟩
  | .hbm, ⟨35, _⟩ => ⟨S8192x2048, .f32⟩
  | .hbm, ⟨36, _⟩ => ⟨S8x257, .f32⟩
  | .hbm, ⟨37, _⟩ => ⟨S8x1, .f32⟩
  | .hbm, ⟨38, _⟩ => ⟨S8x384, .f32⟩
  | .hbm, ⟨39, _⟩ => ⟨S8x257, .f32⟩
  | .hbm, ⟨40, _⟩ => ⟨S8x1, .f32⟩
  | .hbm, ⟨41, _⟩ => ⟨S8x64, .f32⟩
  | .hbm, ⟨42, _⟩ => ⟨S8x1, .f32⟩
  | .hbm, ⟨43, _⟩ => ⟨S8x63, .f32⟩
  | .hbm, ⟨44, _⟩ => ⟨S8x768, .f32⟩
  | .hbm, ⟨45, _⟩ => ⟨S8192x1024, .bf16⟩
  | .local _ .vmem, ⟨0, _⟩ => ⟨S1x1x1024x256, .bf16⟩
  | .local _ .vmem, ⟨1, _⟩ => ⟨S1x1x1024x256, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S1x1x1024x256, .bf16⟩
  | .local _ .vmem, ⟨9, _⟩ => ⟨S1x1x1024x256, .bf16⟩
  | .local _ .vmem, ⟨10, _⟩ => ⟨S1x1x1024x256, .bf16⟩
  | .local _ .vmem, ⟨11, _⟩ => ⟨S1x1x1024x256, .bf16⟩
  | .local _ .vmem, ⟨12, _⟩ => ⟨S1x1x1024x256, .bf16⟩
  | .local _ .vmem, ⟨13, _⟩ => ⟨S1x1x1024x256, .bf16⟩
  | .local _ .vmem, ⟨14, _⟩ => ⟨S256x1024, .f32⟩
  | .local _ .vmem, ⟨15, _⟩ => ⟨S256x1024, .f32⟩
  | .local _ .vmem, ⟨16, _⟩ => ⟨S8x768, .f32⟩
  | .local _ .vmem, ⟨17, _⟩ => ⟨S256x1024, .bf16⟩
  | .local _ .vmem, ⟨18, _⟩ => ⟨S256x1024, .bf16⟩
  | .local _ .vmem, ⟨19, _⟩ => ⟨S8x768x256, .f32⟩
  | .local _ .vmem, ⟨20, _⟩ => ⟨S8x768x256, .f32⟩
  | .local _ .vmem, ⟨21, _⟩ => ⟨S8x768x256, .bf16⟩
  | _, _ => ⟨S2x4096x9296, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_v29 : Ref sig .tc := ⟨.hbm, 31, rfl⟩
abbrev main_v30 : Ref sig .tc := ⟨.hbm, 32, rfl⟩
abbrev main_v31 : Ref sig .tc := ⟨.hbm, 33, rfl⟩
abbrev main_v32 : Ref sig .tc := ⟨.hbm, 34, rfl⟩
abbrev main_v33 : Ref sig .tc := ⟨.hbm, 35, rfl⟩
abbrev main_v34 : Ref sig .tc := ⟨.hbm, 36, rfl⟩
abbrev main_v35 : Ref sig .tc := ⟨.hbm, 37, rfl⟩
abbrev main_v36 : Ref sig .tc := ⟨.hbm, 38, rfl⟩
abbrev main_v37 : Ref sig .tc := ⟨.hbm, 39, rfl⟩
abbrev main_v38 : Ref sig .tc := ⟨.hbm, 40, rfl⟩
abbrev main_v39 : Ref sig .tc := ⟨.hbm, 41, rfl⟩
abbrev main_v40 : Ref sig .tc := ⟨.hbm, 42, rfl⟩
abbrev main_v41 : Ref sig .tc := ⟨.hbm, 43, rfl⟩
abbrev main_v42 : Ref sig .tc := ⟨.hbm, 44, rfl⟩
abbrev main_v43 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32 : BitVec 32 := 2#32
  let v10 : BitVec 32 := Scalar.minsi v9 c2_i32
  let v11 : BitVec 32 := Scalar.subi arg0 v10
  let c0_i32_3 : BitVec 32 := 0#32
  let c0_i32_4 : BitVec 32 := 0#32
  ![v11.toNat, c0_i32_3.toNat]

def cc0_transform_2 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c1_i32_3 : BitVec 32 := 1#32
  let v10 : BitVec 32 := Scalar.minsi v9 c1_i32_3
  let v11 : BitVec 32 := Scalar.subi arg0 v10
  let c0_i32_4 : BitVec 32 := 0#32
  let c0_i32_5 : BitVec 32 := 0#32
  ![v11.toNat, c0_i32_4.toNat]

def cc0_transform_3 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let v10 : BitVec 32 := Scalar.minsi v9 c0_i32_3
  let v11 : BitVec 32 := Scalar.subi arg0 v10
  let c0_i32_4 : BitVec 32 := 0#32
  let c0_i32_5 : BitVec 32 := 0#32
  ![v11.toNat, c0_i32_4.toNat]

def cc0_transform_4 (i : grid0.Coords) : Fin 4 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32 : BitVec 32 := 2#32
  let v10 : BitVec 32 := Scalar.minsi v9 c2_i32
  let v11 : BitVec 32 := Scalar.subi arg0 v10
  let c1_i32_3 : BitVec 32 := 1#32
  let c0_i32_4 : BitVec 32 := 0#32
  let c0_i32_5 : BitVec 32 := 0#32
  let c0_i32_6 : BitVec 32 := 0#32
  ![c1_i32_3.toNat, v11.toNat, c0_i32_4.toNat, c0_i32_5.toNat]

def cc0_transform_5 (i : grid0.Coords) : Fin 4 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c1_i32_3 : BitVec 32 := 1#32
  let v10 : BitVec 32 := Scalar.minsi v9 c1_i32_3
  let v11 : BitVec 32 := Scalar.subi arg0 v10
  let c1_i32_4 : BitVec 32 := 1#32
  let c0_i32_5 : BitVec 32 := 0#32
  let c0_i32_6 : BitVec 32 := 0#32
  let c0_i32_7 : BitVec 32 := 0#32
  ![c1_i32_4.toNat, v11.toNat, c0_i32_5.toNat, c0_i32_6.toNat]

def cc0_transform_6 (i : grid0.Coords) : Fin 4 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let v10 : BitVec 32 := Scalar.minsi v9 c0_i32_3
  let v11 : BitVec 32 := Scalar.subi arg0 v10
  let c1_i32_4 : BitVec 32 := 1#32
  let c0_i32_5 : BitVec 32 := 0#32
  let c0_i32_6 : BitVec 32 := 0#32
  let c0_i32_7 : BitVec 32 := 0#32
  ![c1_i32_4.toNat, v11.toNat, c0_i32_5.toNat, c0_i32_6.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x1x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== KernelIdeal.lean ====
variable {F : FTy → Type} [FloatOps F] [Named F]
def κ : String → Option EReal := fun
  | "log2e" => some (((Real.log 2)⁻¹ : ℝ) : EReal)
  | "scale2" => some (((11863283 / 134217728) * (Real.log 2)⁻¹ : ℝ) : EReal)
  | _ => none
-- ==== ReferenceIdeal.lean ====
abbrev S2x4096x9296 : Shape := ⟨3, ![2, 4096, 9296]⟩
abbrev S1x8x257 : Shape := ⟨3, ![1, 8, 257]⟩
abbrev S2x4096x1024 : Shape := ⟨3, ![2, 4096, 1024]⟩
abbrev S2x4096x8x128 : Shape := ⟨4, ![2, 4096, 8, 128]⟩
abbrev S2x64x64x8x128 : Shape := ⟨5, ![2, 64, 64, 8, 128]⟩
abbrev S_ : Shape := ⟨0, ![]⟩
abbrev S2x4608x8x128 : Shape := ⟨4, ![2, 4608, 8, 128]⟩
abbrev S64 : Shape := ⟨1, ![64]⟩
abbrev S64x1 : Shape := ⟨2, ![64, 1]⟩
abbrev S576 : Shape := ⟨1, ![576]⟩
abbrev S1x576 : Shape := ⟨2, ![1, 576]⟩
abbrev S64x576 : Shape := ⟨2, ![64, 576]⟩
abbrev S64x576x1 : Shape := ⟨3, ![64, 576, 1]⟩
abbrev S2x64x576x8x128 : Shape := ⟨5, ![2, 64, 576, 8, 128]⟩
abbrev S4096 : Shape := ⟨1, ![4096]⟩
abbrev S64x64 : Shape := ⟨2, ![64, 64]⟩
abbrev S64x64x1 : Shape := ⟨3, ![64, 64, 1]⟩
abbrev S64x1x576 : Shape := ⟨3, ![64, 1, 576]⟩
abbrev S64x64x576 : Shape := ⟨3, ![64, 64, 576]⟩
abbrev S8x257 : Shape := ⟨2, ![8, 257]⟩
abbrev S64x64x576x1 : Shape := ⟨4, ![64, 64, 576, 1]⟩
abbrev S8x64x64x576 : Shape := ⟨4, ![8, 64, 64, 576]⟩
abbrev S2x8x64x64x576 : Shape := ⟨5, ![2, 8, 64, 64, 576]⟩
abbrev S1x8x64x64x576 : Shape := ⟨5, ![1, 8, 64, 64, 576]⟩
abbrev S1x1x64x1x576 : Shape := ⟨5, ![1, 1, 64, 1, 576]⟩
abbrev S2x8x64x64 : Shape := ⟨4, ![2, 8, 64, 64]⟩
abbrev S2x8x64x64x1 : Shape := ⟨5, ![2, 8, 64, 64, 1]⟩
abbrev S2x64x8x128x64 : Shape := ⟨5, ![2, 64, 8, 128, 64]⟩
abbrev S8192x1024 : Shape := ⟨2, ![8192, 1024]⟩

abbrev nBuf : Space → Nat
  | .hbm => 121
  | .vmem => 0
  | .smem => 0
  | _ => 0

abbrev bufTy : (tb : Table) → Fin (tcTables nBuf tb) → BufTy
  | .hbm, ⟨0, _⟩ => ⟨S2x4096x9296, .f32⟩
  | .hbm, ⟨1, _⟩ => ⟨S1x8x257, .f32⟩
  | .hbm, ⟨2, _⟩ => ⟨S2x4096x1024, .f32⟩
  | .hbm, ⟨3, _⟩ => ⟨S2x4096x8x128, .f32⟩
  | .hbm, ⟨4, _⟩ => ⟨S2x4096x1024, .f32⟩
  | .hbm, ⟨5, _⟩ => ⟨S2x4096x8x128, .f32⟩
  | .hbm, ⟨6, _⟩ => ⟨S2x4096x1024, .f32⟩
  | .hbm, ⟨7, _⟩ => ⟨S2x4096x8x128, .f32⟩
  | .hbm, ⟨8, _⟩ => ⟨S2x4096x1024, .f32⟩
  | .hbm, ⟨9, _⟩ => ⟨S2x64x64x8x128, .f32⟩
  | .hbm, ⟨10, _⟩ => ⟨S_, .i32⟩
  | .hbm, ⟨11, _⟩ => ⟨S_, .f32⟩
  | .hbm, ⟨12, _⟩ => ⟨S2x4608x8x128, .f32⟩
  | .hbm, ⟨13, _⟩ => ⟨S_, .i32⟩
  | .hbm, ⟨14, _⟩ => ⟨S_, .f32⟩
  | .hbm, ⟨15, _⟩ => ⟨S2x4608x8x128, .f32⟩
  | .hbm, ⟨16, _⟩ => ⟨S64, .i32⟩
  | .hbm, ⟨17, _⟩ => ⟨S64x1, .i32⟩
  | .hbm, ⟨18, _⟩ => ⟨S_, .i32⟩
  | .hbm, ⟨19, _⟩ => ⟨S64x1, .i32⟩
  | .hbm, ⟨20, _⟩ => ⟨S64x1, .i32⟩
  | .hbm, ⟨21, _⟩ => ⟨S576, .i32⟩
  | .hbm, ⟨22, _⟩ => ⟨S1x576, .i32⟩
  | .hbm, ⟨23, _⟩ => ⟨S64x576, .i32⟩
  | .hbm, ⟨24, _⟩ => ⟨S64x576, .i32⟩
  | .hbm, ⟨25, _⟩ => ⟨S64x576, .i32⟩
  | .hbm, ⟨26, _⟩ => ⟨S_, .i32⟩
  | .hbm, ⟨27, _⟩ => ⟨S64x576, .i32⟩
  | .hbm, ⟨28, _⟩ => ⟨S64x576, .i1⟩
  | .hbm, ⟨29, _⟩ => ⟨S_, .i32⟩
  | .hbm, ⟨30, _⟩ => ⟨S64x576, .i32⟩
  | .hbm, ⟨31, _⟩ => ⟨S64x576, .i32⟩
  | .hbm, ⟨32, _⟩ => ⟨S64x576, .i32⟩
  | .hbm, ⟨33, _⟩ => ⟨S64x576x1, .i32⟩
  | .hbm, ⟨34, _⟩ => ⟨S2x64x576x8x128, .f32⟩
  | .hbm, ⟨35, _⟩ => ⟨S_, .i32⟩
  | .hbm, ⟨36, _⟩ => ⟨S64x576, .i32⟩
  | .hbm, ⟨37, _⟩ => ⟨S64x576, .i1⟩
  | .hbm, ⟨38, _⟩ => ⟨S_, .i32⟩
  | .hbm, ⟨39, _⟩ => ⟨S64x576, .i32⟩
  | .hbm, ⟨40, _⟩ => ⟨S64x576, .i32⟩
  | .hbm, ⟨41, _⟩ => ⟨S64x576, .i32⟩
  | .hbm, ⟨42, _⟩ => ⟨S64x576x1, .i32⟩
  | .hbm, ⟨43, _⟩ => ⟨S2x64x576x8x128, .f32⟩
  | .hbm, ⟨44, _⟩ => ⟨S_, .i32⟩
  | .hbm, ⟨45, _⟩ => ⟨S64x576, .i32⟩
  | .hbm, ⟨46, _⟩ => ⟨S64x576, .i32⟩
  | .hbm, ⟨47, _⟩ => ⟨S4096, .i32⟩
  | .hbm, ⟨48, _⟩ => ⟨S64x64, .i32⟩
  | .hbm, ⟨49, _⟩ => ⟨S_, .i32⟩
  | .hbm, ⟨50, _⟩ => ⟨S64x576, .i32⟩
  | .hbm, ⟨51, _⟩ => ⟨S64x576, .i1⟩
  | .hbm, ⟨52, _⟩ => ⟨S64x64x1, .i32⟩
  | .hbm, ⟨53, _⟩ => ⟨S64x1x576, .i32⟩
  | .hbm, ⟨54, _⟩ => ⟨S64x64x576, .i32⟩
  | .hbm, ⟨55, _⟩ => ⟨S64x64x576, .i32⟩
  | .hbm, ⟨56, _⟩ => ⟨S64x64x576, .i32⟩
  | .hbm, ⟨57, _⟩ => ⟨S_, .i32⟩
  | .hbm, ⟨58, _⟩ => ⟨S_, .i32⟩
  | .hbm, ⟨59, _⟩ => ⟨S_, .i32⟩
  | .hbm, ⟨60, _⟩ => ⟨S64x64x576, .i32⟩
  | .hbm, ⟨61, _⟩ => ⟨S64x64x576, .i32⟩
  | .hbm, ⟨62, _⟩ => ⟨S_, .i32⟩
  | .hbm, ⟨63, _⟩ => ⟨S64x64x576, .i32⟩
  | .hbm, ⟨64, _⟩ => ⟨S64x64x576, .i32⟩
  | .hbm, ⟨65, _⟩ => ⟨S_, .i32⟩
  | .hbm, ⟨66, _⟩ => ⟨S64x64x576, .i32⟩
  | .hbm, ⟨67, _⟩ => ⟨S64x64x576, .i32⟩
  | .hbm, ⟨68, _⟩ => ⟨S8x257, .f32⟩
  | .hbm, ⟨69, _⟩ => ⟨S_, .i32⟩
  | .hbm, ⟨70, _⟩ => ⟨S64x64x576, .i32⟩
  | .hbm, ⟨71, _⟩ => ⟨S64x64x576, .i1⟩
  | .hbm, ⟨72, _⟩ => ⟨S_, .i32⟩
  | .hbm, ⟨73, _⟩ => ⟨S64x64x576, .i32⟩
  | .hbm, ⟨74, _⟩ => ⟨S64x64x576, .i32⟩
  | .hbm, ⟨75, _⟩ => ⟨S64x64x576, .i32⟩
  | .hbm, ⟨76, _⟩ => ⟨S64x64x576x1, .i32⟩
  | .hbm, ⟨77, _⟩ => ⟨S8x64x64x576, .f32⟩
  | .hbm, ⟨78, _⟩ => ⟨S2x8x64x64x576, .f32⟩
  | .hbm, ⟨79, _⟩ => ⟨S_, .f32⟩
  | .hbm, ⟨80, _⟩ => ⟨S2x8x64x64x576, .f32⟩
  | .hbm, ⟨81, _⟩ => ⟨S2x8x64x64x576, .f32⟩
  | .hbm, ⟨82, _⟩ => ⟨S1x8x64x64x576, .f32⟩
  | .hbm, ⟨83, _⟩ => ⟨S2x8x64x64x576, .f32⟩
  | .hbm, ⟨84, _⟩ => ⟨S2x8x64x64x576, .f32⟩
  | .hbm, ⟨85, _⟩ => ⟨S1x1x64x1x576, .i1⟩
  | .hbm, ⟨86, _⟩ => ⟨S_, .f32⟩
  | .hbm, ⟨87, _⟩ => ⟨S_, .f32⟩
  | .hbm, ⟨88, _⟩ => ⟨S2x8x64x64x576, .i1⟩
  | .hbm, ⟨89, _⟩ => ⟨S2x8x64x64x576, .f32⟩
  | .hbm, ⟨90, _⟩ => ⟨S2x8x64x64x576, .f32⟩
  | .hbm, ⟨91, _⟩ => ⟨S_, .f32⟩
  | .hbm, ⟨92, _⟩ => ⟨S2x8x64x64, .f32⟩
  | .hbm, ⟨93, _⟩ => ⟨S_, .f32⟩
  | .hbm, ⟨94, _⟩ => ⟨S2x8x64x64, .f32⟩
  | .hbm, ⟨95, _⟩ => ⟨S2x8x64x64, .f32⟩
  | .hbm, ⟨96, _⟩ => ⟨S2x8x64x64x1, .f32⟩
  | .hbm, ⟨97, _⟩ => ⟨S2x8x64x64x576, .f32⟩
  | .hbm, ⟨98, _⟩ => ⟨S2x8x64x64x576, .f32⟩
  | .hbm, ⟨99, _⟩ => ⟨S2x8x64x64x576, .f32⟩
  | .hbm, ⟨100, _⟩ => ⟨S_, .f32⟩
  | .hbm, ⟨101, _⟩ => ⟨S2x8x64x64, .f32⟩
  | .hbm, ⟨102, _⟩ => ⟨S2x8x64x64x1, .f32⟩
  | .hbm, ⟨103, _⟩ => ⟨S2x8x64x64x576, .f32⟩
  | .hbm, ⟨104, _⟩ => ⟨S2x8x64x64x576, .f32⟩
  | .hbm, ⟨105, _⟩ => ⟨S2x64x8x128x64, .f32⟩
  | .hbm, ⟨106, _⟩ => ⟨S2x64x64x8x128, .f32⟩
  | .hbm, ⟨107, _⟩ => ⟨S2x4096x8x128, .f32⟩
  | .hbm, ⟨108, _⟩ => ⟨S2x4096x1024, .f32⟩
  | .hbm, ⟨109, _⟩ => ⟨S2x4096x1024, .f32⟩
  | .hbm, ⟨110, _⟩ => ⟨S2x4096x1024, .f32⟩
  | .hbm, ⟨111, _⟩ => ⟨S_, .f32⟩
  | .hbm, ⟨112, _⟩ => ⟨S2x4096x1024, .f32⟩
  | .hbm, ⟨113, _⟩ => ⟨S2x4096x1024, .f32⟩
  | .hbm, ⟨114, _⟩ => ⟨S_, .f32⟩
  | .hbm, ⟨115, _⟩ => ⟨S2x4096x1024, .f32⟩
  | .hbm, ⟨116, _⟩ => ⟨S2x4096x1024, .f32⟩
  | .hbm, ⟨117, _⟩ => ⟨S2x4096x1024, .f32⟩
  | .hbm, ⟨118, _⟩ => ⟨S2x4096x1024, .f32⟩
  | .hbm, ⟨119, _⟩ => ⟨S8192x1024, .f32⟩
  | .hbm, ⟨120, _⟩ => ⟨S8192x1024, .bf16⟩
  | _, _ => ⟨S2x4096x9296, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_c : Ref sig .tc := ⟨.hbm, 10, rfl⟩
abbrev main_call0_v0 : Ref sig .tc := ⟨.hbm, 11, rfl⟩
abbrev main_v8 : Ref sig .tc := ⟨.hbm, 12, rfl⟩
abbrev main_c_0 : Ref sig .tc := ⟨.hbm, 13, rfl⟩
abbrev main_call1_v0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_c_2 : Ref sig .tc := ⟨.hbm, 26, rfl⟩
abbrev main_v19 : Ref sig .tc := ⟨.hbm, 27, rfl⟩
abbrev main_v20 : Ref sig .tc := ⟨.hbm, 28, rfl⟩
abbrev main_c_3 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_c_4 : Ref sig .tc := ⟨.hbm, 35, rfl⟩
abbrev main_v26 : Ref sig .tc := ⟨.hbm, 36, rfl⟩
abbrev main_v27 : Ref sig .tc := ⟨.hbm, 37, rfl⟩
abbrev main_c_5 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_c_6 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_c_7 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_c_8 : Ref sig .tc := ⟨.hbm, 57, rfl⟩
abbrev main_c_9 : Ref sig .tc := ⟨.hbm, 58, rfl⟩
abbrev main_call2_v0 : Ref sig .tc := ⟨.hbm, 59, rfl⟩
abbrev main_call2_v1 : Ref sig .tc := ⟨.hbm, 60, rfl⟩
abbrev main_call2_v2 : Ref sig .tc := ⟨.hbm, 61, rfl⟩
abbrev main_call2_v3 : Ref sig .tc := ⟨.hbm, 62, rfl⟩
abbrev main_call2_v4 : Ref sig .tc := ⟨.hbm, 63, rfl⟩
abbrev main_v44 : Ref sig .tc := ⟨.hbm, 64, rfl⟩
abbrev main_c_10 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_c_11 : Ref sig .tc := ⟨.hbm, 69, rfl⟩
abbrev main_v48 : Ref sig .tc := ⟨.hbm, 70, rfl⟩
abbrev main_v49 : Ref sig .tc := ⟨.hbm, 71, rfl⟩
abbrev main_c_12 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_13 : Ref sig .tc := ⟨.hbm, 86, rfl⟩
abbrev main_call3_v0 : Ref sig .tc := ⟨.hbm, 87, rfl⟩
abbrev main_call3_v1 : Ref sig .tc := ⟨.hbm, 88, rfl⟩
abbrev main_call3_v2 : Ref sig .tc := ⟨.hbm, 89, rfl⟩
abbrev main_v62 : Ref sig .tc := ⟨.hbm, 90, rfl⟩
abbrev main_cst_14 : Ref sig .tc := ⟨.hbm, 91, rfl⟩
abbrev main_v63 : Ref sig .tc := ⟨.hbm, 92, rfl⟩
abbrev main_cst_15 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_cst_16 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_call4_v0 : Ref sig .tc := ⟨.hbm, 109, rfl⟩
abbrev main_call4_v1 : Ref sig .tc := ⟨.hbm, 110, rfl⟩
abbrev main_call4_cst : Ref sig .tc := ⟨.hbm, 111, rfl⟩
abbrev main_call4_v2 : Ref sig .tc := ⟨.hbm, 112, rfl⟩
abbrev main_call4_v3 : Ref sig .tc := ⟨.hbm, 113, rfl⟩
abbrev main_call4_cst_0 : Ref sig .tc := ⟨.hbm, 114, rfl⟩
abbrev main_call4_v4 : Ref sig .tc := ⟨.hbm, 115, rfl⟩
abbrev main_call4_v5 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩

abbrev nD : Nat := 1
abbrev τ : Topo := Topo.v7x

variable {F : FTy → Type} [FloatOps F]
-- ==== KernelT.lean ====
abbrev S2x4096x2048 : Shape := ⟨3, ![2, 4096, 2048]⟩
abbrev S1x2048x9296 : Shape := ⟨3, ![1, 2048, 9296]⟩
abbrev S8192x2048 : Shape := ⟨2, ![8192, 2048]⟩
abbrev S2048x9296 : Shape := ⟨2, ![2048, 9296]⟩
abbrev S9296x2048 : Shape := ⟨2, ![9296, 2048]⟩
abbrev S5x32x1024x256 : Shape := ⟨4, ![5, 32, 1024, 256]⟩
abbrev S1024x2048 : Shape := ⟨2, ![1024, 2048]⟩
abbrev S1x4x1024x256 : Shape := ⟨4, ![1, 4, 1024, 256]⟩
abbrev S1024x1024 : Shape := ⟨2, ![1024, 1024]⟩
abbrev S256x1024 : Shape := ⟨2, ![256, 1024]⟩
abbrev S1024x256 : Shape := ⟨2, ![1024, 256]⟩
abbrev S1x1x1024x256 : Shape := ⟨4, ![1, 1, 1024, 256]⟩

abbrev nBuf : Space → Nat
  | .hbm => 7
  | .vmem => 7
  | .smem => 0
  | _ => 0

abbrev bufTy : (tb : Table) → Fin (tcTables nBuf tb) → BufTy
  | .hbm, ⟨0, _⟩ => ⟨S2x4096x2048, .f32⟩
  | .hbm, ⟨1, _⟩ => ⟨S1x2048x9296, .f32⟩
  | .hbm, ⟨2, _⟩ => ⟨S8192x2048, .f32⟩
  | .hbm, ⟨3, _⟩ => ⟨S8192x2048, .bf16⟩
  | .hbm, ⟨4, _⟩ => ⟨S2048x9296, .f32⟩
  | .hbm, ⟨5, _⟩ => ⟨S9296x2048, .f32⟩
  | .hbm, ⟨6, _⟩ => ⟨S5x32x1024x256, .bf16⟩
  | .local _ .vmem, ⟨0, _⟩ => ⟨S1024x2048, .f32⟩
  | .local _ .vmem, ⟨1, _⟩ => ⟨S1024x2048, .f32⟩
  | .local _ .vmem, ⟨2, _⟩ => ⟨S1024x2048, .bf16⟩
  | .local _ .vmem, ⟨3, _⟩ => ⟨S1024x2048, .bf16⟩
  | .local _ .vmem, ⟨4, _⟩ => ⟨S1x4x1024x256, .bf16⟩
  | .local _ .vmem, ⟨5, _⟩ => ⟨S1x4x1024x256, .bf16⟩
  | .local _ .vmem, ⟨6, _⟩ => ⟨S1024x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![5, 8], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x4x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceTIdeal.lean ====
abbrev S2x4096x2048 : Shape := ⟨3, ![2, 4096, 2048]⟩
abbrev S1x2048x9296 : Shape := ⟨3, ![1, 2048, 9296]⟩
abbrev S2048x9296 : Shape := ⟨2, ![2048, 9296]⟩
abbrev S2x4096x9296 : Shape := ⟨3, ![2, 4096, 9296]⟩
abbrev S2x4096x1024 : Shape := ⟨3, ![2, 4096, 1024]⟩
abbrev S1x2x4096x1024 : Shape := ⟨4, ![1, 2, 4096, 1024]⟩
abbrev S5x2x4096x1024 : Shape := ⟨4, ![5, 2, 4096, 1024]⟩
abbrev S5x32x256x1024 : Shape := ⟨4, ![5, 32, 256, 1024]⟩
abbrev S5x32x1024x256 : Shape := ⟨4, ![5, 32, 1024, 256]⟩

abbrev nBuf : Space → Nat
  | .hbm => 18
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S1x2048x9296, .f32⟩
  | .hbm, ⟨2, _⟩ => ⟨S2048x9296, .f32⟩
  | .hbm, ⟨3, _⟩ => ⟨S2x4096x9296, .f32⟩
  | .hbm, ⟨4, _⟩ => ⟨S2x4096x1024, .f32⟩
  | .hbm, ⟨5, _⟩ => ⟨S2x4096x1024, .f32⟩
  | .hbm, ⟨6, _⟩ => ⟨S2x4096x1024, .f32⟩
  | .hbm, ⟨7, _⟩ => ⟨S2x4096x1024, .f32⟩
  | .hbm, ⟨8, _⟩ => ⟨S2x4096x1024, .f32⟩
  | .hbm, ⟨9, _⟩ => ⟨S1x2x4096x1024, .f32⟩
  | .hbm, ⟨10, _⟩ => ⟨S1x2x4096x1024, .f32⟩
  | .hbm, ⟨11, _⟩ => ⟨S1x2x4096x1024, .f32⟩
  | .hbm, ⟨12, _⟩ => ⟨S1x2x4096x1024, .f32⟩
  | .hbm, ⟨13, _⟩ => ⟨S1x2x4096x1024, .f32⟩
  | .hbm, ⟨14, _⟩ => ⟨S5x2x4096x1024, .f32⟩
  | .hbm, ⟨15, _⟩ => ⟨S5x2x4096x1024, .bf16⟩
  | .hbm, ⟨16, _⟩ => ⟨S5x32x256x1024, .bf16⟩
  | .hbm, ⟨17, _⟩ => ⟨S5x32x1024x256, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩

abbrev nD : Nat := 1
abbrev τ : Topo := Topo.v7x

variable {F : FTy → Type} [FloatOps F]
-- ==== KernelK.lean ====
abbrev S2x4096x2048 : Shape := ⟨3, ![2, 4096, 2048]⟩
abbrev S1x2048x9296 : Shape := ⟨3, ![1, 2048, 9296]⟩
abbrev S8192x2048 : Shape := ⟨2, ![8192, 2048]⟩
abbrev S2048x9296 : Shape := ⟨2, ![2048, 9296]⟩
abbrev S9296x2048 : Shape := ⟨2, ![9296, 2048]⟩
abbrev S1024x2048 : Shape := ⟨2, ![1024, 2048]⟩
abbrev S1024x1024 : Shape := ⟨2, ![1024, 1024]⟩

abbrev nBuf : Space → Nat
  | .hbm => 7
  | .vmem => 7
  | .smem => 0
  | _ => 0

abbrev bufTy : (tb : Table) → Fin (tcTables nBuf tb) → BufTy
  | .hbm, ⟨0, _⟩ => ⟨S2x4096x2048, .f32⟩
  | .hbm, ⟨1, _⟩ => ⟨S1x2048x9296, .f32⟩
  | .hbm, ⟨2, _⟩ => ⟨S8192x2048, .f32⟩
  | .hbm, ⟨3, _⟩ => ⟨S8192x2048, .bf16⟩
  | .hbm, ⟨4, _⟩ => ⟨S2048x9296, .f32⟩
  | .hbm, ⟨5, _⟩ => ⟨S9296x2048, .f32⟩
  | .hbm, ⟨6, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .f32⟩
  | .local _ .vmem, ⟨3, _⟩ => ⟨S1024x2048, .f32⟩
  | .local _ .vmem, ⟨4, _⟩ => ⟨S1024x1024, .bf16⟩
  | .local _ .vmem, ⟨5, _⟩ => ⟨S1024x1024, .bf16⟩
  | .local _ .vmem, ⟨6, _⟩ => ⟨S1024x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg0
  let c1_i32 : BitVec 32 := 1#32
  let v1 : BitVec 32 := Scalar.addi c1_i32 v0
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceKIdeal.lean ====
abbrev S2x4096x2048 : Shape := ⟨3, ![2, 4096, 2048]⟩
abbrev S1x2048x9296 : Shape := ⟨3, ![1, 2048, 9296]⟩
abbrev S2048x9296 : Shape := ⟨2, ![2048, 9296]⟩
abbrev S2x4096x9296 : Shape := ⟨3, ![2, 4096, 9296]⟩
abbrev S2x4096x1024 : Shape := ⟨3, ![2, 4096, 1024]⟩
abbrev S8192x2048 : Shape := ⟨2, ![8192, 2048]⟩

abbrev nBuf : Space → Nat
  | .hbm => 9
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S1x2048x9296, .f32⟩
  | .hbm, ⟨2, _⟩ => ⟨S2048x9296, .f32⟩
  | .hbm, ⟨3, _⟩ => ⟨S2x4096x9296, .f32⟩
  | .hbm, ⟨4, _⟩ => ⟨S2x4096x1024, .f32⟩
  | .hbm, ⟨5, _⟩ => ⟨S2x4096x1024, .f32⟩
  | .hbm, ⟨6, _⟩ => ⟨S2x4096x2048, .f32⟩
  | .hbm, ⟨7, _⟩ => ⟨S8192x2048, .f32⟩
  | .hbm, ⟨8, _⟩ => ⟨S8192x2048, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== KernelG.lean ====
abbrev S2x4096x2048 : Shape := ⟨3, ![2, 4096, 2048]⟩
abbrev S1x2048x9296 : Shape := ⟨3, ![1, 2048, 9296]⟩
abbrev S8192x2048 : Shape := ⟨2, ![8192, 2048]⟩
abbrev S2048x9296 : Shape := ⟨2, ![2048, 9296]⟩
abbrev S9296x2048 : Shape := ⟨2, ![9296, 2048]⟩
abbrev S1024x2048 : Shape := ⟨2, ![1024, 2048]⟩
abbrev S1024x1024 : Shape := ⟨2, ![1024, 1024]⟩

abbrev nBuf : Space → Nat
  | .hbm => 7
  | .vmem => 7
  | .smem => 0
  | _ => 0

abbrev bufTy : (tb : Table) → Fin (tcTables nBuf tb) → BufTy
  | .hbm, ⟨0, _⟩ => ⟨S2x4096x2048, .f32⟩
  | .hbm, ⟨1, _⟩ => ⟨S1x2048x9296, .f32⟩
  | .hbm, ⟨2, _⟩ => ⟨S8192x2048, .f32⟩
  | .hbm, ⟨3, _⟩ => ⟨S8192x2048, .bf16⟩
  | .hbm, ⟨4, _⟩ => ⟨S2048x9296, .f32⟩
  | .hbm, ⟨5, _⟩ => ⟨S9296x2048, .f32⟩
  | .hbm, ⟨6, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .f32⟩
  | .local _ .vmem, ⟨3, _⟩ => ⟨S1024x2048, .f32⟩
  | .local _ .vmem, ⟨4, _⟩ => ⟨S1024x1024, .f32⟩
  | .local _ .vmem, ⟨5, _⟩ => ⟨S1024x1024, .f32⟩
  | .local _ .vmem, ⟨6, _⟩ => ⟨S1024x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg0
  let c3_i32 : BitVec 32 := 3#32
  let v1 : BitVec 32 := Scalar.addi c3_i32 v0
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceGIdeal.lean ====
abbrev S2x4096x2048 : Shape := ⟨3, ![2, 4096, 2048]⟩
abbrev S1x2048x9296 : Shape := ⟨3, ![1, 2048, 9296]⟩
abbrev S2048x9296 : Shape := ⟨2, ![2048, 9296]⟩
abbrev S2x4096x9296 : Shape := ⟨3, ![2, 4096, 9296]⟩
abbrev S2x4096x1024 : Shape := ⟨3, ![2, 4096, 1024]⟩
abbrev S8192x2048 : Shape := ⟨2, ![8192, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S1x2048x9296, .f32⟩
  | .hbm, ⟨2, _⟩ => ⟨S2048x9296, .f32⟩
  | .hbm, ⟨3, _⟩ => ⟨S2x4096x9296, .f32⟩
  | .hbm, ⟨4, _⟩ => ⟨S2x4096x1024, .f32⟩
  | .hbm, ⟨5, _⟩ => ⟨S2x4096x1024, .f32⟩
  | .hbm, ⟨6, _⟩ => ⟨S2x4096x2048, .f32⟩
  | .hbm, ⟨7, _⟩ => ⟨S8192x2048, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== KernelO.lean ====
abbrev S2x4096x2048 : Shape := ⟨3, ![2, 4096, 2048]⟩
abbrev S2x4096x1024 : Shape := ⟨3, ![2, 4096, 1024]⟩
abbrev S1x2048x2048 : Shape := ⟨3, ![1, 2048, 2048]⟩
abbrev S2048 : Shape := ⟨1, ![2048]⟩
abbrev S8192x2048 : Shape := ⟨2, ![8192, 2048]⟩
abbrev S8192x1024 : Shape := ⟨2, ![8192, 1024]⟩
abbrev S1x2048 : Shape := ⟨2, ![1, 2048]⟩
abbrev S512x2048 : Shape := ⟨2, ![512, 2048]⟩
abbrev S512x1024 : Shape := ⟨2, ![512, 1024]⟩
abbrev S1x1024x2048 : Shape := ⟨3, ![1, 1024, 2048]⟩
abbrev S2x1024x2048 : Shape := ⟨3, ![2, 1024, 2048]⟩
abbrev S1024x2048 : Shape := ⟨2, ![1024, 2048]⟩
abbrev S512 : Shape := ⟨1, ![512]⟩
abbrev S512x1 : Shape := ⟨2, ![512, 1]⟩

abbrev nBuf : Space → Nat
  | .hbm => 12
  | .vmem => 12
  | .smem => 0
  | _ => 0

abbrev bufTy : (tb : Table) → Fin (tcTables nBuf tb) → BufTy
  | .hbm, ⟨0, _⟩ => ⟨S2x4096x2048, .f32⟩
  | .hbm, ⟨1, _⟩ => ⟨S2x4096x1024, .f32⟩
  | .hbm, ⟨2, _⟩ => ⟨S2x4096x1024, .f32⟩
  | .hbm, ⟨3, _⟩ => ⟨S1x2048x2048, .f32⟩
  | .hbm, ⟨4, _⟩ => ⟨S2048, .f32⟩
  | .hbm, ⟨5, _⟩ => ⟨S8192x2048, .f32⟩
  | .hbm, ⟨6, _⟩ => ⟨S8192x1024, .f32⟩
  | .hbm, ⟨7, _⟩ => ⟨S8192x1024, .bf16⟩
  | .hbm, ⟨8, _⟩ => ⟨S8192x1024, .f32⟩
  | .hbm, ⟨9, _⟩ => ⟨S8192x1024, .bf16⟩
  | .hbm, ⟨10, _⟩ => ⟨S1x2048, .f32⟩
  | .hbm, ⟨11, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S1x1024x2048, .f32⟩
  | .local _ .vmem, ⟨7, _⟩ => ⟨S1x1024x2048, .f32⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | .local _ .vmem, ⟨11, _⟩ => ⟨S2x1024x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceOIdeal.lean ====
abbrev S2x4096x2048 : Shape := ⟨3, ![2, 4096, 2048]⟩
abbrev S2x4096x1024 : Shape := ⟨3, ![2, 4096, 1024]⟩
abbrev S1x2048x2048 : Shape := ⟨3, ![1, 2048, 2048]⟩
abbrev S2048 : Shape := ⟨1, ![2048]⟩
abbrev S2048x2048 : Shape := ⟨2, ![2048, 2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S8192x2048 : Shape := ⟨2, ![8192, 2048]⟩

abbrev nBuf : Space → Nat
  | .hbm => 26
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2x4096x1024, .f32⟩
  | .hbm, ⟨2, _⟩ => ⟨S2x4096x1024, .f32⟩
  | .hbm, ⟨3, _⟩ => ⟨S1x2048x2048, .f32⟩
  | .hbm, ⟨4, _⟩ => ⟨S2048, .f32⟩
  | .hbm, ⟨5, _⟩ => ⟨S2x4096x2048, .f32⟩
  | .hbm, ⟨6, _⟩ => ⟨S2048x2048, .f32⟩
  | .hbm, ⟨7, _⟩ => ⟨S2x4096x2048, .f32⟩
  | .hbm, ⟨8, _⟩ => ⟨S2x4096x2048, .f32⟩
  | .hbm, ⟨9, _⟩ => ⟨S2x4096x2048, .f32⟩
  | .hbm, ⟨10, _⟩ => ⟨S_, .f32⟩
  | .hbm, ⟨11, _⟩ => ⟨S2x4096, .f32⟩
  | .hbm, ⟨12, _⟩ => ⟨S2x4096x1, .f32⟩
  | .hbm, ⟨13, _⟩ => ⟨S_, .f32⟩
  | .hbm, ⟨14, _⟩ => ⟨S2x4096x1, .f32⟩
  | .hbm, ⟨15, _⟩ => ⟨S2x4096x1, .f32⟩
  | .hbm, ⟨16, _⟩ => ⟨S_, .f32⟩
  | .hbm, ⟨17, _⟩ => ⟨S2x4096x1, .f32⟩
  | .hbm, ⟨18, _⟩ => ⟨S2x4096x1, .f32⟩
  | .hbm, ⟨19, _⟩ => ⟨S2x4096x1, .f32⟩
  | .hbm, ⟨20, _⟩ => ⟨S2x4096x2048, .f32⟩
  | .hbm, ⟨21, _⟩ => ⟨S2x4096x2048, .f32⟩
  | .hbm, ⟨22, _⟩ => ⟨S1x1x2048, .f32⟩
  | .hbm, ⟨23, _⟩ => ⟨S2x4096x2048, .f32⟩
  | .hbm, ⟨24, _⟩ => ⟨S2x4096x2048, .f32⟩
  | .hbm, ⟨25, _⟩ => ⟨S8192x2048, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== KernelN.lean ====
abbrev S2x4096x2048 : Shape := ⟨3, ![2, 4096, 2048]⟩
abbrev S1x2048 : Shape := ⟨2, ![1, 2048]⟩
abbrev S1x2048x9296 : Shape := ⟨3, ![1, 2048, 9296]⟩
abbrev S2048x9296 : Shape := ⟨2, ![2048, 9296]⟩
abbrev S9296x2048 : Shape := ⟨2, ![9296, 2048]⟩
abbrev S80x2048 : Shape := ⟨2, ![80, 2048]⟩
abbrev S_ : Shape := ⟨0, ![]⟩
abbrev S128x2048 : Shape := ⟨2, ![128, 2048]⟩
abbrev S8192x2048 : Shape := ⟨2, ![8192, 2048]⟩
abbrev S2048 : Shape := ⟨1, ![2048]⟩
abbrev S2048x128 : Shape := ⟨2, ![2048, 128]⟩
abbrev S8192x128 : Shape := ⟨2, ![8192, 128]⟩
abbrev S128x8192 : Shape := ⟨2, ![128, 8192]⟩
abbrev S512x2048 : Shape := ⟨2, ![512, 2048]⟩
abbrev S512x128 : Shape := ⟨2, ![512, 128]⟩
abbrev S128x512 : Shape := ⟨2, ![128, 512]⟩
abbrev S512 : Shape := ⟨1, ![512]⟩
abbrev S512x1 : Shape := ⟨2, ![512, 1]⟩

abbrev nBuf : Space → Nat
  | .hbm => 17
  | .vmem => 11
  | .smem => 0
  | _ => 0

abbrev bufTy : (tb : Table) → Fin (tcTables nBuf tb) → BufTy
  | .hbm, ⟨0, _⟩ => ⟨S2x4096x2048, .f32⟩
  | .hbm, ⟨1, _⟩ => ⟨S1x2048, .f32⟩
  | .hbm, ⟨2, _⟩ => ⟨S1x2048x9296, .f32⟩
  | .hbm, ⟨3, _⟩ => ⟨S2048x9296, .f32⟩
  | .hbm, ⟨4, _⟩ => ⟨S9296x2048, .f32⟩
  | .hbm, ⟨5, _⟩ => ⟨S80x2048, .f32⟩
  | .hbm, ⟨6, _⟩ => ⟨S80x2048, .bf16⟩
  | .hbm, ⟨7, _⟩ => ⟨S_, .i32⟩
  | .hbm, ⟨8, _⟩ => ⟨S_, .bf16⟩
  | .hbm, ⟨9, _⟩ => ⟨S128x2048, .bf16⟩
  | .hbm, ⟨10, _⟩ => ⟨S8192x2048, .f32⟩
  | .hbm, ⟨11, _⟩ => ⟨S2048, .f32⟩
  | .hbm, ⟨12, _⟩ => ⟨S2048x128, .bf16⟩
  | .hbm, ⟨13, _⟩ => ⟨S1x2048, .f32⟩
  | .hbm, ⟨14, _⟩ => ⟨S8192x2048, .bf16⟩
  | .hbm, ⟨15, _⟩ => ⟨S8192x128, .f32⟩
  | .hbm, ⟨16, _⟩ => ⟨S128x8192, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x128, .bf16⟩
  | .local _ .vmem, ⟨4, _⟩ => ⟨S128x2048, .bf16⟩
  | .local _ .vmem, ⟨5, _⟩ => ⟨S512x2048, .bf16⟩
  | .local _ .vmem, ⟨6, _⟩ => ⟨S512x2048, .bf16⟩
  | .local _ .vmem, ⟨7, _⟩ => ⟨S512x128, .f32⟩
  | .local _ .vmem, ⟨8, _⟩ => ⟨S512x128, .f32⟩
  | .local _ .vmem, ⟨9, _⟩ => ⟨S128x512, .f32⟩
  | .local _ .vmem, ⟨10, _⟩ => ⟨S128x512, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev main_v9_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceNIdeal.lean ====
abbrev S2x4096x2048 : Shape := ⟨3, ![2, 4096, 2048]⟩
abbrev S1x2048 : Shape := ⟨2, ![1, 2048]⟩
abbrev S1x2048x9296 : Shape := ⟨3, ![1, 2048, 9296]⟩
abbrev S2048 : Shape := ⟨1, ![2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2048x9296 : Shape := ⟨2, ![2048, 9296]⟩
abbrev S2x4096x9296 : Shape := ⟨3, ![2, 4096, 9296]⟩
abbrev S2x4096x80 : Shape := ⟨3, ![2, 4096, 80]⟩
abbrev S8192x80 : Shape := ⟨2, ![8192, 80]⟩
abbrev S8192x128 : Shape := ⟨2, ![8192, 128]⟩
abbrev S8192x2048 : Shape := ⟨2, ![8192, 2048]⟩
abbrev S128x8192 : Shape := ⟨2, ![128, 8192]⟩

abbrev nBuf : Space → Nat
  | .hbm => 30
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S1x2048, .f32⟩
  | .hbm, ⟨2, _⟩ => ⟨S1x2048x9296, .f32⟩
  | .hbm, ⟨3, _⟩ => ⟨S2048, .f32⟩
  | .hbm, ⟨4, _⟩ => ⟨S2x4096x2048, .f32⟩
  | .hbm, ⟨5, _⟩ => ⟨S_, .f32⟩
  | .hbm, ⟨6, _⟩ => ⟨S2x4096, .f32⟩
  | .hbm, ⟨7, _⟩ => ⟨S2x4096x1, .f32⟩
  | .hbm, ⟨8, _⟩ => ⟨S_, .f32⟩
  | .hbm, ⟨9, _⟩ => ⟨S2x4096x1, .f32⟩
  | .hbm, ⟨10, _⟩ => ⟨S2x4096x1, .f32⟩
  | .hbm, ⟨11, _⟩ => ⟨S_, .f32⟩
  | .hbm, ⟨12, _⟩ => ⟨S2x4096x1, .f32⟩
  | .hbm, ⟨13, _⟩ => ⟨S2x4096x1, .f32⟩
  | .hbm, ⟨14, _⟩ => ⟨S2x4096x1, .f32⟩
  | .hbm, ⟨15, _⟩ => ⟨S2x4096x2048, .f32⟩
  | .hbm, ⟨16, _⟩ => ⟨S2x4096x2048, .f32⟩
  | .hbm, ⟨17, _⟩ => ⟨S1x1x2048, .f32⟩
  | .hbm, ⟨18, _⟩ => ⟨S2x4096x2048, .f32⟩
  | .hbm, ⟨19, _⟩ => ⟨S2x4096x2048, .f32⟩
  | .hbm, ⟨20, _⟩ => ⟨S2048x9296, .f32⟩
  | .hbm, ⟨21, _⟩ => ⟨S2x4096x9296, .f32⟩
  | .hbm, ⟨22, _⟩ => ⟨S2x4096x80, .f32⟩
  | .hbm, ⟨23, _⟩ => ⟨S8192x80, .f32⟩
  | .hbm, ⟨24, _⟩ => ⟨S_, .i32⟩
  | .hbm, ⟨25, _⟩ => ⟨S_, .f32⟩
  | .hbm, ⟨26, _⟩ => ⟨S8192x128, .f32⟩
  | .hbm, ⟨27, _⟩ => ⟨S8192x2048, .f32⟩
  | .hbm, ⟨28, _⟩ => ⟨S8192x2048, .bf16⟩
  | .hbm, ⟨29, _⟩ => ⟨S128x8192, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_c : Ref sig .tc := ⟨.hbm, 24, rfl⟩
abbrev main_call0_v0 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== Proof.MixerA.Body.lean ====
/- The body of the mixer-A kernel written with its loops: the printed body repeats the same few statements for eight
   heads and forty-eight chunks of sixteen rows, and here each of them stands once, with the head and the chunk as
   arguments. -/
module

public import proofs.«01_k».proof.Proof.Gen.KernelIdeal

@[expose] public section

noncomputable section

namespace Cert.KernelIdeal.MixerA

open Idealize.ShloMosaic Idealize.SL.Sem Cert.KernelIdeal Cert.KernelIdeal.Gen

variable {F : FTy → Type} [FloatOps F]

/-- The body's programs. -/
abbrev Pr (F : FTy → Type) [FloatOps F] (α : Type) : Type 1 := Prog (TpuEff nD τ sig (Elt F) Λ₀ .tc) α

/-- The last `n` of `N` steps in order, each with its number, carrying a value. -/
def steps {α : Type} (N : ℕ) (f : Fin N → α → Pr F α) : (n : ℕ) → n ≤ N → α → Pr F α :=
  fun n => Nat.rec (motive := fun n => n ≤ N → α → Pr F α) (fun _ a => pure a)
    (fun n ih h a => f ⟨N - (n + 1), Nat.sub_lt (Nat.lt_of_lt_of_le (Nat.succ_pos n) h) (Nat.succ_pos n)⟩ a >>= fun a' => ih (Nat.le_of_succ_le h) a') n

/-! ## The boxes -/

theorem inb_row (h : Fin 8) : ∀ a, (![h.val, 0] : Fin 2 → Nat) a + S1x768.size a ≤ S8x768.size a := by
  intro a; fin_cases a <;> simp <;> omega

theorem inb_plane (h : Fin 8) : ∀ a, (![h.val, 0, 0] : Fin 3 → Nat) a + S1x768x256.size a ≤ S8x768x256.size a := by
  intro a; fin_cases a <;> simp <;> omega

theorem inb_piece (h : Fin 8) (j : Fin 3) : ∀ a, (![h.val, 256 * j.val, 0] : Fin 3 → Nat) a + S1x256x256.size a ≤ S8x768x256.size a := by
  intro a; fin_cases a <;> simp <;> omega

theorem inb_chunk (h : Fin 8) (k : Fin 48) : ∀ a, (![h.val, 16 * k.val, 0] : Fin 3 → Nat) a + S1x16x256.size a ≤ S8x768x256.size a := by
  intro a; fin_cases a <;> simp <;> omega

theorem inb_head (h : Fin 8) : ∀ a, (![0, 128 * h.val] : Fin 2 → Nat) a + S256x128.size a ≤ S256x1024.size a := by
  intro a; fin_cases a <;> simp <;> omega

theorem inb_headT (h : Fin 8) : ∀ a, (![0, 0, 128 * h.val, 0] : Fin 4 → Nat) a + S1x1x128x256.size a ≤ S1x1x1024x256.size a := by
  intro a; fin_cases a <;> simp <;> omega

/-- Head `h`'s row of the table. -/
abbrev rRow (h : Fin 8) : Rect S8x768 := Rect.unit (s := S8x768) ![h.val, 0] S1x768.size (inb_row h)
/-- Head `h`'s plane of a scratch buffer. -/
abbrev rPlane (h : Fin 8) : Rect S8x768x256 := Rect.unit (s := S8x768x256) ![h.val, 0, 0] S1x768x256.size (inb_plane h)
/-- Piece `j` of head `h`'s plane: 256 keys. -/
abbrev rPiece (h : Fin 8) (j : Fin 3) : Rect S8x768x256 := Rect.unit (s := S8x768x256) ![h.val, 256 * j.val, 0] S1x256x256.size (inb_piece h j)
/-- Chunk `k` of head `h`'s plane: 16 keys. -/
abbrev rChunk (h : Fin 8) (k : Fin 48) : Rect S8x768x256 := Rect.unit (s := S8x768x256) ![h.val, 16 * k.val, 0] S1x16x256.size (inb_chunk h k)
/-- Head `h`'s columns of a block of rows. -/
abbrev rHead (h : Fin 8) : Rect S256x1024 := Rect.unit (s := S256x1024) ![0, 128 * h.val] S256x128.size (inb_head h)
/-- Head `h`'s rows of a transposed block. -/
abbrev rHeadT (h : Fin 8) : Rect S1x1x1024x256 := Rect.unit (s := S1x1x1024x256) ![0, 0, 128 * h.val, 0] S1x1x128x256.size (inb_headT h)

theorem packed_chunk (h : Fin 8) (k : Fin 48) : (rChunk h k).PackedRows (EltTy.packing .bf16) :=
  .inr ⟨by decide, rfl, .inl ⟨⟨8 * k.val, by show 16 * k.val = 2 * (8 * k.val); omega⟩, ⟨8, rfl⟩⟩⟩

theorem packed_head (h : Fin 8) : (rHead h).PackedRows (EltTy.packing .bf16) :=
  .inr ⟨by decide, rfl, .inl ⟨⟨0, rfl⟩, ⟨128, rfl⟩⟩⟩

/-! ## What is computed -/

/-- Minus infinity as the program writes it. -/
abbrev ninf : F .f32 := Scalar.ofBits .f32 0xFF800000#32

/-- The quotient by 64 rounded down, as the program computes it. -/
def chunkOf (v : IVec S256x768 32) : IVec S256x768 32 :=
  select
    (andi
      (cmpi .ne
        (subi (extui 32 (cmpi .sgt v (broadcast S256x768 0#32)) natLt_1_32) (extui 32 (cmpi .slt v (broadcast S256x768 0#32)) natLt_1_32))
        (broadcast S256x768 (Scalar.subi (Scalar.extui (Scalar.cmpi .sgt 64#32 0#32)) (Scalar.extui (Scalar.cmpi .slt 64#32 0#32)))))
      (cmpi .ne (remsi v (broadcast S256x768 64#32)) (broadcast S256x768 0#32)))
    (subi (divsi v (broadcast S256x768 64#32)) (broadcast S256x768 1#32))
    (divsi v (broadcast S256x768 64#32))

/-- Which keys of the window a query may look at. -/
def band : IVec S256x768 1 :=
  andi
    (cmpi .sge (chunkOf (iota .tc S256x768 32 [1] iota_S256x768_d1_w32)) (addi (chunkOf (iota .tc S256x768 32 [0] iota_S256x768_d0_w32)) (broadcast S256x768 0#32)))
    (cmpi .sle (chunkOf (iota .tc S256x768 32 [1] iota_S256x768_d1_w32))
      (addi (addi (chunkOf (iota .tc S256x768 32 [0] iota_S256x768_d0_w32)) (broadcast S256x768 0#32)) (broadcast S256x768 8#32)))

/-- A head's biases from its row of the table: each query's row is the table rotated by the query's number, scaled,
    minus infinity outside the band, and the whole transposed. -/
def biasOf (lg : F .f32) (row : Vec F S1x768 .f32) : FVec F S768x256 .f32 :=
  let rows : FVec F S256x768 .f32 :=
    broadcastTo S256x768 (shapeCast S1x768 (shapeCast S1x768 row shapeCasts_S1x768_S1x768) shapeCasts_S1x768_S1x768) broadcasts_S1x768_S256x768
  let wide : FVec F S256x1024 .f32 :=
    concatenate S256x1024 1 [⟨S256x768, rows⟩, ⟨S256x256, extractStridedSlice S256x256 ![0, 512] rows slices_S256x768_o0_512_S256x256⟩]
      concatenates_S256x768_S256x256_S256x1024_d1
  let toeplitz : FVec F S256x768 .f32 :=
    extractStridedSlice S256x768 ![0, 0] (dynamicRotate 1 0#32 (some (1, 0)) wide rotates_S256x1024_d1s1a0) slices_S256x1024_o0_0_S256x768
  transpose S768x256 [1, 0] (select band (mulf toeplitz (broadcast S256x768 lg)) (broadcast S256x768 ninf)) transposes_S256x768_p1_0_S768x256

/-- The products of a piece's keys with the queries. -/
def scoreOf (q : Vec F S1x1x128x256 .bf16) (k : Vec F S256x128 .bf16) : FVec F S256x256 .f32 :=
  matmul dot_S256x128_S128x256_S256x256_1_0_0_1_n_n none (shapeCast S256x128 k shapeCasts_S256x128_S256x128)
    (shapeCast S128x256 q shapeCasts_S1x1x128x256_S128x256) (constant S256x256 .f32 0x00000000#32)

/-- A chunk's scores with the piece's flag: all kept, or all minus infinity. -/
def keepIf (v13 v14 : BitVec 1) (k : Fin 48) (u : FVec F S16x256 .f32) : FVec F S16x256 .f32 :=
  if k.val < 16 then Scalar.select v13 u (broadcast S16x256 ninf)
  else if k.val < 32 then Scalar.select v14 u (broadcast S16x256 ninf) else u

/-- A chunk's scores, scaled, with their biases. -/
def shifted (sc : F .f32) (s b : Vec F S1x16x256 .f32) : FVec F S16x256 .f32 :=
  addf (mulf (shapeCast S16x256 s shapeCasts_S1x16x256_S16x256) (broadcast S16x256 sc)) (shapeCast S16x256 b shapeCasts_S1x16x256_S16x256)

/-- The running maximum, eight rows at a time, after a chunk. -/
def maxOf (mx : FVec F S8x256 .f32) (u : FVec F S16x256 .f32) : FVec F S8x256 .f32 :=
  maximumf mx (multiReduction .maximumf [0] S8x256 (shapeCast S2x8x256 u shapeCasts_S16x256_S2x8x256) 0xFF800000#32 reduces_S2x8x256_S8x256 (.inl rfl) rfl)

/-- The maximum of each query's column. -/
def rowMax (mx : FVec F S8x256 .f32) : FVec F S1x256 .f32 :=
  shapeCast S1x256 (multiReduction .maximumf [0] S256 mx 0xFF800000#32 reduces_S8x256_S256 (.inl rfl) rfl) shapeCasts_S256_S1x256

/-- A chunk's powers of two. -/
def powOf (m : FVec F S1x256 .f32) (u : Vec F S1x16x256 .f32) : FVec F S16x256 .f32 :=
  exp2 (subf (shapeCast S16x256 u shapeCasts_S1x16x256_S16x256) (broadcastTo S16x256 m broadcasts_S1x256_S16x256))

/-- The running sum, eight rows at a time, after a chunk. -/
def sumOf (ls : FVec F S8x256 .f32) (p : FVec F S16x256 .f32) : FVec F S8x256 .f32 :=
  addf ls (multiReduction .add [0] S8x256 (shapeCast S2x8x256 p shapeCasts_S16x256_S2x8x256) 0x00000000#32 reduces_S2x8x256_S8x256 (.inl rfl) rfl)

/-- The sum of each query's column. -/
def rowSum (ls : FVec F S8x256 .f32) : FVec F S1x256 .f32 :=
  shapeCast S1x256 (multiReduction .add [0] S256 ls 0x00000000#32 reduces_S8x256_S256 (.inl rfl) rfl) shapeCasts_S256_S1x256

/-- The product of a piece's values with its weights. -/
def valueOf (v : Vec F S1x1x128x256 .bf16) (p : Vec F S1x256x256 .bf16) : FVec F S128x256 .f32 :=
  matmul dot_S128x256_S256x256_S128x256_1_0_0_1_n_n none (shapeCast S128x256 v shapeCasts_S1x1x128x256_S128x256)
    (shapeCast S256x256 p shapeCasts_S1x256x256_S256x256) (constant S128x256 .f32 0x00000000#32)

/-- The gate `g · (1 / (1 + exp (-g)))`. -/
def siluOf (g : FVec F S256x128 .f32) : FVec F S256x128 .f32 :=
  mulf g (divf (broadcast S256x128 (Scalar.ofBits .f32 0x3F800000#32))
    (addf (broadcast S256x128 (Scalar.ofBits .f32 0x3F800000#32)) (exp (subf (broadcast S256x128 (Scalar.ofBits .f32 0x00000000#32)) g))))

/-- A head's result: the weighted values over the sum, transposed back, times the gate. -/
def headOut (ls : FVec F S8x256 .f32) (a0 a1 a2 : FVec F S128x256 .f32) (g : Vec F S256x128 .f32) : FVec F S256x128 .bf16 :=
  truncf .bf16
    (mulf
      (transpose S256x128 [1, 0] (divf (addf (addf a0 a1) a2) (broadcastTo S128x256 (rowSum ls) broadcasts_S1x256_S128x256)) transposes_S128x256_p1_0_S256x128)
      (siluOf (shapeCast S256x128 g shapeCasts_S256x128_S256x128)))
    bitsLt_bf16_f32

/-! ## The statements -/

/-- One head's biases. -/
def biasStep (lg : F .f32) (arg9 : Memref sig .tc .vmem S8x768 .f32) (arg11 : Memref sig .tc .vmem S8x768x256 .f32) (h : Fin 8) (_ : PUnit) : Pr F PUnit := do
  let row : Vec F S1x768 .f32 ← Prog.lift (.load arg9 (rRow h).toLoadRect (View.loadsAt_vmem h_S1x768))
  let _ : Vec F S1x768x256 .f32 ← Prog.lift (.load arg11 (rPlane h).toLoadRect (View.loadsAt_vmem h_S1x768x256))
  Prog.lift (.store arg11 (rPlane h) (shapeCast S1x768x256 (biasOf lg row) shapeCasts_S768x256_S1x768x256) Finset.univ (View.stores_vmem_bits_univ h_S1x768x256 rfl) (.inl rfl))

/-- One piece of a head's scores. -/
def scorePiece (arg12 : Memref sig .tc .vmem S8x768x256 .f32) (h : Fin 8) (q : Vec F S1x1x128x256 .bf16) (kr : Memref sig .tc .vmem S256x1024 .bf16) (j : Fin 3) : Pr F PUnit := do
  let k : Vec F S256x128 .bf16 ← Prog.lift (.load kr (rHead h).toLoadRect (View.loadsAt_vmem h_S256x128))
  let _ : Vec F S1x256x256 .f32 ← Prog.lift (.load arg12 (rPiece h j).toLoadRect (View.loadsAt_vmem h_S1x256x256))
  Prog.lift (.store arg12 (rPiece h j) (shapeCast S1x256x256 (scoreOf q k) shapeCasts_S256x256_S1x256x256) Finset.univ (View.stores_vmem_bits_univ h_S1x256x256 rfl) (.inl rfl))

/-- One head's scores. -/
def scoreStep (arg1 : Memref sig .tc .vmem S1x1x1024x256 .bf16) (arg2 arg3 arg4 : Memref sig .tc .vmem S256x1024 .bf16) (arg12 : Memref sig .tc .vmem S8x768x256 .f32)
    (h : Fin 8) (_ : PUnit) : Pr F PUnit := do
  let q : Vec F S1x1x128x256 .bf16 ← Prog.lift (.load arg1 (rHeadT h).toLoadRect (View.loadsAt_vmem h_S1x1x128x256))
  scorePiece arg12 h q arg2 0
  scorePiece arg12 h q arg3 1
  scorePiece arg12 h q arg4 2

/-- One chunk of the first pass. -/
def maxStep (sc : F .f32) (v13 v14 : BitVec 1) (arg11 arg12 : Memref sig .tc .vmem S8x768x256 .f32) (h : Fin 8) (k : Fin 48) (mx : FVec F S8x256 .f32) : Pr F (FVec F S8x256 .f32) := do
  let s : Vec F S1x16x256 .f32 ← Prog.lift (.load arg12 (rChunk h k).toLoadRect (View.loadsAt_vmem h_S1x16x256))
  let b : Vec F S1x16x256 .f32 ← Prog.lift (.load arg11 (rChunk h k).toLoadRect (View.loadsAt_vmem h_S1x16x256))
  let _ : Vec F S1x16x256 .f32 ← Prog.lift (.load arg12 (rChunk h k).toLoadRect (View.loadsAt_vmem h_S1x16x256))
  Prog.lift (.store arg12 (rChunk h k) (shapeCast S1x16x256 (keepIf v13 v14 k (shifted sc s b)) shapeCasts_S16x256_S1x16x256) Finset.univ (View.stores_vmem_bits_univ h_S1x16x256 rfl) (.inl rfl))
  pure (maxOf mx (keepIf v13 v14 k (shifted sc s b)))

/-- One chunk of the second pass. -/
def sumStep (m : FVec F S1x256 .f32) (arg12 : Memref sig .tc .vmem S8x768x256 .f32) (arg13 : Memref sig .tc .vmem S8x768x256 .bf16) (harg13 : arg13.IsWhole) (h : Fin 8) (k : Fin 48)
    (ls : FVec F S8x256 .f32) : Pr F (FVec F S8x256 .f32) := do
  let u : Vec F S1x16x256 .f32 ← Prog.lift (.load arg12 (rChunk h k).toLoadRect (View.loadsAt_vmem h_S1x16x256))
  let _ : Vec F S1x16x256 .bf16 ← Prog.lift (.load arg13 (rChunk h k).toLoadRect (View.loadsAt_vmem h_S1x16x256))
  Prog.lift (.store arg13 (rChunk h k) (shapeCast S1x16x256 (truncf .bf16 (powOf m u) bitsLt_bf16_f32) shapeCasts_S16x256_S1x16x256) Finset.univ
    (View.stores_vmem h_S1x16x256 (harg13.storeExact_slice rfl _ (packed_chunk h k)) (fun _ => rfl)) (.inl rfl))
  pure (sumOf ls (powOf m u))

/-- The end of a head: its values weighted, divided, gated and stored. -/
def outStep (arg5 arg6 arg7 : Memref sig .tc .vmem S1x1x1024x256 .bf16) (arg8 : Memref sig .tc .vmem S256x1024 .f32) (arg10 : Memref sig .tc .vmem S256x1024 .bf16) (harg10 : arg10.IsWhole)
    (arg13 : Memref sig .tc .vmem S8x768x256 .bf16) (h : Fin 8) (ls : FVec F S8x256 .f32) : Pr F PUnit := do
  let x0 : Vec F S1x1x128x256 .bf16 ← Prog.lift (.load arg5 (rHeadT h).toLoadRect (View.loadsAt_vmem h_S1x1x128x256))
  let p0 : Vec F S1x256x256 .bf16 ← Prog.lift (.load arg13 (rPiece h 0).toLoadRect (View.loadsAt_vmem h_S1x256x256))
  let x1 : Vec F S1x1x128x256 .bf16 ← Prog.lift (.load arg6 (rHeadT h).toLoadRect (View.loadsAt_vmem h_S1x1x128x256))
  let p1 : Vec F S1x256x256 .bf16 ← Prog.lift (.load arg13 (rPiece h 1).toLoadRect (View.loadsAt_vmem h_S1x256x256))
  let x2 : Vec F S1x1x128x256 .bf16 ← Prog.lift (.load arg7 (rHeadT h).toLoadRect (View.loadsAt_vmem h_S1x1x128x256))
  let p2 : Vec F S1x256x256 .bf16 ← Prog.lift (.load arg13 (rPiece h 2).toLoadRect (View.loadsAt_vmem h_S1x256x256))
  let g : Vec F S256x128 .f32 ← Prog.lift (.load arg8 (rHead h).toLoadRect (View.loadsAt_vmem h_S256x128))
  let _ : Vec F S256x128 .bf16 ← Prog.lift (.load arg10 (rHead h).toLoadRect (View.loadsAt_vmem h_S256x128))
  Prog.lift (.store arg10 (rHead h) (headOut ls (valueOf x0 p0) (valueOf x1 p1) (valueOf x2 p2) g) Finset.univ
    (View.stores_vmem h_S256x128 (harg10.storeExact_slice rfl _ (packed_head h)) (fun _ => rfl)) (.inl rfl))

/-- One head after its scores. -/
def headStep (sc : F .f32) (v13 v14 : BitVec 1) (arg5 arg6 arg7 : Memref sig .tc .vmem S1x1x1024x256 .bf16) (arg8 : Memref sig .tc .vmem S256x1024 .f32)
    (arg10 : Memref sig .tc .vmem S256x1024 .bf16) (harg10 : arg10.IsWhole) (arg11 arg12 : Memref sig .tc .vmem S8x768x256 .f32)
    (arg13 : Memref sig .tc .vmem S8x768x256 .bf16) (harg13 : arg13.IsWhole) (h : Fin 8) (_ : PUnit) : Pr F PUnit := do
  let mx ← steps 48 (maxStep sc v13 v14 arg11 arg12 h) 48 (Nat.le_refl 48) (broadcast S8x256 ninf)
  let ls ← steps 48 (sumStep (rowMax mx) arg12 arg13 harg13 h) 48 (Nat.le_refl 48) (broadcast S8x256 (Scalar.ofBits .f32 0x00000000#32))
  outStep arg5 arg6 arg7 arg8 arg10 harg10 arg13 h ls

/-- The tile's number within its sequence, as the program computes it from the grid point. -/
def tileOf (arg0 : BitVec 32) : BitVec 32 :=
  let v4 : BitVec 32 := Scalar.select (Scalar.cmpi .eq 16#32 0#32) 1#32 16#32
  let v5 : BitVec 32 := Scalar.remsi arg0 v4
  Scalar.select (Scalar.andi (Scalar.xori (Scalar.cmpi .slt v5 0#32) (Scalar.cmpi .slt v4 0#32)) (Scalar.cmpi .ne v5 0#32)) (Scalar.addi v5 v4) v5

/-- Whether the tile has a tile two before it in its sequence, and one before it. -/
def flag0 (i : grid0.Coords) : BitVec 1 := Scalar.cmpi .sge (tileOf (BitVec.ofNat 32 (i 0).val)) 2#32
def flag1 (i : grid0.Coords) : BitVec 1 := Scalar.cmpi .sge (tileOf (BitVec.ofNat 32 (i 0).val)) 1#32

/-- The whole body after the biases. -/
def mainBody (sc : F .f32) (v13 v14 : BitVec 1) (arg1 : Memref sig .tc .vmem S1x1x1024x256 .bf16) (arg2 arg3 arg4 : Memref sig .tc .vmem S256x1024 .bf16)
    (arg5 arg6 arg7 : Memref sig .tc .vmem S1x1x1024x256 .bf16) (arg8 : Memref sig .tc .vmem S256x1024 .f32)
    (arg10 : Memref sig .tc .vmem S256x1024 .bf16) (harg10 : arg10.IsWhole) (arg11 arg12 : Memref sig .tc .vmem S8x768x256 .f32)
    (arg13 : Memref sig .tc .vmem S8x768x256 .bf16) (harg13 : arg13.IsWhole) : Pr F PUnit := do
  steps 8 (scoreStep arg1 arg2 arg3 arg4 arg12) 8 (Nat.le_refl 8) ⟨⟩
  steps 8 (headStep sc v13 v14 arg5 arg6 arg7 arg8 arg10 harg10 arg11 arg12 arg13 harg13) 8 (Nat.le_refl 8) ⟨⟩

end Cert.KernelIdeal.MixerA
-- ==== Proof.MixerA.Rules.lean ====
/- Loads and stores of a memref owned by its values, and the rule of a run of numbered steps. -/
module

public import proofs.«01_k».proof.Proof.MixerA.Body
public import Idealize.ShloMosaic.Lib.VecWindow
public import Idealize.ShloMosaic.Lib.Tactic

@[expose] public section

noncomputable section

namespace Cert.KernelIdeal.MixerA

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

/-- The body's weakest precondition on core `c`. -/
abbrev wpc (defs : Defs nD τ sig (Elt F) Λ₀) (c : Dev nD) (E : Set ℕ) {α : Type} (p : Pr F α) (Q : α → sProp 𝕄) : sProp 𝕄 :=
  wp frame (wpE defs Variants.none (c : Thread nD τ) none) E p Q

section Access

variable {defs : Defs nD τ sig (Elt F) Λ₀} {c : Dev nD} {E : Set ℕ} {α : Type} {s : Shape} {e : EltTy}

/-- A load reads a window of the values owned. -/
theorem load_owns {m : Memref sig .tc .vmem s e} {r : Rect s} {hl : m.view.LoadsAt r.toLoadRect} {x : s.Idx → Elt F e}
    {k : (r.shape.Idx → Elt F e) → Pr F α} {Q : α → sProp 𝕄} :
    (owns (c : Thread nD τ) m fullShare x : sProp 𝕄)
      ⊢ iprop((owns (c : Thread nD τ) m fullShare x -∗ wpc defs c E (k (View.ld x r)) Q)
        -∗ wpc defs c E (Prog.lift (.load m r.toLoadRect hl) >>= k) Q) := by
  unfold owns
  iintro ⟨%f, %hf, H⟩ Hk
  subst hf
  iapply (wp_load (defs := defs) Variants.none (c : Thread nD τ) none E (m := m) (r := r.toLoadRect) (hl := hl) (k := k) (Q := Q)
    (S := m.view.set) (q := fullShare) (f := f) (View.setOn_subset_set _ _)) $$ H
  iintro H
  iapply Hk
  iexists f
  isplitr
  · ipureintro; rfl
  iexact H

/-- A store over a box puts its values there. -/
theorem store_owns {m : Memref sig .tc .vmem s e} {off size : Fin s.rank → ℕ} {inb : ∀ a, off a + size a ≤ s.size a}
    {w : (Rect.unit off size inb).shape.Idx → Elt F e}
    {hx : (m.access (Rect.unit off size inb)).Stores Finset.univ} {hm : Finset.univ = Finset.univ ∨ ∀ a, (Rect.unit off size inb).stride a = 1}
    {x : s.Idx → Elt F e} {k : PUnit → Pr F α} {Q : α → sProp 𝕄} :
    (owns (c : Thread nD τ) m fullShare x : sProp 𝕄)
      ⊢ iprop((owns (c : Thread nD τ) m fullShare (VecWindow.put x off size w) -∗ wpc defs c E (k ⟨⟩) Q)
        -∗ wpc defs c E (Prog.lift (.store m (Rect.unit off size inb) w Finset.univ hx hm) >>= k) Q) := by
  unfold owns
  iintro ⟨%f, %hf, H⟩ Hk
  subst hf
  iapply (wp_store (defs := defs) Variants.none (c : Thread nD τ) none E (m := m) (r := Rect.unit off size inb) (w := w) (hx := hx) (hm := hm) (k := k) (Q := Q)
    (S := m.view.set) (f := f) (View.set_slice_subset _ _)) $$ H
  iintro H
  iapply Hk
  iexists ((m.access (Rect.unit off size inb)).write (Elt F) f w Finset.univ)
  isplitr
  · ipureintro
    exact View.read_writes_cons_put m.view f inb w [] rfl
  iexact H

/-- A store that ends the program. -/
theorem store_owns_last {m : Memref sig .tc .vmem s e} {off size : Fin s.rank → ℕ} {inb : ∀ a, off a + size a ≤ s.size a}
    {w : (Rect.unit off size inb).shape.Idx → Elt F e}
    {hx : (m.access (Rect.unit off size inb)).Stores Finset.univ} {hm : Finset.univ = Finset.univ ∨ ∀ a, (Rect.unit off size inb).stride a = 1}
    {x : s.Idx → Elt F e} {Q : PUnit → sProp 𝕄} :
    (owns (c : Thread nD τ) m fullShare x : sProp 𝕄)
      ⊢ iprop((owns (c : Thread nD τ) m fullShare (VecWindow.put x off size w) -∗ Q ⟨⟩)
        -∗ wpc defs c E (Prog.lift (.store m (Rect.unit off size inb) w Finset.univ hx hm)) Q) :=
  (store_owns (defs := defs) (c := c) (E := E) (m := m) (off := off) (size := size) (inb := inb) (w := w) (hx := hx) (hm := hm) (x := x) (k := fun a => pure a) (Q := Q)).trans
    (wand_mono_left (wand_mono_right (le_wp_ret _ _ _ _ _)))

end Access

/-- Numbered steps: what holds before step `j` with the value `v j` holds before step `j + 1` with the value `v (j + 1)`. -/
theorem wp_steps {defs : Defs nD τ sig (Elt F) Λ₀} {c : Dev nD} {E : Set ℕ} {α : Type} (N : ℕ) (f : Fin N → α → Pr F α)
    (v : ℕ → α) (R : ℕ → sProp 𝕄)
    (h : ∀ j : Fin N, R j.val ⊢ wpc defs c E (f j (v j.val)) (fun a => iprop(⌜a = v (j.val + 1)⌝ ∗ R (j.val + 1)))) :
    ∀ (n : ℕ) (hn : n ≤ N), R (N - n) ⊢ wpc defs c E (steps N f n hn (v (N - n))) (fun a => iprop(⌜a = v N⌝ ∗ R N))
  | 0, hn => by
    show R N ⊢ wp frame (wpE defs Variants.none (c : Thread nD τ) none) E (pure (v N)) _
    rw [wp_pure]
    iintro H
    imodintro
    isplitr
    · ipureintro; rfl
    iexact H
  | n + 1, hn => by
    show R (N - (n + 1)) ⊢ wp frame (wpE defs Variants.none (c : Thread nD τ) none) E
      (f ⟨N - (n + 1), by omega⟩ (v (N - (n + 1))) >>= fun a' => steps N f n (Nat.le_of_succ_le hn) a') _
    rw [wp_bind]
    refine (h ⟨N - (n + 1), by omega⟩).trans (wp_mono _ _ _ fun a => ?_)
    have e : N - (n + 1) + 1 = N - n := by omega
    have ih := wp_steps N f v R h n (Nat.le_of_succ_le hn)
    dsimp only
    rw [e]
    iintro ⟨%ha, H⟩
    subst ha
    iapply ih
    iexact H

/-- A program with a known result, run before another. -/
theorem seq_spec {defs : Defs nD τ sig (Elt F) Λ₀} {c : Dev nD} {E : Set ℕ} {α β : Type} {p : Pr F β} {v : β} {A B : sProp 𝕄}
    (h : A ⊢ wpc defs c E p (fun b => iprop(⌜b = v⌝ ∗ B))) {k : β → Pr F α} {Q : α → sProp 𝕄} :
    A ⊢ iprop((B -∗ wpc defs c E (k v) Q) -∗ wpc defs c E (p >>= k) Q) := by
  show A ⊢ iprop((B -∗ wpc defs c E (k v) Q) -∗ wp frame (wpE defs Variants.none (c : Thread nD τ) none) E (p >>= k) Q)
  rw [wp_bind]
  refine (h.trans (wp_wand frame (wpE defs Variants.none (c : Thread nD τ) none) E (Q' := fun a => wp frame (wpE defs Variants.none (c : Thread nD τ) none) E (k a) Q))).trans (wand_mono_left ?_)
  iintro Hk %b ⟨%hb, HB⟩
  subst hb
  iapply Hk
  iexact HB

/-- A program with a known result that ends the run. -/
theorem last_spec {defs : Defs nD τ sig (Elt F) Λ₀} {c : Dev nD} {E : Set ℕ} {β : Type} {p : Pr F β} {v : β} {A B : sProp 𝕄}
    (h : A ⊢ wpc defs c E p (fun b => iprop(⌜b = v⌝ ∗ B))) {Q : β → sProp 𝕄} :
    A ⊢ iprop((B -∗ Q v) -∗ wpc defs c E p Q) := by
  refine (h.trans (wp_wand frame (wpE defs Variants.none (c : Thread nD τ) none) E (Q' := Q))).trans (wand_mono_left ?_)
  iintro Hk %b ⟨%hb, HB⟩
  subst hb
  iapply Hk
  iexact HB

/-- A program that only returns. -/
theorem pure_spec {defs : Defs nD τ sig (Elt F) Λ₀} {c : Dev nD} {E : Set ℕ} {α : Type} (v : α) {Q : α → sProp 𝕄} :
    Q v ⊢ wpc defs c E (pure v) Q := by
  show Q v ⊢ wp frame (wpE defs Variants.none (c : Thread nD τ) none) E (pure v) Q
  rw [wp_pure]
  iintro H
  imodintro
  iexact H

section Mix

variable {s : Shape} {α : Type}

open Classical in
/-- `G` where `P` holds, `X` elsewhere. -/
def mix (P : s.Idx → Prop) (G X : s.Idx → α) : s.Idx → α := fun y => if P y then G y else X y

/-- Putting `G`'s values over a box widens the part that is `G`. -/
theorem put_mix {P P' : s.Idx → Prop} {G X : s.Idx → α} {off size : Fin s.rank → ℕ} {w : ((a : Fin s.rank) → Fin (size a)) → α}
    (hw : ∀ (y : s.Idx) (h : ∀ a, off a ≤ (y a).val ∧ (y a).val < off a + size a), w (Rect.unitLocal (s := s) (off := off) (size := size) y h) = G y)
    (hP : ∀ y : s.Idx, P' y ↔ P y ∨ ∀ a, off a ≤ (y a).val ∧ (y a).val < off a + size a) :
    VecWindow.put (mix P G X) off size w = mix P' G X := by
  funext y
  unfold VecWindow.put mix
  by_cases h : ∀ a, off a ≤ (y a).val ∧ (y a).val < off a + size a
  · rw [dif_pos h, hw y h, if_pos ((hP y).mpr (.inr h))]
  · rw [dif_neg h]
    by_cases hp : P y
    · rw [if_pos hp, if_pos ((hP y).mpr (.inl hp))]
    · rw [if_neg hp, if_neg fun h' => ((hP y).mp h').elim hp h]

theorem mix_congr {P P' : s.Idx → Prop} {G X : s.Idx → α} (h : ∀ y, P y ↔ P' y) : mix P G X = mix P' G X := by
  rw [show P = P' from funext fun y => propext (h y)]
theorem mix_none {P : s.Idx → Prop} {G X : s.Idx → α} (h : ∀ y, ¬ P y) : mix P G X = X := funext fun y => if_neg (h y)
theorem mix_all {P : s.Idx → Prop} {G X : s.Idx → α} (h : ∀ y, P y) : mix P G X = G := funext fun y => if_pos (h y)

variable {F : FTy → Type} {e : EltTy}

theorem ld_mix_in {P : s.Idx → Prop} {G X : s.Idx → Elt F e} {r : Rect s} (h : ∀ z, P (r.emb z)) : View.ld (Val := Elt F) (mix P G X) r = View.ld (Val := Elt F) G r :=
  funext fun z => if_pos (h z)
theorem ld_mix_out {P : s.Idx → Prop} {G X : s.Idx → Elt F e} {r : Rect s} (h : ∀ z, ¬ P (r.emb z)) : View.ld (Val := Elt F) (mix P G X) r = View.ld (Val := Elt F) X r :=
  funext fun z => if_neg (h z)

end Mix

end Cert.KernelIdeal.MixerA
-- ==== Proof.MixerA.Contents.lean ====
/- What the body leaves, as functions of what it reads: the biases, the scores, the shifted and masked scores, the
   powers, and a block of the result. Each is a function of an index, which picks the head and the piece or chunk the
   program handles there. -/
module

public import proofs.«01_k».proof.Proof.MixerA.Rules

@[expose] public section

noncomputable section

namespace Cert.KernelIdeal.MixerA

open Idealize.ShloMosaic Cert.KernelIdeal Cert.KernelIdeal.Gen

variable {F : FTy → Type} [FloatOps F]

/-- An index of a scratch buffer: its head, its chunk, its piece. -/
abbrev headOf (y : S8x768x256.Idx) : Fin 8 := ⟨(y 0).val, (y 0).isLt⟩
abbrev chunkIx (y : S8x768x256.Idx) : Fin 48 := ⟨(y 1).val / 16, by have : (y 1).val < 768 := (y 1).isLt; omega⟩
abbrev pieceIx (y : S8x768x256.Idx) : Fin 3 := ⟨(y 1).val / 256, by have : (y 1).val < 768 := (y 1).isLt; omega⟩
/-- The head of a column of a block of rows. -/
abbrev colHead (y : S256x1024.Idx) : Fin 8 := ⟨(y 1).val / 128, by have : (y 1).val < 1024 := (y 1).isLt; omega⟩

theorem mem_plane (y : S8x768x256.Idx) : ∀ a, (![(headOf y).val, 0, 0] : Fin 3 → Nat) a ≤ (y a).val ∧ (y a).val < (![(headOf y).val, 0, 0] : Fin 3 → Nat) a + S1x768x256.size a := by
  intro a
  have h1 : (y 1).val < 768 := (y 1).isLt
  have h2 : (y 2).val < 256 := (y 2).isLt
  fin_cases a <;> simp <;> omega
theorem mem_piece (y : S8x768x256.Idx) : ∀ a, (![(headOf y).val, 256 * (pieceIx y).val, 0] : Fin 3 → Nat) a ≤ (y a).val ∧ (y a).val < (![(headOf y).val, 256 * (pieceIx y).val, 0] : Fin 3 → Nat) a + S1x256x256.size a := by
  intro a
  have h1 : (y 1).val < 768 := (y 1).isLt
  have h2 : (y 2).val < 256 := (y 2).isLt
  fin_cases a <;> simp <;> omega
theorem mem_chunk (y : S8x768x256.Idx) : ∀ a, (![(headOf y).val, 16 * (chunkIx y).val, 0] : Fin 3 → Nat) a ≤ (y a).val ∧ (y a).val < (![(headOf y).val, 16 * (chunkIx y).val, 0] : Fin 3 → Nat) a + S1x16x256.size a := by
  intro a
  have h1 : (y 1).val < 768 := (y 1).isLt
  have h2 : (y 2).val < 256 := (y 2).isLt
  fin_cases a <;> simp <;> omega
theorem mem_head (y : S256x1024.Idx) : ∀ a, (![0, 128 * (colHead y).val] : Fin 2 → Nat) a ≤ (y a).val ∧ (y a).val < (![0, 128 * (colHead y).val] : Fin 2 → Nat) a + S256x128.size a := by
  intro a
  have h1 : (y 0).val < 256 := (y 0).isLt
  fin_cases a <;> simp <;> omega

/-- The biases of all heads. -/
def biasAll (lg : F .f32) (x9 : Vec F S8x768 .f32) : Vec F S8x768x256 .f32 := fun y =>
  shapeCast S1x768x256 (biasOf lg (View.ld (Val := Elt F) x9 (rRow (headOf y)))) shapeCasts_S768x256_S1x768x256 (Rect.unitLocal (s := S8x768x256) (size := S1x768x256.size) y (mem_plane y))

/-- The scores of all heads. -/
def scoreAll (x1 : Vec F S1x1x1024x256 .bf16) (xk : Fin 3 → Vec F S256x1024 .bf16) : Vec F S8x768x256 .f32 := fun y =>
  shapeCast S1x256x256 (scoreOf (View.ld (Val := Elt F) x1 (rHeadT (headOf y))) (View.ld (Val := Elt F) (xk (pieceIx y)) (rHead (headOf y))))
    shapeCasts_S256x256_S1x256x256 (Rect.unitLocal (s := S8x768x256) (size := S1x256x256.size) y (mem_piece y))

/-- A chunk's scores, scaled, biased and masked. -/
def chunkU (sc : F .f32) (v13 v14 : BitVec 1) (S B : Vec F S8x768x256 .f32) (h : Fin 8) (k : Fin 48) : FVec F S16x256 .f32 :=
  keepIf v13 v14 k (shifted sc (View.ld (Val := Elt F) S (rChunk h k)) (View.ld (Val := Elt F) B (rChunk h k)))

/-- The same of all heads and chunks. -/
def shiftAll (sc : F .f32) (v13 v14 : BitVec 1) (S B : Vec F S8x768x256 .f32) : Vec F S8x768x256 .f32 := fun y =>
  shapeCast S1x16x256 (chunkU sc v13 v14 S B (headOf y) (chunkIx y)) shapeCasts_S16x256_S1x16x256 (Rect.unitLocal (s := S8x768x256) (size := S1x16x256.size) y (mem_chunk y))

/-- Something folded over the first `n` of forty-eight chunks. -/
def foldChunks {α β : Type} (f : α → β → α) (a : α) (u : Fin 48 → β) (n : ℕ) : α :=
  Nat.rec (motive := fun _ => α) a (fun j r => if hj : j < 48 then f r (u ⟨j, hj⟩) else r) n

theorem foldChunks_zero {α β : Type} (f : α → β → α) (a : α) (u : Fin 48 → β) : foldChunks f a u 0 = a := rfl
theorem foldChunks_succ {α β : Type} (f : α → β → α) (a : α) (u : Fin 48 → β) (j : Fin 48) :
    foldChunks f a u (j.val + 1) = f (foldChunks f a u j.val) (u j) := dif_pos j.isLt

/-- A head's running maximum after `n` chunks, and each query's maximum. -/
def maxAt (u : Fin 48 → FVec F S16x256 .f32) (n : ℕ) : FVec F S8x256 .f32 := foldChunks maxOf (broadcast S8x256 ninf) u n
def maxAll (u : Fin 48 → FVec F S16x256 .f32) : FVec F S1x256 .f32 := rowMax (maxAt u 48)

/-- A chunk's powers, from the shifted scores stored. -/
def chunkP (U : Vec F S8x768x256 .f32) (m : FVec F S1x256 .f32) (h : Fin 8) (k : Fin 48) : FVec F S16x256 .f32 :=
  powOf m (View.ld (Val := Elt F) U (rChunk h k))

/-- The weights of all heads and chunks. -/
def powAll (U : Vec F S8x768x256 .f32) (m : Fin 8 → FVec F S1x256 .f32) : Vec F S8x768x256 .bf16 := fun y =>
  shapeCast S1x16x256 (truncf .bf16 (chunkP U (m (headOf y)) (headOf y) (chunkIx y)) bitsLt_bf16_f32 : FVec F S16x256 .bf16) shapeCasts_S16x256_S1x16x256
    (Rect.unitLocal (s := S8x768x256) (size := S1x16x256.size) y (mem_chunk y))

/-- A head's running sum after `n` chunks. -/
def sumAt (p : Fin 48 → FVec F S16x256 .f32) (n : ℕ) : FVec F S8x256 .f32 := foldChunks sumOf (broadcast S8x256 (Scalar.ofBits .f32 0x00000000#32)) p n

/-- A block of the result, from its sums and weights. -/
def outAll (ls : Fin 8 → FVec F S8x256 .f32) (xv : Fin 3 → Vec F S1x1x1024x256 .bf16) (W : Vec F S8x768x256 .bf16) (x8 : Vec F S256x1024 .f32) : Vec F S256x1024 .bf16 := fun y =>
  headOut (ls (colHead y))
    (valueOf (View.ld (Val := Elt F) (xv 0) (rHeadT (colHead y))) (View.ld (Val := Elt F) W (rPiece (colHead y) 0)))
    (valueOf (View.ld (Val := Elt F) (xv 1) (rHeadT (colHead y))) (View.ld (Val := Elt F) W (rPiece (colHead y) 1)))
    (valueOf (View.ld (Val := Elt F) (xv 2) (rHeadT (colHead y))) (View.ld (Val := Elt F) W (rPiece (colHead y) 2)))
    (View.ld (Val := Elt F) x8 (rHead (colHead y))) (Rect.unitLocal (s := S256x1024) (size := S256x128.size) y (mem_head y))

section Block

variable (sc : F .f32) (v13 v14 : BitVec 1) (S B : Vec F S8x768x256 .f32)

/-- Each head's maxima, weights and sums, from the scores and the biases. -/
def maxes (h : Fin 8) : FVec F S1x256 .f32 := maxAll (chunkU sc v13 v14 S B h)
def weights : Vec F S8x768x256 .bf16 := powAll (shiftAll sc v13 v14 S B) (maxes sc v13 v14 S B)
def sums (h : Fin 8) : FVec F S8x256 .f32 := sumAt (chunkP (shiftAll sc v13 v14 S B) (maxes sc v13 v14 S B h) h) 48

/-- The block of the result. -/
def block (x1 : Vec F S1x1x1024x256 .bf16) (xk : Fin 3 → Vec F S256x1024 .bf16) (xv : Fin 3 → Vec F S1x1x1024x256 .bf16) (x8 : Vec F S256x1024 .f32) : Vec F S256x1024 .bf16 :=
  outAll (sums sc v13 v14 (scoreAll x1 xk) B) xv (weights sc v13 v14 (scoreAll x1 xk) B) x8

end Block

end Cert.KernelIdeal.MixerA
-- ==== Proof.MixerA.Triple.lean ====
/- The body's triples: each loop leaves what Contents.lean says, from what it found. -/
module

public import proofs.«01_k».proof.Proof.MixerA.Contents

@[expose] public section

set_option maxRecDepth 16384

noncomputable section

namespace Cert.KernelIdeal.MixerA

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

variable {defs : Defs nD τ sig (Elt F) Λ₀} (c : Dev nD) {E : Set ℕ}

/-! ## Which indices lie in which box -/

theorem in_plane {h : Fin 8} {y : S8x768x256.Idx} :
    (∀ a, (![h.val, 0, 0] : Fin 3 → Nat) a ≤ (y a).val ∧ (y a).val < (![h.val, 0, 0] : Fin 3 → Nat) a + S1x768x256.size a) ↔ (y 0).val = h.val := by
  constructor
  · intro H
    have H0 : h.val ≤ (y 0).val ∧ (y 0).val < h.val + 1 := H 0
    omega
  · intro H
    obtain rfl : h = headOf y := Fin.ext H.symm
    exact mem_plane y

theorem in_piece {h : Fin 8} {j : Fin 3} {y : S8x768x256.Idx} :
    (∀ a, (![h.val, 256 * j.val, 0] : Fin 3 → Nat) a ≤ (y a).val ∧ (y a).val < (![h.val, 256 * j.val, 0] : Fin 3 → Nat) a + S1x256x256.size a)
      ↔ (y 0).val = h.val ∧ (y 1).val / 256 = j.val := by
  constructor
  · intro H
    have H0 : h.val ≤ (y 0).val ∧ (y 0).val < h.val + 1 := H 0
    have H1 : 256 * j.val ≤ (y 1).val ∧ (y 1).val < 256 * j.val + 256 := H 1
    omega
  · intro H
    obtain rfl : h = headOf y := Fin.ext H.1.symm
    obtain rfl : j = pieceIx y := Fin.ext H.2.symm
    exact mem_piece y

theorem in_chunk {h : Fin 8} {k : Fin 48} {y : S8x768x256.Idx} :
    (∀ a, (![h.val, 16 * k.val, 0] : Fin 3 → Nat) a ≤ (y a).val ∧ (y a).val < (![h.val, 16 * k.val, 0] : Fin 3 → Nat) a + S1x16x256.size a)
      ↔ (y 0).val = h.val ∧ (y 1).val / 16 = k.val := by
  constructor
  · intro H
    have H0 : h.val ≤ (y 0).val ∧ (y 0).val < h.val + 1 := H 0
    have H1 : 16 * k.val ≤ (y 1).val ∧ (y 1).val < 16 * k.val + 16 := H 1
    omega
  · intro H
    obtain rfl : h = headOf y := Fin.ext H.1.symm
    obtain rfl : k = chunkIx y := Fin.ext H.2.symm
    exact mem_chunk y

theorem in_head {h : Fin 8} {y : S256x1024.Idx} :
    (∀ a, (![0, 128 * h.val] : Fin 2 → Nat) a ≤ (y a).val ∧ (y a).val < (![0, 128 * h.val] : Fin 2 → Nat) a + S256x128.size a) ↔ (y 1).val / 128 = h.val := by
  constructor
  · intro H
    have H1 : 128 * h.val ≤ (y 1).val ∧ (y 1).val < 128 * h.val + 128 := H 1
    omega
  · intro H
    obtain rfl : h = colHead y := Fin.ext H.symm
    exact mem_head y

theorem emb_chunk0 (h : Fin 8) (k : Fin 48) (z : (rChunk h k).shape.Idx) : ((rChunk h k).emb z 0).val = h.val := by
  have e : ((rChunk h k).emb z 0).val = h.val + 1 * (z 0).val := rfl
  have : (z 0).val < 1 := (z 0).isLt
  omega
theorem emb_chunk1 (h : Fin 8) (k : Fin 48) (z : (rChunk h k).shape.Idx) : ((rChunk h k).emb z 1).val / 16 = k.val := by
  have e : ((rChunk h k).emb z 1).val = 16 * k.val + 1 * (z 1).val := rfl
  have : (z 1).val < 16 := (z 1).isLt
  omega
theorem emb_piece0 (h : Fin 8) (j : Fin 3) (z : (rPiece h j).shape.Idx) : ((rPiece h j).emb z 0).val = h.val := by
  have e : ((rPiece h j).emb z 0).val = h.val + 1 * (z 0).val := rfl
  have : (z 0).val < 1 := (z 0).isLt
  omega

/-! ## The biases -/

theorem biasStep_spec (lg : F .f32) (arg9 : Memref sig .tc .vmem S8x768 .f32) (arg11 : Memref sig .tc .vmem S8x768x256 .f32) (x9 : Vec F S8x768 .f32) (d : Vec F S8x768x256 .f32) (h : Fin 8) :
    (iprop(owns (c : Thread nD τ) arg9 fullShare x9 ∗ owns (c : Thread nD τ) arg11 fullShare (mix (fun y => (y 0).val < h.val) (biasAll lg x9) d)) : sProp 𝕄)
      ⊢ wpc defs c E (biasStep lg arg9 arg11 h ⟨⟩) (fun a => iprop(⌜a = ⟨⟩⌝ ∗
        (owns (c : Thread nD τ) arg9 fullShare x9 ∗ owns (c : Thread nD τ) arg11 fullShare (mix (fun y => (y 0).val < h.val + 1) (biasAll lg x9) d)))) := by
  unfold biasStep
  iintro ⟨H9, H11⟩
  iapply load_owns $$ H9
  iintro H9
  iapply load_owns $$ H11
  iintro H11
  iapply store_owns_last $$ H11
  iintro H11
  isplitr
  · ipureintro; rfl
  isplitl [H9]
  · iexact H9
  rw [put_mix (P' := fun y => (y 0).val < h.val + 1)]
  · iexact H11
  · intro y hy
    obtain rfl : h = headOf y := Fin.ext (in_plane.mp hy).symm
    rfl
  · intro y
    rw [in_plane]
    omega

theorem bias_spec (lg : F .f32) (arg9 : Memref sig .tc .vmem S8x768 .f32) (arg11 : Memref sig .tc .vmem S8x768x256 .f32) (x9 : Vec F S8x768 .f32) (d : Vec F S8x768x256 .f32) :
    (iprop(owns (c : Thread nD τ) arg9 fullShare x9 ∗ owns (c : Thread nD τ) arg11 fullShare d) : sProp 𝕄)
      ⊢ wpc defs c E (steps 8 (biasStep lg arg9 arg11) 8 (Nat.le_refl 8) ⟨⟩) (fun a => iprop(⌜a = ⟨⟩⌝ ∗
        (owns (c : Thread nD τ) arg9 fullShare x9 ∗ owns (c : Thread nD τ) arg11 fullShare (biasAll lg x9)))) := by
  have h := wp_steps (defs := defs) (c := c) (E := E) 8 (biasStep lg arg9 arg11) (fun _ => ⟨⟩)
    (fun n => iprop(owns (c : Thread nD τ) arg9 fullShare x9 ∗ owns (c : Thread nD τ) arg11 fullShare (mix (fun y => (y 0).val < n) (biasAll lg x9) d)))
    (fun j => biasStep_spec c lg arg9 arg11 x9 d j) 8 (Nat.le_refl 8)
  rw [mix_none (P := fun y : S8x768x256.Idx => (y 0).val < 8 - 8) (fun y => Nat.not_lt_zero _),
    mix_all (P := fun y : S8x768x256.Idx => (y 0).val < 8) (fun y => (y 0).isLt)] at h
  exact h

/-! ## The scores -/

theorem scorePiece_spec (arg12 : Memref sig .tc .vmem S8x768x256 .f32) (h : Fin 8) (x1 : Vec F S1x1x1024x256 .bf16) (xk : Fin 3 → Vec F S256x1024 .bf16)
    (kr : Memref sig .tc .vmem S256x1024 .bf16) (j : Fin 3) (P : S8x768x256.Idx → Prop) (d : Vec F S8x768x256 .f32) :
    (iprop(owns (c : Thread nD τ) kr fullShare (xk j) ∗ owns (c : Thread nD τ) arg12 fullShare (mix P (scoreAll x1 xk) d)) : sProp 𝕄)
      ⊢ wpc defs c E (scorePiece arg12 h (View.ld (Val := Elt F) x1 (rHeadT h)) kr j) (fun a => iprop(⌜a = ⟨⟩⌝ ∗
        (owns (c : Thread nD τ) kr fullShare (xk j)
          ∗ owns (c : Thread nD τ) arg12 fullShare (mix (fun y => P y ∨ ((y 0).val = h.val ∧ (y 1).val / 256 = j.val)) (scoreAll x1 xk) d)))) := by
  unfold scorePiece
  iintro ⟨Hk, H12⟩
  iapply load_owns $$ Hk
  iintro Hk
  iapply load_owns $$ H12
  iintro H12
  iapply store_owns_last $$ H12
  iintro H12
  isplitr
  · ipureintro; rfl
  isplitl [Hk]
  · iexact Hk
  rw [put_mix (P' := fun y => P y ∨ ((y 0).val = h.val ∧ (y 1).val / 256 = j.val))]
  · iexact H12
  · intro y hy
    obtain ⟨h0, h1⟩ := in_piece.mp hy
    obtain rfl : h = headOf y := Fin.ext h0.symm
    obtain rfl : j = pieceIx y := Fin.ext h1.symm
    rfl
  · intro y
    rw [in_piece]

/-- What the scores' loop reads, and what it has left after `n` heads. -/
def scoreState (arg1 : Memref sig .tc .vmem S1x1x1024x256 .bf16) (arg2 arg3 arg4 : Memref sig .tc .vmem S256x1024 .bf16) (arg12 : Memref sig .tc .vmem S8x768x256 .f32)
    (x1 : Vec F S1x1x1024x256 .bf16) (xk : Fin 3 → Vec F S256x1024 .bf16) (d : Vec F S8x768x256 .f32) (n : ℕ) : sProp 𝕄 :=
  iprop(owns (c : Thread nD τ) arg1 fullShare x1 ∗ owns (c : Thread nD τ) arg2 fullShare (xk 0) ∗ owns (c : Thread nD τ) arg3 fullShare (xk 1) ∗ owns (c : Thread nD τ) arg4 fullShare (xk 2)
    ∗ owns (c : Thread nD τ) arg12 fullShare (mix (fun y => (y 0).val < n) (scoreAll x1 xk) d))

theorem scoreStep_spec (arg1 : Memref sig .tc .vmem S1x1x1024x256 .bf16) (arg2 arg3 arg4 : Memref sig .tc .vmem S256x1024 .bf16) (arg12 : Memref sig .tc .vmem S8x768x256 .f32)
    (x1 : Vec F S1x1x1024x256 .bf16) (xk : Fin 3 → Vec F S256x1024 .bf16) (d : Vec F S8x768x256 .f32) (h : Fin 8) :
    scoreState c arg1 arg2 arg3 arg4 arg12 x1 xk d h.val
      ⊢ wpc defs c E (scoreStep arg1 arg2 arg3 arg4 arg12 h ⟨⟩) (fun a => iprop(⌜a = ⟨⟩⌝ ∗ scoreState c arg1 arg2 arg3 arg4 arg12 x1 xk d (h.val + 1))) := by
  unfold scoreStep scoreState
  iintro ⟨H1, H2, H3, H4, H12⟩
  iapply load_owns $$ H1
  iintro H1
  iapply (seq_spec (scorePiece_spec c arg12 h x1 xk arg2 0 _ d)) $$ [H2 H12]
  · isplitl [H2]
    · iexact H2
    iexact H12
  iintro ⟨H2, H12⟩
  iapply (seq_spec (scorePiece_spec c arg12 h x1 xk arg3 1 _ d)) $$ [H3 H12]
  · isplitl [H3]
    · iexact H3
    iexact H12
  iintro ⟨H3, H12⟩
  iapply (last_spec (scorePiece_spec c arg12 h x1 xk arg4 2 _ d)) $$ [H4 H12]
  · isplitl [H4]
    · iexact H4
    iexact H12
  iintro ⟨H4, H12⟩
  isplitr
  · ipureintro; rfl
  isplitl [H1]
  · iexact H1
  isplitl [H2]
  · iexact H2
  isplitl [H3]
  · iexact H3
  isplitl [H4]
  · iexact H4
  rw [mix_congr (P' := fun y => (y 0).val < h.val + 1)]
  · iexact H12
  · intro y
    have h1 : (y 1).val < 768 := (y 1).isLt
    show (((_ ∨ _ ∧ _ = 0) ∨ _ ∧ _ = 1) ∨ _ ∧ _ = 2) ↔ _
    omega

theorem score_spec (arg1 : Memref sig .tc .vmem S1x1x1024x256 .bf16) (arg2 arg3 arg4 : Memref sig .tc .vmem S256x1024 .bf16) (arg12 : Memref sig .tc .vmem S8x768x256 .f32)
    (x1 : Vec F S1x1x1024x256 .bf16) (xk : Fin 3 → Vec F S256x1024 .bf16) (d : Vec F S8x768x256 .f32) :
    (iprop(owns (c : Thread nD τ) arg1 fullShare x1 ∗ owns (c : Thread nD τ) arg2 fullShare (xk 0) ∗ owns (c : Thread nD τ) arg3 fullShare (xk 1) ∗ owns (c : Thread nD τ) arg4 fullShare (xk 2)
        ∗ owns (c : Thread nD τ) arg12 fullShare d) : sProp 𝕄)
      ⊢ wpc defs c E (steps 8 (scoreStep arg1 arg2 arg3 arg4 arg12) 8 (Nat.le_refl 8) ⟨⟩) (fun a => iprop(⌜a = ⟨⟩⌝ ∗
        (owns (c : Thread nD τ) arg1 fullShare x1 ∗ owns (c : Thread nD τ) arg2 fullShare (xk 0) ∗ owns (c : Thread nD τ) arg3 fullShare (xk 1) ∗ owns (c : Thread nD τ) arg4 fullShare (xk 2)
          ∗ owns (c : Thread nD τ) arg12 fullShare (scoreAll x1 xk)))) := by
  have h := wp_steps (defs := defs) (c := c) (E := E) 8 (scoreStep arg1 arg2 arg3 arg4 arg12) (fun _ => ⟨⟩)
    (scoreState c arg1 arg2 arg3 arg4 arg12 x1 xk d) (fun j => scoreStep_spec c arg1 arg2 arg3 arg4 arg12 x1 xk d j) 8 (Nat.le_refl 8)
  unfold scoreState at h
  rw [mix_none (P := fun y : S8x768x256.Idx => (y 0).val < 8 - 8) (fun y => Nat.not_lt_zero _),
    mix_all (P := fun y : S8x768x256.Idx => (y 0).val < 8) (fun y => (y 0).isLt)] at h
  exact h

/-! ## The two passes over a head's chunks -/

section Passes

variable (sc : F .f32) (v13 v14 : BitVec 1) (S B : Vec F S8x768x256 .f32) (h : Fin 8)

/-- The indices handled when `n` chunks of head `h` are done. -/
abbrev done (n : ℕ) (y : S8x768x256.Idx) : Prop := (y 0).val < h.val ∨ ((y 0).val = h.val ∧ (y 1).val / 16 < n)

theorem maxStep_spec (arg11 arg12 : Memref sig .tc .vmem S8x768x256 .f32) (k : Fin 48) :
    (iprop(owns (c : Thread nD τ) arg11 fullShare B ∗ owns (c : Thread nD τ) arg12 fullShare (mix (done h k.val) (shiftAll sc v13 v14 S B) S)) : sProp 𝕄)
      ⊢ wpc defs c E (maxStep sc v13 v14 arg11 arg12 h k (maxAt (chunkU sc v13 v14 S B h) k.val)) (fun a => iprop(⌜a = maxAt (chunkU sc v13 v14 S B h) (k.val + 1)⌝ ∗
        (owns (c : Thread nD τ) arg11 fullShare B ∗ owns (c : Thread nD τ) arg12 fullShare (mix (done h (k.val + 1)) (shiftAll sc v13 v14 S B) S)))) := by
  unfold maxStep
  iintro ⟨H11, H12⟩
  iapply load_owns $$ H12
  iintro H12
  rw [ld_mix_out (fun z => by
    have h0 := emb_chunk0 h k z
    have h1 := emb_chunk1 h k z
    show ¬ (_ ∨ _)
    omega)]
  iapply load_owns $$ H11
  iintro H11
  iapply load_owns $$ H12
  iintro H12
  iapply store_owns $$ H12
  iintro H12
  rw [put_mix (P' := done h (k.val + 1))]
  · iapply pure_spec
    isplitr
    · ipureintro; exact (foldChunks_succ maxOf _ (chunkU sc v13 v14 S B h) k).symm
    isplitl [H11]
    · iexact H11
    iexact H12
  · intro y hy
    obtain ⟨h0, h1⟩ := in_chunk.mp hy
    obtain rfl : h = headOf y := Fin.ext h0.symm
    obtain rfl : k = chunkIx y := Fin.ext h1.symm
    rfl
  · intro y
    rw [in_chunk]
    show (_ ∨ _) ↔ ((_ ∨ _) ∨ _)
    omega

theorem max_spec (arg11 arg12 : Memref sig .tc .vmem S8x768x256 .f32) :
    (iprop(owns (c : Thread nD τ) arg11 fullShare B ∗ owns (c : Thread nD τ) arg12 fullShare (mix (fun y => (y 0).val < h.val) (shiftAll sc v13 v14 S B) S)) : sProp 𝕄)
      ⊢ wpc defs c E (steps 48 (maxStep sc v13 v14 arg11 arg12 h) 48 (Nat.le_refl 48) (broadcast S8x256 ninf)) (fun a => iprop(⌜a = maxAt (chunkU sc v13 v14 S B h) 48⌝ ∗
        (owns (c : Thread nD τ) arg11 fullShare B ∗ owns (c : Thread nD τ) arg12 fullShare (mix (fun y => (y 0).val < h.val + 1) (shiftAll sc v13 v14 S B) S)))) := by
  have hs := wp_steps (defs := defs) (c := c) (E := E) 48 (maxStep sc v13 v14 arg11 arg12 h) (maxAt (chunkU sc v13 v14 S B h))
    (fun n => iprop(owns (c : Thread nD τ) arg11 fullShare B ∗ owns (c : Thread nD τ) arg12 fullShare (mix (done h n) (shiftAll sc v13 v14 S B) S)))
    (fun k => maxStep_spec c sc v13 v14 S B h arg11 arg12 k) 48 (Nat.le_refl 48)
  rw [mix_congr (P := done h (48 - 48)) (P' := fun y => (y 0).val < h.val) (fun y => by show (_ ∨ _) ↔ _; omega),
    mix_congr (P := done h 48) (P' := fun y => (y 0).val < h.val + 1) (fun y => by
      have h1 : (y 1).val < 768 := (y 1).isLt
      show (_ ∨ _) ↔ _; omega)] at hs
  exact hs

theorem sumStep_spec (U : Vec F S8x768x256 .f32) (m : Fin 8 → FVec F S1x256 .f32) (arg12 : Memref sig .tc .vmem S8x768x256 .f32) (arg13 : Memref sig .tc .vmem S8x768x256 .bf16) (harg13 : arg13.IsWhole)
    (d : Vec F S8x768x256 .bf16) (k : Fin 48) :
    (iprop(owns (c : Thread nD τ) arg12 fullShare (mix (fun y => (y 0).val < h.val + 1) U S) ∗ owns (c : Thread nD τ) arg13 fullShare (mix (done h k.val) (powAll U m) d)) : sProp 𝕄)
      ⊢ wpc defs c E (sumStep (m h) arg12 arg13 harg13 h k (sumAt (chunkP U (m h) h) k.val)) (fun a => iprop(⌜a = sumAt (chunkP U (m h) h) (k.val + 1)⌝ ∗
        (owns (c : Thread nD τ) arg12 fullShare (mix (fun y => (y 0).val < h.val + 1) U S) ∗ owns (c : Thread nD τ) arg13 fullShare (mix (done h (k.val + 1)) (powAll U m) d)))) := by
  unfold sumStep
  iintro ⟨H12, H13⟩
  iapply load_owns $$ H12
  iintro H12
  rw [ld_mix_in (fun z => by
    have h0 := emb_chunk0 h k z
    show _ < _
    omega)]
  iapply load_owns $$ H13
  iintro H13
  iapply store_owns $$ H13
  iintro H13
  rw [put_mix (P' := done h (k.val + 1))]
  · iapply pure_spec
    isplitr
    · ipureintro; exact (foldChunks_succ sumOf _ (chunkP U (m h) h) k).symm
    isplitl [H12]
    · iexact H12
    iexact H13
  · intro y hy
    obtain ⟨h0, h1⟩ := in_chunk.mp hy
    obtain rfl : h = headOf y := Fin.ext h0.symm
    obtain rfl : k = chunkIx y := Fin.ext h1.symm
    rfl
  · intro y
    rw [in_chunk]
    show (_ ∨ _) ↔ ((_ ∨ _) ∨ _)
    omega

theorem sum_spec (U : Vec F S8x768x256 .f32) (m : Fin 8 → FVec F S1x256 .f32) (arg12 : Memref sig .tc .vmem S8x768x256 .f32) (arg13 : Memref sig .tc .vmem S8x768x256 .bf16) (harg13 : arg13.IsWhole)
    (d : Vec F S8x768x256 .bf16) :
    (iprop(owns (c : Thread nD τ) arg12 fullShare (mix (fun y => (y 0).val < h.val + 1) U S) ∗ owns (c : Thread nD τ) arg13 fullShare (mix (fun y => (y 0).val < h.val) (powAll U m) d)) : sProp 𝕄)
      ⊢ wpc defs c E (steps 48 (sumStep (m h) arg12 arg13 harg13 h) 48 (Nat.le_refl 48) (broadcast S8x256 (Scalar.ofBits .f32 0x00000000#32))) (fun a => iprop(⌜a = sumAt (chunkP U (m h) h) 48⌝ ∗
        (owns (c : Thread nD τ) arg12 fullShare (mix (fun y => (y 0).val < h.val + 1) U S) ∗ owns (c : Thread nD τ) arg13 fullShare (mix (fun y => (y 0).val < h.val + 1) (powAll U m) d)))) := by
  have hs := wp_steps (defs := defs) (c := c) (E := E) 48 (sumStep (m h) arg12 arg13 harg13 h) (sumAt (chunkP U (m h) h))
    (fun n => iprop(owns (c : Thread nD τ) arg12 fullShare (mix (fun y => (y 0).val < h.val + 1) U S) ∗ owns (c : Thread nD τ) arg13 fullShare (mix (done h n) (powAll U m) d)))
    (fun k => sumStep_spec c S h U m arg12 arg13 harg13 d k) 48 (Nat.le_refl 48)
  rw [mix_congr (P := done h (48 - 48)) (P' := fun y => (y 0).val < h.val) (fun y => by show (_ ∨ _) ↔ _; omega),
    mix_congr (P := done h 48) (P' := fun y => (y 0).val < h.val + 1) (fun y => by
      have h1 : (y 1).val < 768 := (y 1).isLt
      show (_ ∨ _) ↔ _; omega)] at hs
  exact hs

end Passes

/-! ## A head's result, and all heads -/

/-- The result's columns of the first `n` heads. -/
def colsDone (n : ℕ) (y : S256x1024.Idx) : Prop := (y 1).val / 128 < n

theorem outStep_spec (arg5 arg6 arg7 : Memref sig .tc .vmem S1x1x1024x256 .bf16) (arg8 : Memref sig .tc .vmem S256x1024 .f32) (arg10 : Memref sig .tc .vmem S256x1024 .bf16) (harg10 : arg10.IsWhole)
    (arg13 : Memref sig .tc .vmem S8x768x256 .bf16) (h : Fin 8) (ls : Fin 8 → FVec F S8x256 .f32) (xv : Fin 3 → Vec F S1x1x1024x256 .bf16) (W d : Vec F S8x768x256 .bf16) (x8 : Vec F S256x1024 .f32)
    (d10 : Vec F S256x1024 .bf16) :
    (iprop(owns (c : Thread nD τ) arg5 fullShare (xv 0) ∗ owns (c : Thread nD τ) arg6 fullShare (xv 1) ∗ owns (c : Thread nD τ) arg7 fullShare (xv 2) ∗ owns (c : Thread nD τ) arg8 fullShare x8
        ∗ owns (c : Thread nD τ) arg10 fullShare (mix (colsDone h.val) (outAll ls xv W x8) d10)
        ∗ owns (c : Thread nD τ) arg13 fullShare (mix (fun y => (y 0).val < h.val + 1) W d)) : sProp 𝕄)
      ⊢ wpc defs c E (outStep arg5 arg6 arg7 arg8 arg10 harg10 arg13 h (ls h)) (fun a => iprop(⌜a = ⟨⟩⌝ ∗
        (owns (c : Thread nD τ) arg5 fullShare (xv 0) ∗ owns (c : Thread nD τ) arg6 fullShare (xv 1) ∗ owns (c : Thread nD τ) arg7 fullShare (xv 2) ∗ owns (c : Thread nD τ) arg8 fullShare x8
          ∗ owns (c : Thread nD τ) arg10 fullShare (mix (colsDone (h.val + 1)) (outAll ls xv W x8) d10)
          ∗ owns (c : Thread nD τ) arg13 fullShare (mix (fun y => (y 0).val < h.val + 1) W d)))) := by
  have hin : ∀ j : Fin 3, View.ld (Val := Elt F) (mix (fun y => (y 0).val < h.val + 1) W d) (rPiece h j) = View.ld (Val := Elt F) W (rPiece h j) := fun j =>
    ld_mix_in fun z => by
      have h0 := emb_piece0 h j z
      show _ < _
      omega
  unfold outStep
  iintro ⟨H5, H6, H7, H8, H10, H13⟩
  iapply load_owns $$ H5
  iintro H5
  iapply load_owns $$ H13
  iintro H13
  iapply load_owns $$ H6
  iintro H6
  iapply load_owns $$ H13
  iintro H13
  iapply load_owns $$ H7
  iintro H7
  iapply load_owns $$ H13
  iintro H13
  iapply load_owns $$ H8
  iintro H8
  iapply load_owns $$ H10
  iintro H10
  iapply store_owns_last $$ H10
  iintro H10
  rw [hin 0, hin 1, hin 2]
  rw [put_mix (P' := colsDone (h.val + 1))]
  · isplitr
    · ipureintro; rfl
    isplitl [H5]
    · iexact H5
    isplitl [H6]
    · iexact H6
    isplitl [H7]
    · iexact H7
    isplitl [H8]
    · iexact H8
    isplitl [H10]
    · iexact H10
    iexact H13
  · intro y hy
    obtain rfl : h = colHead y := Fin.ext (in_head.mp hy).symm
    rfl
  · intro y
    rw [in_head]
    unfold colsDone
    omega

section Heads

variable (sc : F .f32) (v13 v14 : BitVec 1) (S B : Vec F S8x768x256 .f32) (xv : Fin 3 → Vec F S1x1x1024x256 .bf16) (x8 : Vec F S256x1024 .f32)
variable (arg5 arg6 arg7 : Memref sig .tc .vmem S1x1x1024x256 .bf16) (arg8 : Memref sig .tc .vmem S256x1024 .f32)
  (arg10 : Memref sig .tc .vmem S256x1024 .bf16) (harg10 : arg10.IsWhole) (arg11 arg12 : Memref sig .tc .vmem S8x768x256 .f32)
  (arg13 : Memref sig .tc .vmem S8x768x256 .bf16) (harg13 : arg13.IsWhole)

/-- What the heads' loop holds after `n` heads. -/
def headState (d10 : Vec F S256x1024 .bf16) (d13 : Vec F S8x768x256 .bf16) (n : ℕ) : sProp 𝕄 :=
  iprop(owns (c : Thread nD τ) arg5 fullShare (xv 0) ∗ owns (c : Thread nD τ) arg6 fullShare (xv 1) ∗ owns (c : Thread nD τ) arg7 fullShare (xv 2) ∗ owns (c : Thread nD τ) arg8 fullShare x8
    ∗ owns (c : Thread nD τ) arg10 fullShare (mix (colsDone n) (outAll (sums sc v13 v14 S B) xv (weights sc v13 v14 S B) x8) d10)
    ∗ owns (c : Thread nD τ) arg11 fullShare B
    ∗ owns (c : Thread nD τ) arg12 fullShare (mix (fun y => (y 0).val < n) (shiftAll sc v13 v14 S B) S)
    ∗ owns (c : Thread nD τ) arg13 fullShare (mix (fun y => (y 0).val < n) (weights sc v13 v14 S B) d13))

theorem headStep_spec (d10 : Vec F S256x1024 .bf16) (d13 : Vec F S8x768x256 .bf16) (h : Fin 8) :
    headState c sc v13 v14 S B xv x8 arg5 arg6 arg7 arg8 arg10 arg11 arg12 arg13 d10 d13 h.val
      ⊢ wpc defs c E (headStep sc v13 v14 arg5 arg6 arg7 arg8 arg10 harg10 arg11 arg12 arg13 harg13 h ⟨⟩) (fun a => iprop(⌜a = ⟨⟩⌝ ∗
        headState c sc v13 v14 S B xv x8 arg5 arg6 arg7 arg8 arg10 arg11 arg12 arg13 d10 d13 (h.val + 1))) := by
  unfold headStep headState
  iintro ⟨H5, H6, H7, H8, H10, H11, H12, H13⟩
  iapply (seq_spec (max_spec c sc v13 v14 S B h arg11 arg12)) $$ [H11 H12]
  · isplitl [H11]
    · iexact H11
    iexact H12
  iintro ⟨H11, H12⟩
  iapply (seq_spec (sum_spec c S h (shiftAll sc v13 v14 S B) (maxes sc v13 v14 S B) arg12 arg13 harg13 d13)) $$ [H12 H13]
  · isplitl [H12]
    · iexact H12
    iexact H13
  iintro ⟨H12, H13⟩
  iapply (last_spec (outStep_spec c arg5 arg6 arg7 arg8 arg10 harg10 arg13 h (sums sc v13 v14 S B) xv (weights sc v13 v14 S B) d13 x8 d10)) $$ [H5 H6 H7 H8 H10 H13]
  · isplitl [H5]
    · iexact H5
    isplitl [H6]
    · iexact H6
    isplitl [H7]
    · iexact H7
    isplitl [H8]
    · iexact H8
    isplitl [H10]
    · iexact H10
    iexact H13
  iintro ⟨H5, H6, H7, H8, H10, H13⟩
  isplitr
  · ipureintro; rfl
  isplitl [H5]
  · iexact H5
  isplitl [H6]
  · iexact H6
  isplitl [H7]
  · iexact H7
  isplitl [H8]
  · iexact H8
  isplitl [H10]
  · iexact H10
  isplitl [H11]
  · iexact H11
  isplitl [H12]
  · iexact H12
  iexact H13

theorem heads_spec (d10 : Vec F S256x1024 .bf16) (d13 : Vec F S8x768x256 .bf16) :
    headState c sc v13 v14 S B xv x8 arg5 arg6 arg7 arg8 arg10 arg11 arg12 arg13 d10 d13 0
      ⊢ wpc defs c E (steps 8 (headStep sc v13 v14 arg5 arg6 arg7 arg8 arg10 harg10 arg11 arg12 arg13 harg13) 8 (Nat.le_refl 8) ⟨⟩) (fun a => iprop(⌜a = ⟨⟩⌝ ∗
        headState c sc v13 v14 S B xv x8 arg5 arg6 arg7 arg8 arg10 arg11 arg12 arg13 d10 d13 8)) :=
  wp_steps (defs := defs) (c := c) (E := E) 8 (headStep sc v13 v14 arg5 arg6 arg7 arg8 arg10 harg10 arg11 arg12 arg13 harg13) (fun _ => ⟨⟩)
    (headState c sc v13 v14 S B xv x8 arg5 arg6 arg7 arg8 arg10 arg11 arg12 arg13 d10 d13)
    (fun j => headStep_spec c sc v13 v14 S B xv x8 arg5 arg6 arg7 arg8 arg10 harg10 arg11 arg12 arg13 harg13 d10 d13 j) 8 (Nat.le_refl 8)

/-- The body after the biases: its block of the result, from the biases the scratch holds. -/
theorem mainBody_spec (arg1 : Memref sig .tc .vmem S1x1x1024x256 .bf16) (arg2 arg3 arg4 : Memref sig .tc .vmem S256x1024 .bf16)
    (x1 : Vec F S1x1x1024x256 .bf16) (xk : Fin 3 → Vec F S256x1024 .bf16) (d10 : Vec F S256x1024 .bf16) (d12 : Vec F S8x768x256 .f32) (d13 : Vec F S8x768x256 .bf16) :
    (iprop(owns (c : Thread nD τ) arg1 fullShare x1 ∗ owns (c : Thread nD τ) arg2 fullShare (xk 0) ∗ owns (c : Thread nD τ) arg3 fullShare (xk 1) ∗ owns (c : Thread nD τ) arg4 fullShare (xk 2)
        ∗ owns (c : Thread nD τ) arg5 fullShare (xv 0) ∗ owns (c : Thread nD τ) arg6 fullShare (xv 1) ∗ owns (c : Thread nD τ) arg7 fullShare (xv 2) ∗ owns (c : Thread nD τ) arg8 fullShare x8
        ∗ owns (c : Thread nD τ) arg10 fullShare d10 ∗ owns (c : Thread nD τ) arg11 fullShare B ∗ owns (c : Thread nD τ) arg12 fullShare d12 ∗ owns (c : Thread nD τ) arg13 fullShare d13) : sProp 𝕄)
      ⊢ wpc defs c E (mainBody sc v13 v14 arg1 arg2 arg3 arg4 arg5 arg6 arg7 arg8 arg10 harg10 arg11 arg12 arg13 harg13) (fun a => iprop(⌜a = ⟨⟩⌝ ∗
        (owns (c : Thread nD τ) arg1 fullShare x1 ∗ owns (c : Thread nD τ) arg2 fullShare (xk 0) ∗ owns (c : Thread nD τ) arg3 fullShare (xk 1) ∗ owns (c : Thread nD τ) arg4 fullShare (xk 2)
          ∗ owns (c : Thread nD τ) arg5 fullShare (xv 0) ∗ owns (c : Thread nD τ) arg6 fullShare (xv 1) ∗ owns (c : Thread nD τ) arg7 fullShare (xv 2) ∗ owns (c : Thread nD τ) arg8 fullShare x8
          ∗ owns (c : Thread nD τ) arg10 fullShare (block sc v13 v14 B x1 xk xv x8) ∗ owns (c : Thread nD τ) arg11 fullShare B
          ∗ (∃ d, owns (c : Thread nD τ) arg12 fullShare d) ∗ (∃ d, owns (c : Thread nD τ) arg13 fullShare d)))) := by
  have h := heads_spec (defs := defs) (E := E) c sc v13 v14 (scoreAll x1 xk) B xv x8 arg5 arg6 arg7 arg8 arg10 harg10 arg11 arg12 arg13 harg13 d10 d13
  have e10 : mix (colsDone 0) (outAll (sums sc v13 v14 (scoreAll x1 xk) B) xv (weights sc v13 v14 (scoreAll x1 xk) B) x8) d10 = d10 :=
    mix_none fun y => Nat.not_lt_zero _
  have e12 : mix (fun y : S8x768x256.Idx => (y 0).val < 0) (shiftAll sc v13 v14 (scoreAll x1 xk) B) (scoreAll x1 xk) = scoreAll x1 xk :=
    mix_none fun y => Nat.not_lt_zero _
  have e13 : mix (fun y : S8x768x256.Idx => (y 0).val < 0) (weights sc v13 v14 (scoreAll x1 xk) B) d13 = d13 :=
    mix_none fun y => Nat.not_lt_zero _
  have f10 : mix (colsDone 8) (outAll (sums sc v13 v14 (scoreAll x1 xk) B) xv (weights sc v13 v14 (scoreAll x1 xk) B) x8) d10
      = block sc v13 v14 B x1 xk xv x8 :=
    mix_all fun y => by
      have h1 : (y 1).val < 1024 := (y 1).isLt
      unfold colsDone
      omega
  unfold headState at h
  rw [e10, e12, e13, f10] at h
  unfold mainBody
  iintro ⟨H1, H2, H3, H4, H5, H6, H7, H8, H10, H11, H12, H13⟩
  iapply (seq_spec (score_spec c arg1 arg2 arg3 arg4 arg12 x1 xk d12)) $$ [H1 H2 H3 H4 H12]
  · isplitl [H1]
    · iexact H1
    isplitl [H2]
    · iexact H2
    isplitl [H3]
    · iexact H3
    isplitl [H4]
    · iexact H4
    iexact H12
  iintro ⟨H1, H2, H3, H4, H12⟩
  iapply (last_spec h) $$ [H5 H6 H7 H8 H10 H11 H12 H13]
  · isplitl [H5]
    · iexact H5
    isplitl [H6]
    · iexact H6
    isplitl [H7]
    · iexact H7
    isplitl [H8]
    · iexact H8
    isplitl [H10]
    · iexact H10
    isplitl [H11]
    · iexact H11
    isplitl [H12]
    · iexact H12
    iexact H13
  iintro ⟨H5, H6, H7, H8, H10, H11, H12, H13⟩
  isplitr
  · ipureintro; rfl
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H10]
  · iexact H10
  isplitl [H11]
  · iexact H11
  isplitl [H12]
  · iexists _
    iexact H12
  iexists _
  iexact H13

end Heads

end Cert.KernelIdeal.MixerA
-- ==== Proof.MixerA.BodyEq.lean ====
/- The printed body is the one with the loops. -/
module

public import proofs.«01_k».proof.Proof.MixerA.Body
public import Idealize.ShloMosaic.Lib.Tactic

@[expose] public section

noncomputable section

namespace Cert.KernelIdeal.MixerA

open Idealize.ShloMosaic Idealize.SL.Sem Idealize.ShloMosaic.Tactic Cert.KernelIdeal Cert.KernelIdeal.Gen

variable {F : FTy → Type} [FloatOps F] [Named F]

/-- The first statements at the first point: the biases, then the first head's queries. -/
theorem part5_pos  (i : grid0.Coords) (arg1 : Memref sig .tc .vmem S1x1x1024x256 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S1x1x1024x256 .bf16) (harg5 : arg5.IsWhole) (arg6 : Memref sig .tc .vmem S1x1x1024x256 .bf16) (harg6 : arg6.IsWhole) (arg7 : Memref sig .tc .vmem S1x1x1024x256 .bf16) (harg7 : arg7.IsWhole) (arg8 : Memref sig .tc .vmem S256x1024 .f32) (harg8 : arg8.IsWhole) (arg9 : Memref sig .tc .vmem S8x768 .f32) (harg9 : arg9.IsWhole) (arg10 : Memref sig .tc .vmem S256x1024 .bf16) (harg10 : arg10.IsWhole) (arg11 : Memref sig .tc .vmem S8x768x256 .f32) (harg11 : arg11.IsWhole) (arg12 : Memref sig .tc .vmem S8x768x256 .f32) (harg12 : arg12.IsWhole) (arg13 : Memref sig .tc .vmem S8x768x256 .bf16) (harg13 : arg13.IsWhole)
    (hc : Scalar.cmpi .ne (Scalar.extui (Scalar.cmpi .eq (BitVec.ofNat 32 (i 0).val) 0#32) : BitVec 32) 0#32 = 1#1) :
    k0_part5 (F := F) i arg1 harg1 arg2 harg2 arg3 harg3 arg4 harg4 arg5 harg5 arg6 harg6 arg7 harg7 arg8 harg8 arg9 harg9 arg10 harg10 arg11 harg11 arg12 harg12 arg13 harg13 = (do
      steps 8 (biasStep (Named.named κ "log2e" 0x3FB8AA3B#32) arg9 arg11) 8 (Nat.le_refl 8) ⟨⟩
      let q : Vec F S1x1x128x256 .bf16 ← Prog.lift (.load arg1 (rHeadT 0).toLoadRect (View.loadsAt_vmem h_S1x1x128x256))
      scorePiece arg12 0 q arg2 0
      scorePiece arg12 0 q arg3 1
      pure ⟨flag0 i, flag1 i, shapeCast S128x256 q shapeCasts_S1x1x128x256_S128x256⟩) := by
  unfold k0_part5
  dsimp only
  rw [dif_pos hc]
  sl_kernel_rfl

/-- The first statements at a later point: the first head's queries. -/
theorem part5_neg  (i : grid0.Coords) (arg1 : Memref sig .tc .vmem S1x1x1024x256 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S1x1x1024x256 .bf16) (harg5 : arg5.IsWhole) (arg6 : Memref sig .tc .vmem S1x1x1024x256 .bf16) (harg6 : arg6.IsWhole) (arg7 : Memref sig .tc .vmem S1x1x1024x256 .bf16) (harg7 : arg7.IsWhole) (arg8 : Memref sig .tc .vmem S256x1024 .f32) (harg8 : arg8.IsWhole) (arg9 : Memref sig .tc .vmem S8x768 .f32) (harg9 : arg9.IsWhole) (arg10 : Memref sig .tc .vmem S256x1024 .bf16) (harg10 : arg10.IsWhole) (arg11 : Memref sig .tc .vmem S8x768x256 .f32) (harg11 : arg11.IsWhole) (arg12 : Memref sig .tc .vmem S8x768x256 .f32) (harg12 : arg12.IsWhole) (arg13 : Memref sig .tc .vmem S8x768x256 .bf16) (harg13 : arg13.IsWhole)
    (hc : ¬ Scalar.cmpi .ne (Scalar.extui (Scalar.cmpi .eq (BitVec.ofNat 32 (i 0).val) 0#32) : BitVec 32) 0#32 = 1#1) :
    k0_part5 (F := F) i arg1 harg1 arg2 harg2 arg3 harg3 arg4 harg4 arg5 harg5 arg6 harg6 arg7 harg7 arg8 harg8 arg9 harg9 arg10 harg10 arg11 harg11 arg12 harg12 arg13 harg13 = (do
      let q : Vec F S1x1x128x256 .bf16 ← Prog.lift (.load arg1 (rHeadT 0).toLoadRect (View.loadsAt_vmem h_S1x1x128x256))
      scorePiece arg12 0 q arg2 0
      scorePiece arg12 0 q arg3 1
      pure ⟨flag0 i, flag1 i, shapeCast S128x256 q shapeCasts_S1x1x128x256_S128x256⟩) := by
  unfold k0_part5
  dsimp only
  rw [dif_neg hc]
  sl_kernel_rfl

/-- The body at the first point. -/
theorem body_pos  (i : grid0.Coords) (arg1 : Memref sig .tc .vmem S1x1x1024x256 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S1x1x1024x256 .bf16) (harg5 : arg5.IsWhole) (arg6 : Memref sig .tc .vmem S1x1x1024x256 .bf16) (harg6 : arg6.IsWhole) (arg7 : Memref sig .tc .vmem S1x1x1024x256 .bf16) (harg7 : arg7.IsWhole) (arg8 : Memref sig .tc .vmem S256x1024 .f32) (harg8 : arg8.IsWhole) (arg9 : Memref sig .tc .vmem S8x768 .f32) (harg9 : arg9.IsWhole) (arg10 : Memref sig .tc .vmem S256x1024 .bf16) (harg10 : arg10.IsWhole) (arg11 : Memref sig .tc .vmem S8x768x256 .f32) (harg11 : arg11.IsWhole) (arg12 : Memref sig .tc .vmem S8x768x256 .f32) (harg12 : arg12.IsWhole) (arg13 : Memref sig .tc .vmem S8x768x256 .bf16) (harg13 : arg13.IsWhole)

    (hc : Scalar.cmpi .ne (Scalar.extui (Scalar.cmpi .eq (BitVec.ofNat 32 (i 0).val) 0#32) : BitVec 32) 0#32 = 1#1) :
    cc0_mixer_a (F := F) i arg1 harg1 arg2 harg2 arg3 harg3 arg4 harg4 arg5 harg5 arg6 harg6 arg7 harg7 arg8 harg8 arg9 harg9 arg10 harg10 arg11 harg11 arg12 harg12 arg13 harg13
      = (do
        steps 8 (biasStep (Named.named κ "log2e" 0x3FB8AA3B#32) arg9 arg11) 8 (Nat.le_refl 8) ⟨⟩
        mainBody (Named.named κ "scale2" 0x3E0293EE#32) (flag0 i) (flag1 i) arg1 arg2 arg3 arg4 arg5 arg6 arg7 arg8 arg10 harg10 arg11 arg12 arg13 harg13) := by
  unfold cc0_mixer_a k0_part322
  rw [part5_pos i arg1 harg1 arg2 harg2 arg3 harg3 arg4 harg4 arg5 harg5 arg6 harg6 arg7 harg7 arg8 harg8 arg9 harg9 arg10 harg10 arg11 harg11 arg12 harg12 arg13 harg13 hc]
  sl_kernel_rfl

/-- The body at a later point. -/
theorem body_neg  (i : grid0.Coords) (arg1 : Memref sig .tc .vmem S1x1x1024x256 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S1x1x1024x256 .bf16) (harg5 : arg5.IsWhole) (arg6 : Memref sig .tc .vmem S1x1x1024x256 .bf16) (harg6 : arg6.IsWhole) (arg7 : Memref sig .tc .vmem S1x1x1024x256 .bf16) (harg7 : arg7.IsWhole) (arg8 : Memref sig .tc .vmem S256x1024 .f32) (harg8 : arg8.IsWhole) (arg9 : Memref sig .tc .vmem S8x768 .f32) (harg9 : arg9.IsWhole) (arg10 : Memref sig .tc .vmem S256x1024 .bf16) (harg10 : arg10.IsWhole) (arg11 : Memref sig .tc .vmem S8x768x256 .f32) (harg11 : arg11.IsWhole) (arg12 : Memref sig .tc .vmem S8x768x256 .f32) (harg12 : arg12.IsWhole) (arg13 : Memref sig .tc .vmem S8x768x256 .bf16) (harg13 : arg13.IsWhole)

    (hc : ¬ Scalar.cmpi .ne (Scalar.extui (Scalar.cmpi .eq (BitVec.ofNat 32 (i 0).val) 0#32) : BitVec 32) 0#32 = 1#1) :
    cc0_mixer_a (F := F) i arg1 harg1 arg2 harg2 arg3 harg3 arg4 harg4 arg5 harg5 arg6 harg6 arg7 harg7 arg8 harg8 arg9 harg9 arg10 harg10 arg11 harg11 arg12 harg12 arg13 harg13
      = mainBody (Named.named κ "scale2" 0x3E0293EE#32) (flag0 i) (flag1 i) arg1 arg2 arg3 arg4 arg5 arg6 arg7 arg8 arg10 harg10 arg11 arg12 arg13 harg13 := by
  unfold cc0_mixer_a k0_part322
  rw [part5_neg i arg1 harg1 arg2 harg2 arg3 harg3 arg4 harg4 arg5 harg5 arg6 harg6 arg7 harg7 arg8 harg8 arg9 harg9 arg10 harg10 arg11 harg11 arg12 harg12 arg13 harg13 hc]
  sl_kernel_rfl

end Cert.KernelIdeal.MixerA
-- ==== Proof.MixerA.Frame.lean ====
/- The kernel's run: every grid point leaves the block of the result that Contents.lean defines, and the frame. -/
module

public import proofs.«01_k».proof.Proof.MixerA.Triple
public import proofs.«01_k».proof.Proof.MixerA.BodyEq
public import proofs.«01_k».proof.Proof.Gen.KernelIdeal.Frame.Runs
public import Idealize.ShloMosaic.Lib.Claim

@[expose] public section

set_option maxRecDepth 16384

noncomputable section

namespace Cert.KernelIdeal.MixerA

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The logarithm's factor, as the program names it. -/
def lgOf : F .f32 := Named.named κ "log2e" 0x3FB8AA3B#32
/-- The scores' factor, as the program names it. -/
def scOf : F .f32 := Named.named κ "scale2" 0x3E0293EE#32

/-- The first grid point. -/
def t₀ : Fin cfg0.N := ⟨0, by rw [show cfg0.N = 32 from N_0]; omega⟩

/-- The biases the first point computes, from the table. -/
def biases (c : Dev nD) : Vec F S8x768x256 .f32 := biasAll lgOf (iblk m c 8 t₀)

/-- What point `t` leaves in the result's block. -/
def left (c : Dev nD) (t : Fin cfg0.N) : Vec F S256x1024 .bf16 :=
  block scOf (flag0 (grid0.coords t)) (flag1 (grid0.coords t)) (biases m c) (iblk m c 0 t)
    ![iblk m c 1 t, iblk m c 2 t, iblk m c 3 t] ![iblk m c 4 t, iblk m c 5 t, iblk m c 6 t] (iblk m c 7 t)

/-- Between the points: the biases stay in their scratch, the other scratch arrays hold anything. -/
def PhiS (c : Dev nD) : (n : ℕ) → n ≤ cfg0.N → sProp 𝕄
  | 0, _ => Pipeline.ΦA spec0 c
  | _ + 1, _ => iprop(iprop(owns (c : Thread nD τ) scM0_0 fullShare (biases m c) ∗ (∃ d, owns (c : Thread nD τ) scM0_1 fullShare d) ∗ (∃ d, owns (c : Thread nD τ) scM0_2 fullShare d)) ∗ (∃ r, prngReg c r))

theorem PhiS_zero (c : Dev nD) (n : ℕ) (h : n ≤ cfg0.N) (hz : n = 0) : PhiS m c n h = Pipeline.ΦA spec0 c := by
  subst hz; rfl

theorem PhiS_pos (c : Dev nD) (n : ℕ) (h : n ≤ cfg0.N) (hz : n ≠ 0) :
    PhiS m c n h = iprop(iprop(owns (c : Thread nD τ) scM0_0 fullShare (biases m c) ∗ (∃ d, owns (c : Thread nD τ) scM0_1 fullShare d) ∗ (∃ d, owns (c : Thread nD τ) scM0_2 fullShare d)) ∗ (∃ r, prngReg c r)) := by
  cases n with
  | zero => exact absurd rfl hz
  | succ n => rfl

/-- The pipeline's proof data: the inputs stay, the result's block is `left`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => left m c t
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = left m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! ## The body at a point -/

/-- What the body finds at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- What the body leaves at point `t`. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t))

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).owesAt () t.succ = (dats m 0 c).owesAt () t.castSucc from rfl,
    after0_0, after0_1, after0_2, after0_3, after0_4, after0_5, after0_6, after0_7, after0_8, after0_9]
  rw [show (dats m 0 c).Φ t.succ = PhiS m c (t.val + 1) t.isLt from rfl, PhiS_pos m c _ _ (Nat.succ_ne_zero _)]
  have hN : t.val < 32 := lt_of_lt_of_eq t.isLt (show cfg0.N = 32 from N_0)
  have main := fun d10 d12 d13 => mainBody_spec (defs := defs₀ (F := F)) (E := Set.univ) c scOf (flag0 (grid0.coords t)) (flag1 (grid0.coords t)) (biases m c)
    ![iblk m c 4 t, iblk m c 5 t, iblk m c 6 t] (iblk m c 7 t) (ms0_4 t) (ms0_5 t) (ms0_6 t) (ms0_7 t) (ms0_9 t) (hs0_9 t) scM0_0 scM0_1 scM0_2 (Memref.isWhole_whole _)
    (ms0_0 t) (ms0_1 t) (ms0_2 t) (ms0_3 t) (iblk m c 0 t) ![iblk m c 1 t, iblk m c 2 t, iblk m c 3 t] d10 d12 d13
  by_cases hz : t.val = 0
  · have ht : t = t₀ := Fin.ext hz
    rw [PhiS_castSucc m c t, PhiS_zero m c _ _ hz, PhiA0_eq]
    rw [body_pos _ _ _ _ _ _ _ _ _ _ _ _ _ _ _ _ _ _ _ _ _ _ _ _ _ _ _ ((hcond0_0 t).mpr (by omega))]
    have bias := fun d => bias_spec (defs := defs₀ (F := F)) (E := Set.univ) c lgOf (ms0_8 t) scM0_0 (iblk m c 8 t) d
    rw [show biasAll lgOf (iblk m c 8 t) = biases m c from by rw [ht]; rfl] at bias
    iintro ⟨⟨⟨⟨%e0, HS0⟩, ⟨%e1, HS1⟩, ⟨%e2, HS2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (seq_spec (bias e0)) $$ [H8 HS0]
    · isplitl [H8]
      · iexact H8
      iexact HS0
    iintro ⟨H8, HS0⟩
    iapply (last_spec (main _ e1 e2)) $$ [H0 H1 H2 H3 H4 H5 H6 H7 H9 HS0 HS1 HS2]
    · isplitl [H0]
      · iexact H0
      isplitl [H1]
      · iexact H1
      isplitl [H2]
      · iexact H2
      isplitl [H3]
      · iexact H3
      isplitl [H4]
      · iexact H4
      isplitl [H5]
      · iexact H5
      isplitl [H6]
      · iexact H6
      isplitl [H7]
      · iexact H7
      isplitl [H9]
      · iexact H9
      isplitl [HS0]
      · iexact HS0
      isplitl [HS1]
      · iexact HS1
      iexact HS2
    iintro ⟨H0, H1, H2, H3, H4, H5, H6, H7, H9, HS0, HS1, HS2⟩
    isplitl [HS0 HS1 HS2 Hg]
    · isplitl [HS0 HS1 HS2]
      · isplitl [HS0]
        · iexact HS0
        isplitl [HS1]
        · iexact HS1
        iexact HS2
      iexact Hg
    isplitl [Ho]
    · iexact Ho
    isplitl [H0]
    · iexact H0
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    iexact H9
  · rw [PhiS_castSucc m c t, PhiS_pos m c _ _ hz]
    rw [body_neg _ _ _ _ _ _ _ _ _ _ _ _ _ _ _ _ _ _ _ _ _ _ _ _ _ _ _ (fun h => by have := (hcond0_0 t).mp h; omega)]
    iintro ⟨⟨⟨HS0, ⟨%e1, HS1⟩, ⟨%e2, HS2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (last_spec (main _ e1 e2)) $$ [H0 H1 H2 H3 H4 H5 H6 H7 H9 HS0 HS1 HS2]
    · isplitl [H0]
      · iexact H0
      isplitl [H1]
      · iexact H1
      isplitl [H2]
      · iexact H2
      isplitl [H3]
      · iexact H3
      isplitl [H4]
      · iexact H4
      isplitl [H5]
      · iexact H5
      isplitl [H6]
      · iexact H6
      isplitl [H7]
      · iexact H7
      isplitl [H9]
      · iexact H9
      isplitl [HS0]
      · iexact HS0
      isplitl [HS1]
      · iexact HS1
      iexact HS2
    iintro ⟨H0, H1, H2, H3, H4, H5, H6, H7, H9, HS0, HS1, HS2⟩
    isplitl [HS0 HS1 HS2 Hg]
    · isplitl [HS0 HS1 HS2]
      · isplitl [HS0]
        · iexact HS0
        isplitl [HS1]
        · iexact HS1
        iexact HS2
      iexact Hg
    isplitl [Ho]
    · iexact Ho
    isplitl [H0]
    · iexact H0
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    iexact H9

/-! ## The run -/

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 32 := N_0; omega), PhiA0_eq]
  iintro ⟨⟨HS0, HS1, HS2⟩, Hg⟩
  isplitl [HS0 HS1 HS2]
  · isplitl [HS0]
    · iexists _
      iexact HS0
    isplitl [HS1]
    · iexact HS1
    iexact HS2
  iexact Hg

set_option backward.isDefEq.respectTransparency.types false in
theorem run_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- Every final state of the run: the arrays as the proof data says. -/
theorem run : θ_run defs (onTc (τ := τ) (main (F := F))) (s₀ m ρ) (Pipeline.FramePost cfgs (dats m) 0 (V m)) :=
  (θ_run defs _ _).mono (fun _ h => h.1) (run_quiescent m ρ)

/-- The frame. -/
theorem framed : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (run m ρ)) ((θ_run defs _ _).mono (fun _ h => h.2) (run_quiescent m ρ))

end Cert.KernelIdeal.MixerA
-- ==== Proof.MixerA.KernelFrame.lean ====
/- The frame of the program with its literals as they are, from the run over any floats: at words a named constant is its literal. -/
module

public import proofs.«01_k».proof.Proof.MixerA.Frame
public import proofs.«01_k».proof.Defs
public import proofs.«01_k».proof.Proof.Gen.Kernel

@[expose] public section

noncomputable section

namespace Cert.KernelIdeal.MixerA

open Idealize.ShloMosaic Idealize.ShloMosaic.TcCoe Idealize.SL.Sem Idealize.ShloMosaic.Tactic

/-- At words, a named constant is the literal it stands for. -/
instance namedBits : Named Bits where
  named _ _ {φ} bits := FloatOps.ofBits φ bits

theorem defs_eq : Cert.KernelIdeal.defs (F := Bits) = Cert.Kernel.defs (F := Bits) := by sl_kernel_rfl
theorem main_eq : Cert.KernelIdeal.main (F := Bits) = Cert.Kernel.main (F := Bits) := by sl_kernel_rfl

theorem frame_kernel : Cert.quiescent_Kernel := fun m ρ _ => by
  have h := framed (F := Bits) m ρ
  rw [defs_eq, main_eq] at h
  exact h

end Cert.KernelIdeal.MixerA
-- ==== Proof.MixerA.Consts.lean ====
/- The float constants of the programs, as the extended reals that they denote. -/
module

public import Idealize.ShloMosaic.PureOps.Ideal

@[expose] public section

noncomputable section

namespace Cert.MixerA

open Idealize.ShloMosaic

/-- Minus infinity and plus infinity. -/
theorem ninf_eq : Ideal.ofBits FTy.f32 0xFF800000#32 = ⊥ := by simp [Ideal.ofBits, Ideal.ieee]
theorem pinf_eq : Ideal.ofBits FTy.f32 0x7F800000#32 = ⊤ := by simp [Ideal.ofBits, Ideal.ieee]

theorem zero_eq : Ideal.ofBits FTy.f32 0x00000000#32 = 0 := by simp [Ideal.ofBits, Ideal.ieee]

/-- The reference's scale: the root of 1/128, rounded. -/
theorem scale_eq : Ideal.ofBits FTy.f32 0x3DB504F3#32 = ((11863283 / 134217728 : ℝ) : EReal) := by
  simp [Ideal.ofBits, Ideal.ieee, -EReal.coe_mul]; norm_num

end Cert.MixerA
-- ==== Proof.MixerA.At.lean ====
/- What the body's arrays hold, number by number, over the extended reals: the block of the result as one softmax over
   the whole window of keys. -/
module

public import proofs.«01_k».proof.Proof.MixerA.Contents
public import proofs.«01_k».proof.Proof.MixerA.Consts
public import Idealize.ShloMosaic.Lib.Pointwise
public import Idealize.ShloMosaic.Lib.Tactic.WordOmega

@[expose] public section

set_option maxRecDepth 16384

noncomputable section

namespace Cert.KernelIdeal.MixerA

open Idealize.ShloMosaic Cert.KernelIdeal Cert.KernelIdeal.Gen Cert.MixerA

/-! ## Sums and maxima in pieces -/

/-- A sum in equal pieces. -/
theorem sum_pieces {M : Type} [AddCommMonoid M] (a b : ℕ) (g : ℕ → M) : ∑ j : Fin a, ∑ r : Fin b, g (b * j.val + r.val) = ∑ k : Fin (a * b), g k.val :=
  (Fintype.sum_prod_type' (fun (j : Fin a) (r : Fin b) => g (b * j.val + r.val))).symm.trans
    (Fintype.sum_equiv finProdFinEquiv _ _ (fun p => congrArg g (Nat.add_comm _ _)))

/-- A function of the window's keys, zero beyond it. -/
def past {M : Type} [AddCommMonoid M] (G : Fin 768 → M) (n : ℕ) : M := if h : n < 768 then G ⟨n, h⟩ else 0
theorem past_of {M : Type} [AddCommMonoid M] (G : Fin 768 → M) (n : ℕ) (h : n < 768) : past G n = G ⟨n, h⟩ := dif_pos h
theorem sum_past {M : Type} [AddCommMonoid M] (G : Fin 768 → M) : ∑ k : Fin 768, past G k.val = ∑ k, G k :=
  Finset.sum_congr rfl fun k _ => past_of G k.val k.isLt

/-- A sum over the window: eight sublanes, forty-eight chunks, two rows of each. -/
theorem sum_sublanes {M : Type} [AddCommMonoid M] (G : Fin 768 → M) :
    ∑ r : Fin 8, ∑ j : Fin 48, ∑ x : Fin 2, G ⟨16 * j.val + (x.val * 8 + r.val), by omega⟩ = ∑ k, G k := by
  rw [← sum_past, ← sum_pieces 48 16 (past G), Finset.sum_comm]
  refine Finset.sum_congr rfl fun j _ => ?_
  rw [Finset.sum_comm, ← sum_pieces 2 8 (fun n => past G (16 * j.val + n))]
  refine Finset.sum_congr rfl fun x _ => Finset.sum_congr rfl fun r _ => ?_
  rw [past_of G _ (by omega)]
  congr 2
  omega

/-- A sum over the window: three pieces. -/
theorem sum_three {M : Type} [AddCommMonoid M] (G : Fin 768 → M) :
    (∑ x : Fin 256, G ⟨x.val, by omega⟩ + ∑ x : Fin 256, G ⟨256 + x.val, by omega⟩) + ∑ x : Fin 256, G ⟨512 + x.val, by omega⟩ = ∑ k, G k := by
  rw [← sum_past, ← sum_pieces 3 256 (past G), Fin.sum_univ_three]
  refine congrArg₂ _ (congrArg₂ _ ?_ ?_) ?_ <;> refine Finset.sum_congr rfl fun x _ => ?_
  · rw [past_of G _ (by simp; omega)]; congr 2; simp
  · rw [past_of G _ (by simp; omega)]; congr 2
  · rw [past_of G _ (by simp; omega)]; congr 2

/-! ## The running maximum and the running sum -/

theorem maxOf_at (mx : FVec Ideal S8x256 .f32) (u : FVec Ideal S16x256 .f32) (r : Fin 8) (q : Fin 256) :
    maxOf mx u (ix2 r q) = max (mx (ix2 r q)) (Finset.univ.fold max ⊥ fun x : Fin 2 => u (ix2 ⟨x.val * 8 + r.val, by omega⟩ q)) := by
  rw [← ninf_eq]
  pointwise [maxOf]

theorem rowMax_at (mx : FVec Ideal S8x256 .f32) (q : Fin 256) : rowMax mx (ix2 0 q) = Finset.univ.fold max ⊥ fun r : Fin 8 => mx (ix2 r q) := by
  rw [← ninf_eq]
  pointwise [rowMax]

theorem sumOf_at (mx : FVec Ideal S8x256 .f32) (u : FVec Ideal S16x256 .f32) (r : Fin 8) (q : Fin 256) :
    sumOf mx u (ix2 r q) = mx (ix2 r q) + ∑ x : Fin 2, u (ix2 ⟨x.val * 8 + r.val, by omega⟩ q) := by
  pointwise [sumOf]

theorem fold_le {ι : Type} [Fintype ι] (f : ι → EReal) (B : EReal) : Finset.univ.fold max ⊥ f ≤ B ↔ ∀ i, f i ≤ B :=
  (Finset.sup_le_iff (s := Finset.univ) (f := f)).trans ⟨fun h i => h i (Finset.mem_univ _), fun h i _ => h i⟩

/-- What bounds the running maximum of a sublane: the chunks so far, both rows of each. -/
theorem maxAt_le (u : Fin 48 → FVec Ideal S16x256 .f32) (r : Fin 8) (q : Fin 256) (B : EReal) (n : ℕ) (hn : n ≤ 48) :
    maxAt u n (ix2 r q) ≤ B ↔ ∀ j : Fin 48, j.val < n → ∀ x : Fin 2, u j (ix2 ⟨x.val * 8 + r.val, by omega⟩ q) ≤ B := by
  induction n with
  | zero =>
    refine ⟨fun _ j hj => absurd hj (Nat.not_lt_zero _), fun _ => ?_⟩
    have : maxAt u 0 (ix2 r q) = ⊥ := ninf_eq
    rw [this]; exact bot_le
  | succ n ih =>
    have hs : maxAt u (n + 1) = maxOf (maxAt u n) (u ⟨n, by omega⟩) := foldChunks_succ maxOf _ u ⟨n, by omega⟩
    rw [hs, maxOf_at, max_le_iff, ih (by omega), fold_le]
    refine ⟨fun h j hj => ?_, fun h => ⟨fun j hj => h j (by omega), h ⟨n, by omega⟩ (Nat.lt_succ_self n)⟩⟩
    by_cases hjn : j.val < n
    · exact h.1 j hjn
    · rw [show j = ⟨n, by omega⟩ from Fin.ext (by simp only []; omega)]
      exact h.2

/-- A head's maxima: of all the window's scores. -/
theorem maxAll_at (u : Fin 48 → FVec Ideal S16x256 .f32) (U : Fin 768 → EReal) (q : Fin 256)
    (hU : ∀ (j : Fin 48) (r : Fin 16), u j (ix2 r q) = U ⟨16 * j.val + r.val, by omega⟩) : maxAll u (ix2 0 q) = Finset.univ.fold max ⊥ U := by
  refine eq_of_forall_ge_iff fun B => ?_
  unfold maxAll
  rw [rowMax_at, fold_le, fold_le]
  constructor
  · intro h k
    have hk := (maxAt_le u ⟨k.val % 8, by omega⟩ q B 48 le_rfl).1 (h _) ⟨k.val / 16, by omega⟩ (by simp only []; omega) ⟨k.val % 16 / 8, by omega⟩
    rw [hU] at hk
    rwa [show (⟨16 * (k.val / 16) + (k.val % 16 / 8 * 8 + k.val % 8), by omega⟩ : Fin 768) = k from Fin.ext (by simp only []; omega)] at hk
  · intro h r
    refine (maxAt_le u r q B 48 le_rfl).2 fun j _ x => ?_
    rw [hU]
    exact h _

theorem sumAt_at (p : Fin 48 → FVec Ideal S16x256 .f32) (r : Fin 8) (q : Fin 256) (n : ℕ) (hn : n ≤ 48) :
    sumAt p n (ix2 r q) = ∑ j ∈ Finset.univ.filter (fun j : Fin 48 => j.val < n), ∑ x : Fin 2, p j (ix2 ⟨x.val * 8 + r.val, by omega⟩ q) := by
  induction n with
  | zero =>
    have : sumAt p 0 (ix2 r q) = Ideal.ofBits .f32 0x00000000#32 := rfl
    rw [this, zero_eq]
    simp
  | succ n ih =>
    have hs : sumAt p (n + 1) = sumOf (sumAt p n) (p ⟨n, by omega⟩) := foldChunks_succ sumOf _ p ⟨n, by omega⟩
    have hf : Finset.univ.filter (fun j : Fin 48 => j.val < n + 1) = insert ⟨n, by omega⟩ (Finset.univ.filter (fun j : Fin 48 => j.val < n)) := by
      ext j
      simp only [Finset.mem_filter, Finset.mem_univ, true_and, Finset.mem_insert, Fin.ext_iff]
      omega
    rw [hs, sumOf_at, ih (by omega), hf, Finset.sum_insert (by simp), add_comm]

/-- A head's sum: of all the window's powers. -/
theorem sums_at (p : Fin 48 → FVec Ideal S16x256 .f32) (P : Fin 768 → EReal) (q : Fin 256)
    (hP : ∀ (j : Fin 48) (r : Fin 16), p j (ix2 r q) = P ⟨16 * j.val + r.val, by omega⟩) : ∑ r : Fin 8, sumAt p 48 (ix2 r q) = ∑ k, P k := by
  rw [← sum_sublanes]
  refine Finset.sum_congr rfl fun r _ => ?_
  rw [sumAt_at p r q 48 le_rfl, Finset.filter_true_of_mem fun j _ => j.isLt]
  exact Finset.sum_congr rfl fun j _ => Finset.sum_congr rfl fun x _ => hP j _

/-! ## The scratch buffers -/

theorem scoreAll_at (x1 : Vec Ideal S1x1x1024x256 .bf16) (xk : Fin 3 → Vec Ideal S256x1024 .bf16) (h : Fin 8) (k : Fin 768) (q : Fin 256) :
    scoreAll x1 xk (ix3 h k q) = ∑ d : Fin 128, xk ⟨k.val / 256, by omega⟩ (ix2 ⟨k.val % 256, by omega⟩ ⟨128 * h.val + d.val, by omega⟩) * x1 (ix4 0 0 ⟨128 * h.val + d.val, by omega⟩ q) := by
  have hk : (⟨k.val % 256, by omega⟩ : Fin 256) = ⟨k.val - 256 * (k.val / 256), by omega⟩ := Fin.ext (by simp only []; omega)
  rw [hk]
  unfold scoreAll
  pointwise [scoreOf, Rect.unitLocal]
  rfl

/-- A score, scaled, with its bias; minus infinity where its piece is before the sequence. -/
def keep (v13 v14 : BitVec 1) (k : ℕ) (a : EReal) : EReal := if k < 256 then Scalar.select v13 a ⊥ else if k < 512 then Scalar.select v14 a ⊥ else a

theorem chunkU_at (sc : Ideal .f32) (v13 v14 : BitVec 1) (S B : Vec Ideal S8x768x256 .f32) (h : Fin 8) (k : Fin 48) (r : Fin 16) (q : Fin 256) :
    chunkU sc v13 v14 S B h k (ix2 r q) = keep v13 v14 (16 * k.val + r.val)
      (S (ix3 h ⟨16 * k.val + r.val, by omega⟩ q) * sc + B (ix3 h ⟨16 * k.val + r.val, by omega⟩ q)) := by
  have hs : shifted sc (View.ld (Val := Elt Ideal) S (rChunk h k)) (View.ld (Val := Elt Ideal) B (rChunk h k)) (ix2 r q)
      = S (ix3 h ⟨16 * k.val + r.val, by omega⟩ q) * sc + B (ix3 h ⟨16 * k.val + r.val, by omega⟩ q) := by
    pointwise [shifted]
  rw [← hs]
  unfold chunkU keepIf keep
  by_cases h1 : k.val < 16
  · rw [if_pos h1, if_pos (show 16 * k.val + r.val < 256 by omega), ← ninf_eq]
    unfold Scalar.select
    split <;> rfl
  · rw [if_neg h1, if_neg (show ¬ 16 * k.val + r.val < 256 by omega)]
    by_cases h2 : k.val < 32
    · rw [if_pos h2, if_pos (show 16 * k.val + r.val < 512 by omega), ← ninf_eq]
      unfold Scalar.select
      split <;> rfl
    · rw [if_neg h2, if_neg (show ¬ 16 * k.val + r.val < 512 by omega)]

theorem shiftAll_at (sc : Ideal .f32) (v13 v14 : BitVec 1) (S B : Vec Ideal S8x768x256 .f32) (h : Fin 8) (k : Fin 768) (q : Fin 256) :
    shiftAll sc v13 v14 S B (ix3 h k q) = keep v13 v14 k.val (S (ix3 h k q) * sc + B (ix3 h k q)) := by
  have hk : (⟨16 * (k.val / 16) + (k.val - 16 * (k.val / 16)), by omega⟩ : Fin 768) = k := Fin.ext (by simp only []; omega)
  have he := chunkU_at sc v13 v14 S B h ⟨k.val / 16, by omega⟩ ⟨k.val - 16 * (k.val / 16), by omega⟩ q
  simp only [hk] at he
  rw [show 16 * (k.val / 16) + (k.val - 16 * (k.val / 16)) = k.val by omega] at he
  rw [← he]
  unfold shiftAll
  pointwise [Rect.unitLocal]
  rfl

/-- The chunk of a row or a column of the band, in words. -/
theorem chunk_word : ∀ n : Fin 768,
    Scalar.select
      (IntOp.andi
        (IntOp.cmpi .ne
          (IntOp.subi (BitVec.setWidth 32 (IntOp.cmpi .sgt (BitVec.ofNat 32 n.val) 0#32)) (BitVec.setWidth 32 (IntOp.cmpi .slt (BitVec.ofNat 32 n.val) 0#32)))
          (Scalar.subi (Scalar.extui (Scalar.cmpi .sgt 64#32 0#32)) (Scalar.extui (Scalar.cmpi .slt 64#32 0#32))))
        (IntOp.cmpi .ne (IntOp.remsi .vector (BitVec.ofNat 32 n.val) 64#32) 0#32))
      (IntOp.subi (IntOp.divsi .vector (BitVec.ofNat 32 n.val) 64#32) 1#32) (IntOp.divsi .vector (BitVec.ofNat 32 n.val) 64#32) = BitVec.ofNat 32 (n.val / 64) := by
  decide +kernel

theorem band_word : ∀ (a : Fin 12) (b : Fin 4),
    IntOp.andi (IntOp.cmpi .sge (BitVec.ofNat 32 a.val) (IntOp.addi (BitVec.ofNat 32 b.val) 0#32))
      (IntOp.cmpi .sle (BitVec.ofNat 32 a.val) (IntOp.addi (IntOp.addi (BitVec.ofNat 32 b.val) 0#32) 8#32)) = if b.val ≤ a.val ∧ a.val ≤ b.val + 8 then 1#1 else 0#1 := by
  decide +kernel

/-- Which keys of the window a row attends: those of its own chunk and of the eight before it. -/
theorem band_at (q : Fin 256) (k : Fin 768) : band (ix2 q k) = if q.val / 64 ≤ k.val / 64 ∧ k.val / 64 ≤ q.val / 64 + 8 then 1#1 else 0#1 := by
  pointwise [band, chunkOf]
  have hk := chunk_word k
  have hq := chunk_word ⟨q.val, by omega⟩
  simp only [] at hq
  rw [hk, hq]
  clear hk hq
  exact band_word ⟨k.val / 64, by omega⟩ ⟨q.val / 64, by omega⟩

theorem biasAll_at (lg : Ideal .f32) (x9 : Vec Ideal S8x768 .f32) (h : Fin 8) (k : Fin 768) (q : Fin 256) :
    biasAll lg x9 (ix3 h k q) = if q.val / 64 ≤ k.val / 64 ∧ k.val / 64 ≤ q.val / 64 + 8 then x9 (ix2 h ⟨(k.val + 768 - q.val) % 768, by omega⟩) * lg else ⊥ := by
  have ht : (if h_1 : (k.val + 1024 - q.val % 1024) % 1024 < 768 then x9 (ix2 h ⟨(k.val + 1024 - q.val % 1024) % 1024, by omega⟩)
        else x9 (ix2 h ⟨512 + ((k.val + 1024 - q.val % 1024) % 1024 - 768), by omega⟩)) = x9 (ix2 h ⟨(k.val + 768 - q.val) % 768, by omega⟩) := by
    split <;> refine congrArg (fun i => x9 (ix2 h i)) (Fin.ext ?_) <;> simp only [] <;> omega
  unfold biasAll
  pointwise [biasOf, Rect.unitLocal]
  rw [ht, ninf_eq, band_at]
  split <;> rfl

theorem chunkP_at (U : Vec Ideal S8x768x256 .f32) (m : FVec Ideal S1x256 .f32) (h : Fin 8) (k : Fin 48) (r : Fin 16) (q : Fin 256) :
    chunkP U m h k (ix2 r q) = Ideal.exp2 (U (ix3 h ⟨16 * k.val + r.val, by omega⟩ q) - m (ix2 0 q)) := by
  unfold chunkP powOf
  pointwise []
  rfl

theorem powAll_at (U : Vec Ideal S8x768x256 .f32) (m : Fin 8 → FVec Ideal S1x256 .f32) (h : Fin 8) (k : Fin 768) (q : Fin 256) :
    powAll U m (ix3 h k q) = Ideal.exp2 (U (ix3 h k q) - m h (ix2 0 q)) := by
  have hk : (⟨16 * (k.val / 16) + (k.val - 16 * (k.val / 16)), by omega⟩ : Fin 768) = k := Fin.ext (by simp only []; omega)
  have he := chunkP_at U (m h) h ⟨k.val / 16, by omega⟩ ⟨k.val - 16 * (k.val / 16), by omega⟩ q
  simp only [hk] at he
  rw [← he]
  unfold powAll
  pointwise [Rect.unitLocal]
  rfl

theorem outAll_at (ls : Fin 8 → FVec Ideal S8x256 .f32) (xv : Fin 3 → Vec Ideal S1x1x1024x256 .bf16) (W : Vec Ideal S8x768x256 .bf16) (x8 : Vec Ideal S256x1024 .f32) (q : Fin 256) (e : Fin 1024) :
    outAll ls xv W x8 (ix2 q e) = Ideal.div (∑ k : Fin 768, xv ⟨k.val / 256, by omega⟩ (ix4 0 0 e ⟨k.val % 256, by omega⟩) * W (ix3 ⟨e.val / 128, by omega⟩ k q))
        (∑ r : Fin 8, ls ⟨e.val / 128, by omega⟩ (ix2 r q)) * (x8 (ix2 q e) * Ideal.div 1 (1 + Ideal.exp (0 - x8 (ix2 q e)))) := by
  have he : (⟨128 * (e.val / 128) + (e.val - 128 * (e.val / 128)), by omega⟩ : Fin 1024) = e := Fin.ext (by simp only []; omega)
  rw [← sum_three]
  unfold outAll
  pointwise [headOut, valueOf, siluOf, rowSum, Rect.unitLocal]
  simp only [he]
  refine congrArg (· * _) (congrArg₂ _ (congrArg₂ _ (congrArg₂ _ ?_ ?_) ?_) rfl) <;> refine Finset.sum_congr rfl fun x _ => congrArg (· * _) ?_
  · rw [show (⟨x.val / 256, by omega⟩ : Fin 3) = 0 from Fin.ext (by simp only []; omega), show (⟨x.val % 256, by omega⟩ : Fin 256) = x from Fin.ext (by simp only []; omega)]
  · rw [show (⟨(256 + x.val) / 256, by omega⟩ : Fin 3) = 1 from Fin.ext (by simp only []; omega), show (⟨(256 + x.val) % 256, by omega⟩ : Fin 256) = x from Fin.ext (by simp only []; omega)]
  · rw [show (⟨(512 + x.val) / 256, by omega⟩ : Fin 3) = 2 from Fin.ext (by simp only []; omega), show (⟨(512 + x.val) % 256, by omega⟩ : Fin 256) = x from Fin.ext (by simp only []; omega)]

/-- A block of the result: one softmax over the whole window, and the gate. -/
theorem block_at (sc : Ideal .f32) (v13 v14 : BitVec 1) (B : Vec Ideal S8x768x256 .f32) (x1 : Vec Ideal S1x1x1024x256 .bf16) (xk : Fin 3 → Vec Ideal S256x1024 .bf16)
    (xv : Fin 3 → Vec Ideal S1x1x1024x256 .bf16) (x8 : Vec Ideal S256x1024 .f32) (q : Fin 256) (e : Fin 1024) (h : Fin 8) (hh : h.val = e.val / 128) (U : Fin 768 → EReal)
    (hU : ∀ k : Fin 768, U k = keep v13 v14 k.val (scoreAll x1 xk (ix3 h k q) * sc + B (ix3 h k q))) :
    block sc v13 v14 B x1 xk xv x8 (ix2 q e)
      = Ideal.div (∑ k : Fin 768, xv ⟨k.val / 256, by omega⟩ (ix4 0 0 e ⟨k.val % 256, by omega⟩) * Ideal.exp2 (U k - Finset.univ.fold max ⊥ U))
          (∑ k : Fin 768, Ideal.exp2 (U k - Finset.univ.fold max ⊥ U)) * (x8 (ix2 q e) * Ideal.div 1 (1 + Ideal.exp (0 - x8 (ix2 q e)))) := by
  have hh' : (⟨e.val / 128, by omega⟩ : Fin 8) = h := Fin.ext hh.symm
  have hs : ∀ k : Fin 768, shiftAll sc v13 v14 (scoreAll x1 xk) B (ix3 h k q) = U k := fun k => by rw [shiftAll_at, hU]
  have hm : maxes sc v13 v14 (scoreAll x1 xk) B h (ix2 0 q) = Finset.univ.fold max ⊥ U :=
    maxAll_at _ U q fun j r => by rw [chunkU_at, hU]
  unfold block
  rw [outAll_at, hh']
  refine congrArg (· * _) (congrArg₂ _ (Finset.sum_congr rfl fun k _ => ?_) ?_)
  · unfold weights
    rw [powAll_at, hs, hm]
  · exact sums_at _ (fun k => Ideal.exp2 (U k - Finset.univ.fold max ⊥ U)) q fun j r => by rw [chunkP_at, hs, hm]

end Cert.KernelIdeal.MixerA
-- ==== Proof.MixerA.Host.lean ====
/- What the region's input windows hold: entries of the projection and of the bias table, index by index. -/
module

public import proofs.«01_k».proof.Proof.MixerA.Frame
public import Idealize.ShloMosaic.Lib.Pointwise
public import Idealize.ShloMosaic.Lib.Pipeline.ValueKit
public import Idealize.ShloMosaic.Lib.StableHlo.ReadAt

@[expose] public section

set_option maxRecDepth 16384

noncomputable section

namespace Cert.KernelIdeal.MixerA

open Idealize.ShloMosaic Idealize.ShloMosaic.TcCoe Cert.KernelIdeal Cert.KernelIdeal.Gen

variable (m : (ℓ : Loc nD τ sig) → Buf (Elt Ideal) ℓ)

/-- The projection. -/
abbrev proj (c : Dev nD) : FVec Ideal S2x4096x9296 .f32 := m ((c : Thread nD τ).loc main_arg0)
/-- The relative biases. -/
abbrev biasArg (c : Dev nD) : FVec Ideal S1x8x257 .f32 := m ((c : Thread nD τ).loc main_arg1)

/-! ## The arrays the call is handed -/

theorem V_queries (c : Dev nD) (g : Fin 32) (d : Fin 1024) (q : Fin 256) :
    (V m c main_v26 : FVec Ideal S5x32x1024x256 .bf16) (ix4 0 g d q) = proj m c (ix3 ⟨g.val / 16, by omega⟩ ⟨256 * (g.val % 16) + q.val, by omega⟩ ⟨d.val, by omega⟩) := by
  unfold V
  after_reads_at
  after_reads_at
  have hp : ∀ (i i' : Fin 2) (j j' : Fin 4096) (k : Fin 9296), i.val = i'.val → j.val = j'.val → proj m c (ix3 i j k) = proj m c (ix3 i' j' k) :=
    fun i i' j j' k e e' => by rw [Fin.ext e, Fin.ext e']
  exact hp _ _ _ _ _ (by simp only []; omega) (by simp only []; omega)

theorem V_values (c : Dev nD) (g : Fin 32) (d : Fin 1024) (q : Fin 256) :
    (V m c main_v26 : FVec Ideal S5x32x1024x256 .bf16) (ix4 1 g d q) = proj m c (ix3 ⟨g.val / 16, by omega⟩ ⟨256 * (g.val % 16) + q.val, by omega⟩ ⟨2048 + d.val, by omega⟩) := by
  unfold V
  after_reads_at
  after_reads_at
  have hp : ∀ (i i' : Fin 2) (j j' : Fin 4096) (k : Fin 9296), i.val = i'.val → j.val = j'.val → proj m c (ix3 i j k) = proj m c (ix3 i' j' k) :=
    fun i i' j j' k e e' => by rw [Fin.ext e, Fin.ext e']
  exact hp _ _ _ _ _ (by simp only []; omega) (by simp only []; omega)

theorem V_keys (c : Dev nD) (n : Fin 8192) (d : Fin 1024) :
    (V m c main_v30 : FVec Ideal S8192x2048 .bf16) (ix2 n ⟨d.val, by omega⟩) = proj m c (ix3 ⟨n.val / 4096, by omega⟩ ⟨n.val % 4096, by omega⟩ ⟨1024 + d.val, by omega⟩) := by
  unfold V
  after_reads_at
  after_reads_at

theorem V_gates (c : Dev nD) (n : Fin 8192) (d : Fin 1024) :
    (V m c main_v33 : FVec Ideal S8192x2048 .f32) (ix2 n ⟨d.val, by omega⟩) = proj m c (ix3 ⟨n.val / 4096, by omega⟩ ⟨n.val % 4096, by omega⟩ ⟨3072 + d.val, by omega⟩) := by
  unfold V
  after_reads_at

/-- Which relative bias the table holds at a place: farthest back, then towards the row, then the farthest ahead. -/
def tablePos (k : ℕ) : ℕ := if k < 384 then 256 else if k < 641 then 640 - k else if k < 705 then 0 else 256
theorem tablePos_lt (k : ℕ) : tablePos k < 257 := by unfold tablePos; split <;> (try split) <;> (try split) <;> omega

theorem V_table (c : Dev nD) (h : Fin 8) (k : Fin 768) :
    (V m c main_v42 : FVec Ideal S8x768 .f32) (ix2 h k) = biasArg m c (ix3 0 h ⟨tablePos k.val, tablePos_lt _⟩) := by
  have hp : ∀ i j : Fin 257, i.val = j.val → biasArg m c (ix3 0 h i) = biasArg m c (ix3 0 h j) := fun i j e => by rw [Fin.ext e]
  unfold V
  after_reads_at
  after_reads_at
  split
  · rename_i h1
    exact hp ⟨256, by omega⟩ _ (by simp only [tablePos]; rw [if_pos h1])
  · rename_i h1
    split
    · rename_i h2
      refine (show _ = biasArg m c (ix3 0 h (Fin.rev ⟨k.val - 384, h2⟩)) from rfl).trans (hp _ _ ?_)
      rw [Fin.val_rev]
      simp only [tablePos]
      rw [if_neg h1, if_pos (show k.val < 641 by omega)]
      omega
    · rename_i h2
      split
      · rename_i h3
        exact hp ⟨0, by omega⟩ _ (by simp only [tablePos]; rw [if_neg h1, if_neg (show ¬ k.val < 641 by omega), if_pos (show k.val < 705 by omega)])
      · rename_i h3
        exact hp ⟨256, by omega⟩ _ (by simp only [tablePos]; rw [if_neg h1, if_neg (show ¬ k.val < 641 by omega), if_neg (show ¬ k.val < 705 by omega)])

/-! ## The windows' blocks -/

theorem idx : ∀ t : Fin cfg0.N,
    win0_0.index t = ![0, t.val, 0, 0] ∧ win0_1.index t = ![t.val - min (t.val % 16) 2, 0] ∧ win0_2.index t = ![t.val - min (t.val % 16) 1, 0] ∧ win0_3.index t = ![t.val, 0]
    ∧ win0_4.index t = ![1, t.val - min (t.val % 16) 2, 0, 0] ∧ win0_5.index t = ![1, t.val - min (t.val % 16) 1, 0, 0] ∧ win0_6.index t = ![1, t.val, 0, 0]
    ∧ win0_7.index t = ![t.val, 0] ∧ win0_8.index t = ![0, 0] ∧ win0_9.index t = ![t.val, 0] ∧ t.val < 32 :=
  (by decide +kernel : ∀ t : Fin grid0.N, _)

theorem flags : ∀ t : Fin cfg0.N, flag0 (grid0.coords t) = (if 2 ≤ t.val % 16 then 1#1 else 0#1) ∧ flag1 (grid0.coords t) = (if 1 ≤ t.val % 16 then 1#1 else 0#1) :=
  (by decide +kernel : ∀ t : Fin grid0.N, _)

theorem iblk_queries (c : Dev nD) (t : Fin cfg0.N) (d : Fin 1024) (q : Fin 256) :
    (iblk m c 0 t : FVec Ideal S1x1x1024x256 .bf16) (ix4 0 0 d q) = (V m c main_v26 : FVec Ideal S5x32x1024x256 .bf16) (ix4 0 ⟨t.val, (idx t).2.2.2.2.2.2.2.2.2.2⟩ d q) := by
  blk_ext [iblk, idx t]

theorem iblk_keys2 (c : Dev nD) (t : Fin cfg0.N) (r : Fin 256) (d : Fin 1024) (g : Fin 32) (hg : g.val = t.val - min (t.val % 16) 2) :
    (iblk m c 1 t : FVec Ideal S256x1024 .bf16) (ix2 r d) = (V m c main_v30 : FVec Ideal S8192x2048 .bf16) (ix2 ⟨256 * g.val + r.val, by omega⟩ ⟨d.val, by omega⟩) := by
  blk_ext [iblk, idx t]

theorem iblk_keys1 (c : Dev nD) (t : Fin cfg0.N) (r : Fin 256) (d : Fin 1024) (g : Fin 32) (hg : g.val = t.val - min (t.val % 16) 1) :
    (iblk m c 2 t : FVec Ideal S256x1024 .bf16) (ix2 r d) = (V m c main_v30 : FVec Ideal S8192x2048 .bf16) (ix2 ⟨256 * g.val + r.val, by omega⟩ ⟨d.val, by omega⟩) := by
  blk_ext [iblk, idx t]

theorem iblk_keys0 (c : Dev nD) (t : Fin cfg0.N) (r : Fin 256) (d : Fin 1024) (g : Fin 32) (hg : g.val = t.val) :
    (iblk m c 3 t : FVec Ideal S256x1024 .bf16) (ix2 r d) = (V m c main_v30 : FVec Ideal S8192x2048 .bf16) (ix2 ⟨256 * g.val + r.val, by omega⟩ ⟨d.val, by omega⟩) := by
  blk_ext [iblk, idx t]

theorem iblk_values2 (c : Dev nD) (t : Fin cfg0.N) (r : Fin 256) (d : Fin 1024) (g : Fin 32) (hg : g.val = t.val - min (t.val % 16) 2) :
    (iblk m c 4 t : FVec Ideal S1x1x1024x256 .bf16) (ix4 0 0 d r) = (V m c main_v26 : FVec Ideal S5x32x1024x256 .bf16) (ix4 1 g d r) := by
  blk_ext [iblk, idx t]

theorem iblk_values1 (c : Dev nD) (t : Fin cfg0.N) (r : Fin 256) (d : Fin 1024) (g : Fin 32) (hg : g.val = t.val - min (t.val % 16) 1) :
    (iblk m c 5 t : FVec Ideal S1x1x1024x256 .bf16) (ix4 0 0 d r) = (V m c main_v26 : FVec Ideal S5x32x1024x256 .bf16) (ix4 1 g d r) := by
  blk_ext [iblk, idx t]

theorem iblk_values0 (c : Dev nD) (t : Fin cfg0.N) (r : Fin 256) (d : Fin 1024) (g : Fin 32) (hg : g.val = t.val) :
    (iblk m c 6 t : FVec Ideal S1x1x1024x256 .bf16) (ix4 0 0 d r) = (V m c main_v26 : FVec Ideal S5x32x1024x256 .bf16) (ix4 1 g d r) := by
  blk_ext [iblk, idx t]

theorem iblk_gates (c : Dev nD) (t : Fin cfg0.N) (r : Fin 256) (d : Fin 1024) (g : Fin 32) (hg : g.val = t.val) :
    (iblk m c 7 t : FVec Ideal S256x1024 .f32) (ix2 r d) = (V m c main_v33 : FVec Ideal S8192x2048 .f32) (ix2 ⟨256 * g.val + r.val, by omega⟩ ⟨d.val, by omega⟩) := by
  blk_ext [iblk, idx t]

theorem iblk_table (c : Dev nD) (t : Fin cfg0.N) : (iblk m c 8 t : FVec Ideal S8x768 .f32) = (V m c main_v42 : FVec Ideal S8x768 .f32) := by
  funext y
  blk_ext [iblk, idx t]

/-! ## The same, as entries of the arguments -/

theorem proj_congr (c : Dev nD) (i i' : Fin 2) (j j' : Fin 4096) (k : Fin 9296) (e : i.val = i'.val) (e' : j.val = j'.val) :
    proj m c (ix3 i j k) = proj m c (ix3 i' j' k) := by
  rw [Fin.ext e, Fin.ext e']

theorem point_lt (t : Fin cfg0.N) : t.val < 32 := (idx t).2.2.2.2.2.2.2.2.2.2

theorem queries_at (c : Dev nD) (t : Fin cfg0.N) (d : Fin 1024) (q : Fin 256) :
    (iblk m c 0 t : FVec Ideal S1x1x1024x256 .bf16) (ix4 0 0 d q)
      = proj m c (ix3 ⟨t.val / 16, by have := point_lt t; omega⟩ ⟨256 * (t.val % 16) + q.val, by omega⟩ ⟨d.val, by omega⟩) :=
  (iblk_queries m c t d q).trans (V_queries m c _ d q)

theorem gates_at (c : Dev nD) (t : Fin cfg0.N) (q : Fin 256) (d : Fin 1024) :
    (iblk m c 7 t : FVec Ideal S256x1024 .f32) (ix2 q d)
      = proj m c (ix3 ⟨t.val / 16, by have := point_lt t; omega⟩ ⟨256 * (t.val % 16) + q.val, by omega⟩ ⟨3072 + d.val, by omega⟩) :=
  (iblk_gates m c t q d ⟨t.val, point_lt t⟩ rfl).trans ((V_gates m c _ d).trans (proj_congr m c _ _ _ _ _ (by simp only []; omega) (by simp only []; omega)))

/-- The keys of the window's three pieces; a piece before the sequence holds the first piece's. -/
theorem keys_at (c : Dev nD) (t : Fin cfg0.N) (p : Fin 3) (r : Fin 256) (d : Fin 1024) :
    ((![iblk m c 1 t, iblk m c 2 t, iblk m c 3 t] : Fin 3 → FVec Ideal S256x1024 .bf16) p) (ix2 r d)
      = proj m c (ix3 ⟨t.val / 16, by have := point_lt t; omega⟩ ⟨256 * (t.val % 16 - min (t.val % 16) (2 - p.val)) + r.val, by omega⟩ ⟨1024 + d.val, by omega⟩) := by
  have ht := point_lt t
  match p with
  | 0 => exact (iblk_keys2 m c t r d ⟨_, by omega⟩ rfl).trans ((V_keys m c _ d).trans (proj_congr m c _ _ _ _ _ (by simp only []; omega) (by simp; omega)))
  | 1 => exact (iblk_keys1 m c t r d ⟨_, by omega⟩ rfl).trans ((V_keys m c _ d).trans (proj_congr m c _ _ _ _ _ (by simp only []; omega) (by simp; omega)))
  | 2 => exact (iblk_keys0 m c t r d ⟨_, by omega⟩ rfl).trans ((V_keys m c _ d).trans (proj_congr m c _ _ _ _ _ (by simp only []; omega) (by simp; omega)))

/-- The values of the window's three pieces, likewise. -/
theorem values_at (c : Dev nD) (t : Fin cfg0.N) (p : Fin 3) (r : Fin 256) (d : Fin 1024) :
    ((![iblk m c 4 t, iblk m c 5 t, iblk m c 6 t] : Fin 3 → FVec Ideal S1x1x1024x256 .bf16) p) (ix4 0 0 d r)
      = proj m c (ix3 ⟨t.val / 16, by have := point_lt t; omega⟩ ⟨256 * (t.val % 16 - min (t.val % 16) (2 - p.val)) + r.val, by omega⟩ ⟨2048 + d.val, by omega⟩) := by
  have ht := point_lt t
  match p with
  | 0 => exact (iblk_values2 m c t r d ⟨_, by omega⟩ rfl).trans ((V_values m c _ d _).trans (proj_congr m c _ _ _ _ _ (by simp only []; omega) (by simp; omega)))
  | 1 => exact (iblk_values1 m c t r d ⟨_, by omega⟩ rfl).trans ((V_values m c _ d _).trans (proj_congr m c _ _ _ _ _ (by simp only []; omega) (by simp; omega)))
  | 2 => exact (iblk_values0 m c t r d ⟨_, by omega⟩ rfl).trans ((V_values m c _ d _).trans (proj_congr m c _ _ _ _ _ rfl (by simp)))

theorem table_at (c : Dev nD) (t : Fin cfg0.N) (h : Fin 8) (k : Fin 768) :
    (iblk m c 8 t : FVec Ideal S8x768 .f32) (ix2 h k) = biasArg m c (ix3 0 h ⟨tablePos k.val, tablePos_lt _⟩) :=
  (congrFun (iblk_table m c t) (ix2 h k)).trans (V_table m c h k)

end Cert.KernelIdeal.MixerA
-- ==== Proof.MixerA.Ref.lean ====
/- The reference's arrays, named one by one, and its result read from them. -/
module

public import proofs.«01_k».proof.Proof.Gen.ReferenceIdeal.Run
public import Idealize.ShloMosaic.PureOps.Ideal
public import Idealize.ShloMosaic.Lib.Pointwise

@[expose] public section

noncomputable section

namespace Cert.ReferenceIdeal.MixerA

open Idealize.ShloMosaic Idealize.ShloMosaic.TcCoe Cert.ReferenceIdeal Cert.ReferenceIdeal.Gen

/-- The row of the padded keys that is a chunk's `j`-th. -/
def bandPos : IVec S64x576 32 :=
  addi (broadcastInDim S64x576 ![0, 1] bcast_S64x1_S64x576_0_1 (muli (broadcastInDim S64x1 ![0] bcast_S64_S64x1_0 (iotaInDim S64 32 0)) (broadcastInDim S64x1 ![] bcast_S_S64x1 (constantI S_ 32 64#32))))
    (broadcastInDim S64x576 ![0, 1] bcast_S1x576_S64x576_0_1 (broadcastInDim S1x576 ![1] bcast_S576_S1x576_1 (iotaInDim S576 32 0)))

/-- Its position among the keys, negative for padding. -/
def keyPos : IVec S64x576 32 := subi bandPos (broadcastInDim S64x576 ![] bcast_S_S64x576 (constantI S_ 32 512#32))

/-- The same as indices of the gather, which count from the end when negative. -/
def bandIx : IVec S64x576x1 32 :=
  broadcastInDim S64x576x1 ![0, 1] bcast_S64x576_S64x576x1_0_1
    (select (cmpi .slt bandPos (broadcastInDim S64x576 ![] bcast_S_S64x576 (constantI S_ 32 0#32))) (addi bandPos (broadcastInDim S64x576 ![] bcast_S_S64x576 (constantI S_ 32 4608#32))) bandPos)

/-- A query's distance from a key, clipped, from 0. -/
def rel : IVec S64x64x576 32 :=
  addi (minsi (broadcastInDim S64x64x576 ![] bcast_S_S64x64x576 (id (constantI S_ 32 128#32))) (maxsi (broadcastInDim S64x64x576 ![] bcast_S_S64x64x576 (id (constantI S_ 32 4294967168#32)))
    (subi (broadcastInDim S64x64x576 ![0, 1, 2] bcast_S64x64x1_S64x64x576_0_1_2 (broadcastInDim S64x64x1 ![0, 1] bcast_S64x64_S64x64x1_0_1 (shapeCast _ (iotaInDim S4096 32 0) shapeCasts_S4096_S64x64)))
      (broadcastInDim S64x64x576 ![0, 1, 2] bcast_S64x1x576_S64x64x576_0_1_2 (broadcastInDim S64x1x576 ![0, 2] bcast_S64x576_S64x1x576_0_2 keyPos)))))
    (broadcastInDim S64x64x576 ![] bcast_S_S64x64x576 (constantI S_ 32 128#32))

def biasIx : IVec S64x64x576x1 32 :=
  broadcastInDim S64x64x576x1 ![0, 1, 2] bcast_S64x64x576_S64x64x576x1_0_1_2
    (select (cmpi .slt rel (broadcastInDim S64x64x576 ![] bcast_S_S64x64x576 (constantI S_ 32 0#32))) (addi rel (broadcastInDim S64x64x576 ![] bcast_S_S64x64x576 (constantI S_ 32 257#32))) rel)

variable (x : FVec Ideal S2x4096x9296 .f32) (b : FVec Ideal S1x8x257 .f32)

def bias : FVec Ideal S2x8x64x64x576 .f32 :=
  broadcastInDim S2x8x64x64x576 ![0, 1, 2, 3, 4] bcast_S1x8x64x64x576_S2x8x64x64x576_0_1_2_3_4 (broadcastInDim S1x8x64x64x576 ![1, 2, 3, 4] bcast_S8x64x64x576_S1x8x64x64x576_1_2_3_4
    (Host.gather gather_S8x257_S64x64x576x1_S8x64x64x576_0_1_n_n_1_3_81 (shapeCast _ b shapeCasts_S1x8x257_S8x257) biasIx))

def valid : IVec S2x8x64x64x576 1 :=
  broadcastInDim S2x8x64x64x576 ![0, 1, 2, 3, 4] bcast_S1x1x64x1x576_S2x8x64x64x576_0_1_2_3_4 (broadcastInDim S1x1x64x1x576 ![2, 4] bcast_S64x576_S1x1x64x1x576_2_4
    (cmpi .sge keyPos (broadcastInDim S64x576 ![] bcast_S_S64x576 (constantI S_ 32 0#32))))

/-- Rows with their padding in front, taken by the band of each chunk. -/
def banded (y : FVec Ideal S2x4096x1024 .f32) : FVec Ideal S2x64x576x8x128 .f32 :=
  Host.gather gather_S2x4608x8x128_S64x576x1_S2x64x576x8x128_034_1_n_n_1_2_218128
    (pad S2x4608x8x128 ![0, 512, 0, 0] ![0, 0, 0, 0] ![0, 0, 0, 0] (shapeCast _ y shapeCasts_S2x4096x1024_S2x4096x8x128) (sitofp .f32 (constantI S_ 32 0#32)) pads_S2x4096x8x128_S2x4608x8x128_000_51200_000_000 h_S_) bandIx

def queries : FVec Ideal S2x64x64x8x128 .f32 :=
  shapeCast _ (shapeCast _ (extractStridedSlice S2x4096x1024 ![0, 0, 0] x slices_S2x4096x9296_S2x4096x1024_0_0_0) shapeCasts_S2x4096x1024_S2x4096x8x128) shapeCasts_S2x4096x8x128_S2x64x64x8x128
def keys : FVec Ideal S2x64x576x8x128 .f32 := banded (extractStridedSlice S2x4096x1024 ![0, 0, 1024] x slices_S2x4096x9296_S2x4096x1024_0_0_1024)
def values : FVec Ideal S2x64x576x8x128 .f32 := banded (extractStridedSlice S2x4096x1024 ![0, 0, 2048] x slices_S2x4096x9296_S2x4096x1024_0_0_2048)

def scores : FVec Ideal S2x8x64x64x576 .f32 :=
  select valid (addf (mulf (Host.dotGeneral (F := Ideal) dot_S2x64x64x8x128_S2x64x576x8x128_S2x8x64x64x576_4_4_2_2_031_031 none (queries x) (keys x)) (broadcastInDim S2x8x64x64x576 ![] bcast_S_S2x8x64x64x576 (constant S_ .f32 0x3DB504F3#32))) (bias b))
    (broadcastInDim S2x8x64x64x576 ![] bcast_S_S2x8x64x64x576 (id (constant S_ .f32 0xFF800000#32)))

/-- Each query's greatest score. -/
def peak (s : FVec Ideal S2x8x64x64x576 .f32) : FVec Ideal S2x8x64x64 .f32 :=
  maximumf (broadcastInDim S2x8x64x64 ![] bcast_S_S2x8x64x64 (constant S_ .f32 0xFF800000#32)) (Host.reduce FloatOps.maximumf s (constant S_ .f32 0xFF800000#32) reducesTo_S2x8x64x64x576_S2x8x64x64_d4 h_S_)

/-- A number for each query, at each of its keys. -/
def spread (y : FVec Ideal S2x8x64x64 .f32) : FVec Ideal S2x8x64x64x576 .f32 :=
  broadcastInDim S2x8x64x64x576 ![0, 1, 2, 3, 4] bcast_S2x8x64x64x1_S2x8x64x64x576_0_1_2_3_4 (broadcastInDim S2x8x64x64x1 ![0, 1, 2, 3] bcast_S2x8x64x64_S2x8x64x64x1_0_1_2_3 y)

def powers (s : FVec Ideal S2x8x64x64x576 .f32) : FVec Ideal S2x8x64x64x576 .f32 := Host.exp (subf s (spread (peak s)))

def probs (p : FVec Ideal S2x8x64x64x576 .f32) : FVec Ideal S2x8x64x64x576 .f32 :=
  Host.divf p (spread (Host.reduceAdd p (constant S_ .f32 0x00000000#32) reducesTo_S2x8x64x64x576_S2x8x64x64_d4 h_S_))

def attended (p : FVec Ideal S2x8x64x64x576 .f32) : FVec Ideal S2x64x8x128x64 .f32 :=
  Host.dotGeneral (F := Ideal) dot_S2x64x576x8x128_S2x8x64x64x576_S2x64x8x128x64_2_4_4_3_013_021 none (values x) p

/-- The gate: the sigmoid linear unit of the gate's columns. -/
def gate (g : FVec Ideal S2x4096x1024 .f32) : FVec Ideal S2x4096x1024 .f32 :=
  mulf g (Host.divf (broadcastInDim S2x4096x1024 ![] bcast_S_S2x4096x1024 (constant S_ .f32 0x3F800000#32))
    (addf (broadcastInDim S2x4096x1024 ![] bcast_S_S2x4096x1024 (constant S_ .f32 0x3F800000#32)) (Host.exp (Host.negf g))))

def gated (o : FVec Ideal S2x64x8x128x64 .f32) : FVec Ideal S8192x1024 .bf16 :=
  truncf .bf16 (shapeCast _ (mulf (shapeCast _ (shapeCast _ (transpose S2x64x64x8x128 [0, 1, 4, 2, 3] o transposes_S2x64x8x128x64_S2x64x64x8x128_0_1_4_2_3) shapeCasts_S2x64x64x8x128_S2x4096x8x128) shapeCasts_S2x4096x8x128_S2x4096x1024)
    (gate (extractStridedSlice S2x4096x1024 ![0, 0, 3072] x slices_S2x4096x9296_S2x4096x1024_0_0_3072))) shapeCasts_S2x4096x1024_S8192x1024) bitsLt_bf16_f32

def result : FVec Ideal S8192x1024 .bf16 := gated x (attended x (probs (powers (scores x b))))

theorem result_eq (m : (ℓ : Loc nD τ sig) → Buf (Elt Ideal) ℓ) (c : Dev nD) :
    Value.res_out0 (F := Ideal) m c = result (m ((c.tc : Thread nD τ).loc main_arg0)) (m ((c.tc : Thread nD τ).loc main_arg1)) := rfl

end Cert.ReferenceIdeal.MixerA
-- ==== Proof.MixerA.RefGather.lean ====
/- The reference's two gathers, read at an index. -/
module

public import proofs.«01_k».proof.Proof.MixerA.Ref

@[expose] public section

set_option maxRecDepth 16384

noncomputable section

namespace Cert.ReferenceIdeal.MixerA

open Idealize.ShloMosaic Cert.ReferenceIdeal Cert.ReferenceIdeal.Gen

/-- The gather of the band: a row of the padded array. -/
theorem gather_band (X : FVec Ideal S2x4608x8x128 .f32) (ix : IVec S64x576x1 32) (b : Fin 2) (c : Fin 64) (j : Fin 576) (h : Fin 8) (d : Fin 128) :
    Host.gather gather_S2x4608x8x128_S64x576x1_S2x64x576x8x128_034_1_n_n_1_2_218128 X ix (ix5 b c j h d) = X (ix4 b ⟨min (ix (ix3 c j 0)).toInt.toNat 4607, by omega⟩ h d) := by
  unfold Host.gather
  congr 1
  funext a
  refine Fin.ext ?_
  show (GatherDims.start _ _ ix a) + (GatherDims.batchCoord _ _ a) + (GatherDims.offCoord _ _ a) = _
  rw [GatherDims.batchCoord_eq_zero _ _ _ (show a ∉ [] from List.not_mem_nil)]
  unfold GatherDims.start GatherDims.offCoord
  obtain rfl | rfl | rfl | rfl : a = 0 ∨ a = 1 ∨ a = 2 ∨ a = 3 := by revert a; decide
  · rw [dif_neg (show (0 : Fin 4) ∉ gather_S2x4608x8x128_S64x576x1_S2x64x576x8x128_034_1_n_n_1_2_218128.startIndexMap from (by decide : (0 : Fin 4) ∉ [1])), dif_pos (by decide),
      (by decide : gather_S2x4608x8x128_S64x576x1_S2x64x576x8x128_034_1_n_n_1_2_218128.offsetDims[List.idxOf 0 gather_S2x4608x8x128_S64x576x1_S2x64x576x8x128_034_1_n_n_1_2_218128.sKept]'(by decide) = (0 : Fin 5))]
    exact Nat.zero_add _
  · rw [dif_pos (show (1 : Fin 4) ∈ gather_S2x4608x8x128_S64x576x1_S2x64x576x8x128_034_1_n_n_1_2_218128.startIndexMap from (by decide : (1 : Fin 4) ∈ [1])), dif_neg (by decide)]
    have hsi : ∀ p, GatherDims.siIdx gather_S2x4608x8x128_S64x576x1_S2x64x576x8x128_034_1_n_n_1_2_218128 (ix5 b c j h d) p = ix3 c j 0 := by
      intro p
      funext e
      match e with
      | ⟨0, _⟩ => rfl
      | ⟨1, _⟩ => rfl
      | ⟨2, _⟩ => exact Subsingleton.elim (α := Fin 1) _ _
    rw [hsi]; rfl
  · rw [dif_neg (show (2 : Fin 4) ∉ gather_S2x4608x8x128_S64x576x1_S2x64x576x8x128_034_1_n_n_1_2_218128.startIndexMap from (by decide : (2 : Fin 4) ∉ [1])), dif_pos (by decide),
      (by decide : gather_S2x4608x8x128_S64x576x1_S2x64x576x8x128_034_1_n_n_1_2_218128.offsetDims[List.idxOf 2 gather_S2x4608x8x128_S64x576x1_S2x64x576x8x128_034_1_n_n_1_2_218128.sKept]'(by decide) = (3 : Fin 5))]
    exact Nat.zero_add _
  · rw [dif_neg (show (3 : Fin 4) ∉ gather_S2x4608x8x128_S64x576x1_S2x64x576x8x128_034_1_n_n_1_2_218128.startIndexMap from (by decide : (3 : Fin 4) ∉ [1])), dif_pos (by decide),
      (by decide : gather_S2x4608x8x128_S64x576x1_S2x64x576x8x128_034_1_n_n_1_2_218128.offsetDims[List.idxOf 3 gather_S2x4608x8x128_S64x576x1_S2x64x576x8x128_034_1_n_n_1_2_218128.sKept]'(by decide) = (4 : Fin 5))]
    exact Nat.zero_add _

/-- The gather of the biases: a head's entry. -/
theorem gather_bias (X : FVec Ideal S8x257 .f32) (ix : IVec S64x64x576x1 32) (h : Fin 8) (c q : Fin 64) (j : Fin 576) :
    Host.gather gather_S8x257_S64x64x576x1_S8x64x64x576_0_1_n_n_1_3_81 X ix (ix4 h c q j) = X (ix2 h ⟨min (ix (ix4 c q j 0)).toInt.toNat 256, by omega⟩) := by
  unfold Host.gather
  congr 1
  funext a
  refine Fin.ext ?_
  show (GatherDims.start _ _ ix a) + (GatherDims.batchCoord _ _ a) + (GatherDims.offCoord _ _ a) = _
  rw [GatherDims.batchCoord_eq_zero _ _ _ (show a ∉ [] from List.not_mem_nil)]
  unfold GatherDims.start GatherDims.offCoord
  obtain rfl | rfl : a = 0 ∨ a = 1 := by revert a; decide
  · rw [dif_neg (show (0 : Fin 2) ∉ gather_S8x257_S64x64x576x1_S8x64x64x576_0_1_n_n_1_3_81.startIndexMap from (by decide : (0 : Fin 2) ∉ [1])), dif_pos (by decide),
      (by decide : gather_S8x257_S64x64x576x1_S8x64x64x576_0_1_n_n_1_3_81.offsetDims[List.idxOf 0 gather_S8x257_S64x64x576x1_S8x64x64x576_0_1_n_n_1_3_81.sKept]'(by decide) = (0 : Fin 4))]
    exact Nat.zero_add _
  · rw [dif_pos (show (1 : Fin 2) ∈ gather_S8x257_S64x64x576x1_S8x64x64x576_0_1_n_n_1_3_81.startIndexMap from (by decide : (1 : Fin 2) ∈ [1])), dif_neg (by decide)]
    have hsi : ∀ p, GatherDims.siIdx gather_S8x257_S64x64x576x1_S8x64x64x576_0_1_n_n_1_3_81 (ix4 h c q j) p = ix4 c q j 0 := by
      intro p
      funext e
      match e with
      | ⟨0, _⟩ => rfl
      | ⟨1, _⟩ => rfl
      | ⟨2, _⟩ => rfl
      | ⟨3, _⟩ => exact Subsingleton.elim (α := Fin 1) _ _
    rw [hsi]; rfl

end Cert.ReferenceIdeal.MixerA
-- ==== Proof.MixerA.RefPos.lean ====
/- Where the reference's keys and biases lie. -/
module

public import proofs.«01_k».proof.Proof.MixerA.Ref
public import Idealize.ShloMosaic.Lib.Tactic.WordOmega

@[expose] public section

set_option maxRecDepth 16384

noncomputable section

namespace Cert.ReferenceIdeal.MixerA

open Idealize.ShloMosaic Cert.ReferenceIdeal Cert.ReferenceIdeal.Gen

theorem bandPos_at (c : Fin 64) (j : Fin 576) : bandPos (ix2 c j) = BitVec.ofNat 32 (64 * c.val + j.val) := by
  pointwise [bandPos]
  show BitVec.ofNat 32 c.val * 64#32 + BitVec.ofNat 32 j.val = _
  apply BitVec.eq_of_toNat_eq
  simp only [BitVec.toNat_add, BitVec.toNat_mul, BitVec.toNat_ofNat]
  omega

theorem bandIx_at (c : Fin 64) (j : Fin 576) (o : Fin 1) : (bandIx (ix3 c j o)).toInt.toNat = 64 * c.val + j.val := by
  pointwise [bandIx]
  rw [bandPos_at]
  word_omega

/-- A distance, clipped and counted from 0, in words. -/
theorem clip_word : ∀ t : Fin 640, IntOp.addi (IntOp.minsi 128#32 (IntOp.maxsi 4294967168#32 (BitVec.ofNat 32 t.val - 64#32))) 128#32 = BitVec.ofNat 32 (min 256 (t.val + 64)) := by
  decide +kernel

theorem dist_word (c q : Fin 64) (j : Fin 576) :
    IntOp.subi (BitVec.ofNat 32 (c.val * 64 + q.val)) (IntOp.subi (BitVec.ofNat 32 (64 * c.val + j.val)) 512#32) = BitVec.ofNat 32 (q.val + 576 - j.val) - 64#32 := by
  show BitVec.ofNat 32 (c.val * 64 + q.val) - (BitVec.ofNat 32 (64 * c.val + j.val) - 512#32) = _
  apply BitVec.eq_of_toNat_eq
  simp only [BitVec.toNat_sub, BitVec.toNat_ofNat]
  omega

theorem biasIx_at (c q : Fin 64) (j : Fin 576) (o : Fin 1) : (biasIx (ix4 c q j o)).toInt.toNat = min 256 (q.val + 640 - j.val) := by
  have h : rel (ix3 c q j) = BitVec.ofNat 32 (min 256 (q.val + 640 - j.val)) := by
    pointwise [rel, keyPos, constantI, id_eq]
    rw [bandPos_at, dist_word, clip_word ⟨q.val + 576 - j.val, by omega⟩]
    congr 2
    show q.val + 576 - j.val + 64 = _
    omega
  pointwise [biasIx]
  rw [h]
  word_omega

end Cert.ReferenceIdeal.MixerA
-- ==== Proof.MixerA.RefAt.lean ====
/- The reference's arrays, number by number. -/
module

public import proofs.«01_k».proof.Proof.MixerA.RefGather
public import proofs.«01_k».proof.Proof.MixerA.RefPos
public import proofs.«01_k».proof.Proof.MixerA.Consts
public import Idealize.ShloMosaic.Lib.Tactic.WordOmega

@[expose] public section

set_option maxRecDepth 16384

noncomputable section

namespace Cert.ReferenceIdeal.MixerA

open Idealize.ShloMosaic Cert.ReferenceIdeal Cert.ReferenceIdeal.Gen Cert.MixerA

variable (x : FVec Ideal S2x4096x9296 .f32) (rb : FVec Ideal S1x8x257 .f32)

theorem banded_at (y : FVec Ideal S2x4096x1024 .f32) (b : Fin 2) (c : Fin 64) (j : Fin 576) (h : Fin 8) (d : Fin 128) :
    banded y (ix5 b c j h d) = if hk : 512 ≤ 64 * c.val + j.val then y (ix3 b ⟨64 * c.val + j.val - 512, by omega⟩ ⟨128 * h.val + d.val, by omega⟩) else 0 := by
  unfold banded
  rw [gather_band]
  have hm : min (64 * c.val + j.val) 4607 = 64 * c.val + j.val := by omega
  have h0 : FloatOps.sitofp (F := Ideal) FTy.f32 0#32 = 0 := by
    show (((0#32 : BitVec 32).toInt : ℝ) : EReal) = 0
    simp
  by_cases hk : 512 ≤ 64 * c.val + j.val
  · pointwise [bandIx_at, hm]
    rw [dif_pos ⟨hk, by omega⟩, dif_pos hk]
    congr 2
    exact Fin.ext (Nat.add_right_cancel_iff.2 (Nat.mul_comm _ _))
  · pointwise [bandIx_at, hm]
    rw [dif_neg (fun hh => hk hh.1), dif_neg hk, h0]

theorem bias_at (b : Fin 2) (h : Fin 8) (c q : Fin 64) (j : Fin 576) :
    bias rb (ix5 b h c q j) = rb (ix3 0 h ⟨min 256 (q.val + 640 - j.val), by omega⟩) := by
  unfold bias
  pointwise []
  rw [gather_bias]
  pointwise [biasIx_at]
  congr 2
  exact Fin.ext (Nat.min_eq_left (Nat.min_le_left _ _))

/-- Whether a row of the padded keys is a key, in words. -/
theorem valid_word : ∀ n : Fin 4608, IntOp.cmpi .sge (IntOp.subi (BitVec.ofNat 32 n.val) 512#32) 0#32 = if 512 ≤ n.val then 1#1 else 0#1 := by
  decide +kernel

theorem valid_at (b : Fin 2) (h : Fin 8) (c q : Fin 64) (j : Fin 576) : valid (ix5 b h c q j) = if 512 ≤ 64 * c.val + j.val then 1#1 else 0#1 := by
  unfold valid
  pointwise [keyPos]
  rw [bandPos_at]
  exact valid_word ⟨64 * c.val + j.val, by omega⟩

theorem queries_at (b : Fin 2) (h : Fin 8) (c q : Fin 64) (d : Fin 128) : queries x (ix5 b c q h d) = x (ix3 b ⟨64 * c.val + q.val, by omega⟩ ⟨128 * h.val + d.val, by omega⟩) := by
  unfold queries
  pointwise []
  congr 2 <;> exact Fin.ext (by simp only []; omega)

theorem scores_at (b : Fin 2) (h : Fin 8) (c q : Fin 64) (j : Fin 576) : scores x rb (ix5 b h c q j) = Scalar.select (valid (ix5 b h c q j))
      ((∑ d, queries x (ix5 b c q h d) * keys x (ix5 b c j h d)) * Ideal.ofBits FTy.f32 0x3DB504F3#32 + bias rb (ix5 b h c q j)) (Ideal.ofBits FTy.f32 0xFF800000#32) := by
  unfold scores
  pointwise []
  rfl

/-- The greater of two, at an index. -/
theorem maximumf_at {s : Shape} (a b : FVec Ideal s .f32) (i : s.Idx) : maximumf a b i = max (a i) (b i) := rfl

/-- A greatest value over the keys, as a fold. -/
theorem reduce_at (s : FVec Ideal S2x8x64x64x576 .f32) (k : FVec Ideal S_ .f32) (b : Fin 2) (h : Fin 8) (c q : Fin 64) :
    Host.reduce FloatOps.maximumf s k reducesTo_S2x8x64x64x576_S2x8x64x64_d4 h_S_ (ix4 b h c q) = Finset.univ.fold max (k (Shape.Idx.first h_S_)) (fun j : Fin 576 => s (ix5 b h c q j)) := by
  simp only [pointwise]

theorem peak_at (s : FVec Ideal S2x8x64x64x576 .f32) (b : Fin 2) (h : Fin 8) (c q : Fin 64) : peak s (ix4 b h c q) = max (Ideal.ofBits .f32 0xFF800000#32) (Finset.univ.fold max (Ideal.ofBits .f32 0xFF800000#32) fun j : Fin 576 => s (ix5 b h c q j)) := by
  have hk : constant (F := Ideal) S_ .f32 0xFF800000#32 (Shape.Idx.first h_S_) = Ideal.ofBits .f32 0xFF800000#32 := rfl
  have hb : broadcastInDim S2x8x64x64 ![] bcast_S_S2x8x64x64 (constant (F := Ideal) S_ .f32 0xFF800000#32) (ix4 b h c q) = Ideal.ofBits .f32 0xFF800000#32 := by
    pointwise []
  unfold peak
  rw [maximumf_at, hb, reduce_at, hk]

theorem spread_at (y : FVec Ideal S2x8x64x64 .f32) (b : Fin 2) (h : Fin 8) (c q : Fin 64) (j : Fin 576) : spread y (ix5 b h c q j) = y (ix4 b h c q) := by
  unfold spread
  pointwise []

theorem powers_at (s : FVec Ideal S2x8x64x64x576 .f32) (b : Fin 2) (h : Fin 8) (c q : Fin 64) (j : Fin 576) : powers s (ix5 b h c q j) = Ideal.exp (s (ix5 b h c q j) - peak s (ix4 b h c q)) := by
  unfold powers
  pointwise [spread_at]

theorem probs_at (s : FVec Ideal S2x8x64x64x576 .f32) (b : Fin 2) (h : Fin 8) (c q : Fin 64) (j : Fin 576) : probs s (ix5 b h c q j) = Ideal.div (s (ix5 b h c q j)) (∑ i, s (ix5 b h c q i)) := by
  unfold probs
  pointwise [spread_at]

theorem attended_at (s : FVec Ideal S2x8x64x64x576 .f32) (b : Fin 2) (h : Fin 8) (c q : Fin 64) (d : Fin 128) : attended x s (ix5 b c h d q) = ∑ j, values x (ix5 b c j h d) * s (ix5 b h c q j) := by
  unfold attended
  pointwise []

theorem gated_at (o : FVec Ideal S2x64x8x128x64 .f32) (n : Fin 8192) (e : Fin 1024) :
    gated x o (ix2 n e) = o (ix5 ⟨n.val / 4096, by omega⟩ ⟨n.val % 4096 / 64, by omega⟩ ⟨e.val / 128, by omega⟩ ⟨e.val % 128, by omega⟩ ⟨n.val % 4096 % 64, by omega⟩) *
      (x (ix3 ⟨n.val / 4096, by omega⟩ ⟨n.val % 4096, by omega⟩ ⟨3072 + e.val, by omega⟩) *
        Ideal.div 1 (1 + Ideal.exp (-x (ix3 ⟨n.val / 4096, by omega⟩ ⟨n.val % 4096, by omega⟩ ⟨3072 + e.val, by omega⟩)))) := by
  unfold gated
  pointwise [gate]

/-- A query's score at a key of its band: the scaled product and the bias, minus infinity at the padding. -/
def scoreAt (b : Fin 2) (h : Fin 8) (c q : Fin 64) (j : Fin 576) : EReal :=
  if hk : 512 ≤ 64 * c.val + j.val then
    (∑ d : Fin 128, x (ix3 b ⟨64 * c.val + q.val, by omega⟩ ⟨128 * h.val + d.val, by omega⟩) * x (ix3 b ⟨64 * c.val + j.val - 512, by omega⟩ ⟨1024 + (128 * h.val + d.val), by omega⟩))
      * Ideal.ofBits FTy.f32 0x3DB504F3#32 + rb (ix3 0 h ⟨min 256 (q.val + 640 - j.val), by omega⟩)
  else ⊥

/-- A value of the band, zero at the padding. -/
def valueAt (b : Fin 2) (h : Fin 8) (c : Fin 64) (d : Fin 128) (j : Fin 576) : EReal :=
  if hk : 512 ≤ 64 * c.val + j.val then x (ix3 b ⟨64 * c.val + j.val - 512, by omega⟩ ⟨2048 + (128 * h.val + d.val), by omega⟩) else 0

theorem scores_eq (b : Fin 2) (h : Fin 8) (c q : Fin 64) (j : Fin 576) : scores x rb (ix5 b h c q j) = scoreAt x rb b h c q j := by
  rw [scores_at, valid_at, ninf_eq, bias_at]
  unfold scoreAt keys
  split
  · rename_i hk
    rw [show ∀ a b : EReal, Scalar.select 1#1 a b = a from fun _ _ => rfl]
    congr 2
    refine Finset.sum_congr rfl fun d _ => ?_
    rw [queries_at, banded_at, dif_pos hk]
    pointwise []
  · rfl

theorem values_eq (b : Fin 2) (h : Fin 8) (c : Fin 64) (d : Fin 128) (j : Fin 576) : values x (ix5 b c j h d) = valueAt x b h c d j := by
  unfold valueAt values
  rw [banded_at]
  split
  · pointwise []
  · rfl

/-- The reference's result, as one softmax and a gate. -/
theorem result_at (n : Fin 8192) (e : Fin 1024) (b : Fin 2) (h : Fin 8) (c q : Fin 64) (d : Fin 128) (hn : n.val = 4096 * b.val + 64 * c.val + q.val) (he : e.val = 128 * h.val + d.val) :
    result x rb (ix2 n e) = (∑ j, valueAt x b h c d j * Ideal.div (Ideal.exp (scoreAt x rb b h c q j - Finset.univ.fold max ⊥ (scoreAt x rb b h c q)))
        (∑ i, Ideal.exp (scoreAt x rb b h c q i - Finset.univ.fold max ⊥ (scoreAt x rb b h c q)))) *
      (x (ix3 b ⟨64 * c.val + q.val, by omega⟩ ⟨3072 + e.val, by omega⟩) * Ideal.div 1 (1 + Ideal.exp (-x (ix3 b ⟨64 * c.val + q.val, by omega⟩ ⟨3072 + e.val, by omega⟩)))) := by
  unfold result
  have h1 : (⟨n.val / 4096, by omega⟩ : Fin 2) = b := Fin.ext (by simp only []; omega)
  have h2 : (⟨n.val % 4096 / 64, by omega⟩ : Fin 64) = c := Fin.ext (by simp only []; omega)
  have h3 : (⟨n.val % 4096 % 64, by omega⟩ : Fin 64) = q := Fin.ext (by simp only []; omega)
  have h4 : (⟨e.val / 128, by omega⟩ : Fin 8) = h := Fin.ext (by simp only []; omega)
  have h5 : (⟨e.val % 128, by omega⟩ : Fin 128) = d := Fin.ext (by simp only []; omega)
  have h6 : (⟨n.val % 4096, by omega⟩ : Fin 4096) = ⟨64 * c.val + q.val, by omega⟩ := Fin.ext (by simp only []; omega)
  rw [gated_at, h1, h2, h3, h4, h5, h6, attended_at]
  simp only [values_eq, probs_at, powers_at, peak_at, ninf_eq, scores_eq, bot_sup_eq]

end Cert.ReferenceIdeal.MixerA
-- ==== Proof.MixerA.Softmax.lean ====
/- The arithmetic of the two softmaxes over the extended reals. One weighs by powers of two and divides the weighted sum
   by the sum of the weights; the other weighs by exponentials and divides each weight. Where a score is minus infinity
   the weight is zero in both. -/
module

public import Idealize.ShloMosaic.PureOps.Ideal

@[expose] public section

noncomputable section

namespace Cert.MixerA

open Idealize.ShloMosaic

theorem coe_sum {ι : Type} (s : Finset ι) (f : ι → ℝ) : ((∑ i ∈ s, f i : ℝ) : EReal) = ∑ i ∈ s, (f i : EReal) := by
  classical
  induction s using Finset.induction_on with
  | empty => rfl
  | insert a s ha ih => rw [Finset.sum_insert ha, Finset.sum_insert ha, EReal.coe_add, ih]

/-- A real factor that is not negative goes into a sum, whatever the terms are. -/
theorem sum_mul_coe {ι : Type} (s : Finset ι) (f : ι → EReal) {c : ℝ} (hc : 0 ≤ c) : (∑ i ∈ s, f i) * (c : EReal) = ∑ i ∈ s, f i * (c : EReal) := by
  classical
  induction s using Finset.induction_on with
  | empty => simp
  | insert a s ha ih =>
    rw [Finset.sum_insert ha, Finset.sum_insert ha, EReal.right_distrib_of_nonneg_of_ne_top (EReal.coe_nonneg.2 hc) (EReal.coe_ne_top c), ih]

theorem fold_max {ι : Type} [Fintype ι] (t : ι → EReal) : Finset.univ.fold max ⊥ t = Finset.univ.sup t := rfl

/-- A power of two of a number over the logarithm of two is its exponential. -/
theorem rpow_two (a : ℝ) : Real.rpow 2 (a * (Real.log 2)⁻¹) = Real.exp a := by
  show (2 : ℝ) ^ (a * (Real.log 2)⁻¹) = _
  have h2 : Real.log 2 ≠ 0 := (Real.log_pos one_lt_two).ne'
  rw [Real.rpow_def_of_pos two_pos]
  congr 1
  field_simp

section

variable {J K : Type} [Fintype J] [Fintype K]
variable (f : J → K) (hf : Function.Injective f) (ok : J → Prop) (r : J → ℝ) (u : K → EReal) (t : J → EReal)
variable (ht : ∀ j, ok j → t j = (r j : EReal)) (ht' : ∀ j, ¬ ok j → t j = ⊥)
variable (hu : ∀ j, ok j → u (f j) = ((r j * (Real.log 2)⁻¹ : ℝ) : EReal)) (hu' : ∀ j, ¬ ok j → u (f j) = ⊥)
variable (hn : ∀ k, k ∉ Set.range f → u k = ⊥)

include ht ht' hu hu' hn in
/-- The greatest scores: one real, and its multiple. -/
theorem sups (hne : ∃ j, ok j) : ∃ R : ℝ, Finset.univ.sup t = (R : EReal) ∧ Finset.univ.sup u = ((R * (Real.log 2)⁻¹ : ℝ) : EReal) := by
  classical
  have hL : 0 < (Real.log 2)⁻¹ := inv_pos.2 (Real.log_pos one_lt_two)
  obtain ⟨j₁, h₁⟩ := hne
  obtain ⟨j₀, h₀, hmax⟩ := Finset.exists_max_image (Finset.univ.filter ok) r ⟨j₁, by simp [h₁]⟩
  have h₀ : ok j₀ := (Finset.mem_filter.1 h₀).2
  have hmax : ∀ j, ok j → r j ≤ r j₀ := fun j hj => hmax j (by simp [hj])
  refine ⟨r j₀, le_antisymm (Finset.sup_le fun j _ => ?_) ?_, le_antisymm (Finset.sup_le fun k _ => ?_) ?_⟩
  · by_cases hj : ok j
    · rw [ht j hj]; exact EReal.coe_le_coe_iff.2 (hmax j hj)
    · rw [ht' j hj]; exact bot_le
  · rw [← ht j₀ h₀]; exact Finset.le_sup (Finset.mem_univ _)
  · by_cases hk : k ∈ Set.range f
    · obtain ⟨j, rfl⟩ := hk
      by_cases hj : ok j
      · rw [hu j hj]; exact EReal.coe_le_coe_iff.2 (mul_le_mul_of_nonneg_right (hmax j hj) hL.le)
      · rw [hu' j hj]; exact bot_le
    · rw [hn k hk]; exact bot_le
  · rw [← hu j₀ h₀]; exact Finset.le_sup (Finset.mem_univ _)

include hf ht ht' hu hu' hn in
/-- The two softmaxes are one: over the larger set of keys with powers of two and one division at the end, over the
    smaller with exponentials and a division of each. -/
theorem softmax_eq (w : K → EReal) (v : J → EReal) (hw : ∀ j, ok j → w (f j) = v j) (hne : ∃ j, ok j) :
    Ideal.div (∑ k, w k * Ideal.exp2 (u k - Finset.univ.fold max ⊥ u)) (∑ k, Ideal.exp2 (u k - Finset.univ.fold max ⊥ u))
      = ∑ j, v j * Ideal.div (Ideal.exp (t j - Finset.univ.fold max ⊥ t)) (∑ i, Ideal.exp (t i - Finset.univ.fold max ⊥ t)) := by
  classical
  obtain ⟨R, hM, hm⟩ := sups f ok r u t ht ht' hu hu' hn hne
  rw [fold_max, fold_max, hM, hm]
  have eb : ∀ s : ℝ, Ideal.exp (⊥ - (s : EReal)) = 0 := fun s => by rw [EReal.bot_sub]; rfl
  have e2b : ∀ s : ℝ, Ideal.exp2 (⊥ - (s : EReal)) = 0 := fun s => by rw [EReal.bot_sub]; rfl
  let a : J → ℝ := fun j => if ok j then Real.exp (r j - R) else 0
  have ha : ∀ j, Ideal.exp (t j - (R : EReal)) = (a j : EReal) := by
    intro j
    by_cases hj : ok j
    · rw [ht j hj, ← EReal.coe_sub, Ideal.exp_coe]; simp only [a, if_pos hj]
    · rw [ht' j hj, eb]; simp only [a, if_neg hj]; rfl
  have hb : ∀ j, Ideal.exp2 (u (f j) - ((R * (Real.log 2)⁻¹ : ℝ) : EReal)) = (a j : EReal) := by
    intro j
    by_cases hj : ok j
    · rw [hu j hj, ← EReal.coe_sub, Ideal.exp2_coe, ← sub_mul, rpow_two]; simp only [a, if_pos hj]
    · rw [hu' j hj, e2b]; simp only [a, if_neg hj]; rfl
  have h0 : ∀ k, k ∉ Set.range f → Ideal.exp2 (u k - ((R * (Real.log 2)⁻¹ : ℝ) : EReal)) = 0 := fun k hk => by rw [hn k hk, e2b]
  have hwa : ∀ j, w (f j) * (a j : EReal) = v j * (a j : EReal) := by
    intro j
    by_cases hj : ok j
    · rw [hw j hj]
    · have : a j = 0 := by simp only [a, if_neg hj]
      rw [this]; simp
  have s1 : ∑ k, Ideal.exp2 (u k - ((R * (Real.log 2)⁻¹ : ℝ) : EReal)) = ((∑ j, a j : ℝ) : EReal) := by
    rw [coe_sum, ← Fintype.sum_of_injective f hf (fun j => (a j : EReal)) _ h0 (fun j => (hb j).symm)]
  have s2 : ∑ k, w k * Ideal.exp2 (u k - ((R * (Real.log 2)⁻¹ : ℝ) : EReal)) = ∑ j, v j * (a j : EReal) :=
    (Fintype.sum_of_injective f hf (fun j => v j * (a j : EReal)) _ (fun k hk => by rw [h0 k hk, mul_zero]) (fun j => by rw [hb j, hwa j])).symm
  have hD : 0 < ∑ j, a j := by
    obtain ⟨j, hj⟩ := hne
    refine Finset.sum_pos' (fun i _ => ?_) ⟨j, Finset.mem_univ _, ?_⟩
    · simp only [a]; split <;> positivity
    · simp only [a, if_pos hj]; positivity
  have s3 : ∑ i, Ideal.exp (t i - (R : EReal)) = ((∑ j, a j : ℝ) : EReal) := by
    rw [coe_sum]; exact Finset.sum_congr rfl fun i _ => ha i
  rw [s1, s2, s3, Ideal.div_coe hD.ne', sum_mul_coe _ _ (by positivity)]
  refine Finset.sum_congr rfl fun j _ => ?_
  rw [ha, Ideal.div_coe hD.ne', ← mul_assoc]

end

end Cert.MixerA
-- ==== Proof.MixerA.Pre.lean ====
/- The precondition read: every query, every key and every relative bias is a real number. -/
module

public import proofs.«01_k».proof.Proof.Gen.Pre_finite
public import proofs.«01_k».proof.Proof.MixerA.Consts
public import Idealize.ShloMosaic.Lib.ReduceAll
public import Idealize.ShloMosaic.Lib.Pointwise

@[expose] public section

set_option maxRecDepth 16384

noncomputable section

namespace Cert.MixerA

open Idealize.ShloMosaic Cert.Pre_finite Cert.Pre_finite.Facts

/-- A number whose absolute value is below plus infinity is real. -/
theorem real_of_abs (a : EReal) (h : FloatOps.absf (F := Ideal) (φ := .f32) a < (⊤ : EReal)) : ∃ r : ℝ, a = r := by
  induction a with
  | bot => exact absurd h (by decide)
  | top => exact absurd h (by decide)
  | coe r => exact ⟨r, rfl⟩

/-- A comparison with plus infinity that holds. -/
theorem lt_of_cmpf {a : EReal} (h : FloatOps.cmpf (F := Ideal) (φ := .f32) .olt a (Ideal.ofBits .f32 0x7F800000#32) = 1#1) : a < ⊤ := by
  rw [pinf_eq] at h
  by_contra hn
  have : BitVec.ofBool (decide (a < ⊤)) = 1#1 := h
  simp [hn] at this

/-- The entry of the projection at a column of the queries or the keys. -/
theorem cut_at (x : FVec Ideal S2x4096x9296 .f32) (h : S2x4096x9296.Slices ![0, 0, 0] S2x4096x2048) (b : Fin 2) (r : Fin 4096) (e : Fin 2048) :
    extractStridedSlice S2x4096x2048 ![0, 0, 0] x h (ix3 b r e) = x (ix3 b r ⟨e.val, by omega⟩) := by
  pointwise []

/-- What the precondition says of the arguments. -/
theorem real_of_fn (x : FVec Ideal S2x4096x9296 .f32) (rb : FVec Ideal S1x8x257 .f32) (h : fn (F := Ideal) x rb = fun _ => 1#1) :
    (∀ (b : Fin 2) (r : Fin 4096) (e : Fin 2048), ∃ a : ℝ, x (ix3 b r ⟨e.val, by omega⟩) = (a : EReal)) ∧ ∀ i, ∃ a : ℝ, rb i = (a : EReal) := by
  have h0 := congrFun h (Shape.Idx.first (by decide : 0 < S_.numel))
  dsimp only [fn] at h0
  have h1 : IntOp.andi _ _ = 1#1 := h0
  rw [IntOp.andi_eq_one] at h1
  have : Subsingleton S_.Idx := ⟨fun a b => funext fun i => i.elim0⟩
  refine ⟨fun b r e => ?_, fun i => ?_⟩
  · have := Host.reduce_andi_all _ _ _ _ _ h1.1 (ix3 b r e)
    rw [← cut_at x slices_S2x4096x9296_S2x4096x2048_0_0_0 b r e]
    exact real_of_abs _ (lt_of_cmpf this)
  · have := Host.reduce_andi_all _ _ _ _ _ h1.2 i
    exact real_of_abs (rb i) (lt_of_cmpf this)

end Cert.MixerA
-- ==== Proof.MixerA.Value.lean ====
/- The kernel's result is the reference's: block by block, the softmax over the window against the softmax over the band. -/
module

public import proofs.«01_k».proof.Proof.MixerA.At
public import proofs.«01_k».proof.Proof.MixerA.Host
public import proofs.«01_k».proof.Proof.MixerA.RefAt
public import proofs.«01_k».proof.Proof.MixerA.Softmax
public import proofs.«01_k».proof.Proof.MixerA.Pre

@[expose] public section

set_option maxRecDepth 16384

noncomputable section

namespace Cert.KernelIdeal.MixerA

open Idealize.ShloMosaic Idealize.ShloMosaic.TcCoe Cert.KernelIdeal Cert.KernelIdeal.Gen Cert.MixerA
open Idealize.ShloMosaic.Pipeline (Dat)
open Cert.ReferenceIdeal.MixerA (result scoreAt valueAt result_at)

/-! ## The named constants -/

theorem lgOf_eq : lgOf (F := Ideal) = (((Real.log 2)⁻¹ : ℝ) : EReal) := IdealRules.named_const.ideal_named_scalar _ _ _ _ rfl
theorem scOf_eq : scOf (F := Ideal) = (((11863283 / 134217728) * (Real.log 2)⁻¹ : ℝ) : EReal) := IdealRules.named_const.ideal_named_scalar _ _ _ _ rfl

/-! ## Which keys are kept -/

/-- A key of the window is kept where it is not before the sequence. -/
theorem keep_flags (t : Fin cfg0.N) (k : Fin 768) (a : EReal) :
    keep (flag0 (grid0.coords t)) (flag1 (grid0.coords t)) k.val a = if 512 ≤ 256 * (t.val % 16) + k.val then a else ⊥ := by
  rw [(flags t).1, (flags t).2]
  unfold keep
  by_cases h1 : k.val < 256
  · rw [if_pos h1]
    by_cases h2 : 2 ≤ t.val % 16
    · rw [if_pos h2, if_pos (show 512 ≤ 256 * (t.val % 16) + k.val by omega)]; rfl
    · rw [if_neg h2, if_neg (show ¬ 512 ≤ 256 * (t.val % 16) + k.val by omega)]; rfl
  · rw [if_neg h1]
    by_cases h3 : k.val < 512
    · rw [if_pos h3]
      by_cases h2 : 1 ≤ t.val % 16
      · rw [if_pos h2, if_pos (show 512 ≤ 256 * (t.val % 16) + k.val by omega)]; rfl
      · rw [if_neg h2, if_neg (show ¬ 512 ≤ 256 * (t.val % 16) + k.val by omega)]; rfl
    · rw [if_neg h3, if_pos (show 512 ≤ 256 * (t.val % 16) + k.val by omega)]

/-- The table's place for a key of the band holds the bias of the reference's distance. -/
theorem tablePos_band (q j : ℕ) (hq : q < 256) (hj : j < 576) : tablePos ((64 * (q / 64) + j + 768 - q) % 768) = min 256 (q % 64 + 640 - j) := by
  unfold tablePos
  split
  · omega
  · split
    · omega
    · split <;> omega

variable (m : (ℓ : Loc nD τ sig) → Buf (Elt Ideal) ℓ)

/-- The scaled scores of a row against the window, with biases and mask. -/
def winScore (c : Dev nD) (t : Fin cfg0.N) (h : Fin 8) (q : Fin 256) (k : Fin 768) : EReal :=
  keep (flag0 (grid0.coords t)) (flag1 (grid0.coords t)) k.val
    (scoreAll (iblk m c 0 t) ![iblk m c 1 t, iblk m c 2 t, iblk m c 3 t] (ix3 h k q) * scOf (F := Ideal) + biases m c (ix3 h k q))

/-- They are: minus infinity before the sequence and off the band, else the product of the rows, scaled, and its bias. -/
theorem winScore_eq (c : Dev nD) (t : Fin cfg0.N) (h : Fin 8) (q : Fin 256) (k : Fin 768) :
    winScore m c t h q k = if 512 ≤ 256 * (t.val % 16) + k.val then
      (∑ d : Fin 128, proj m c (ix3 ⟨t.val / 16, by have := point_lt t; omega⟩ ⟨256 * (t.val % 16 - min (t.val % 16) (2 - k.val / 256)) + k.val % 256, by omega⟩ ⟨1024 + (128 * h.val + d.val), by omega⟩)
          * proj m c (ix3 ⟨t.val / 16, by have := point_lt t; omega⟩ ⟨256 * (t.val % 16) + q.val, by omega⟩ ⟨128 * h.val + d.val, by omega⟩))
        * (((11863283 / 134217728) * (Real.log 2)⁻¹ : ℝ) : EReal)
      + (if q.val / 64 ≤ k.val / 64 ∧ k.val / 64 ≤ q.val / 64 + 8 then
          biasArg m c (ix3 0 h ⟨tablePos ((k.val + 768 - q.val) % 768), tablePos_lt _⟩) * (((Real.log 2)⁻¹ : ℝ) : EReal) else ⊥)
      else ⊥ := by
  unfold winScore
  rw [keep_flags]
  refine congrArg (fun a : EReal => if 512 ≤ 256 * (t.val % 16) + k.val then a else ⊥) ?_
  unfold biases
  rw [scoreAll_at, biasAll_at, scOf_eq, lgOf_eq]
  refine congrArg₂ _ (congrArg (· * _) (Finset.sum_congr rfl fun d _ => ?_)) ?_
  · exact congrArg₂ _ (keys_at m c t _ _ _) (queries_at m c t _ _)
  · refine congrArg (fun a : EReal => if q.val / 64 ≤ k.val / 64 ∧ k.val / 64 ≤ q.val / 64 + 8 then a * _ else ⊥) ?_
    exact table_at m c t₀ h _

/-- What a point leaves, at an index of its block, is the reference's result there. -/
theorem left_at (c : Dev nD) (t : Fin cfg0.N) (hx : ∀ (b : Fin 2) (r : Fin 4096) (e : Fin 2048), ∃ a : ℝ, proj m c (ix3 b r ⟨e.val, by omega⟩) = (a : EReal)) (hb : ∀ i, ∃ r : ℝ, biasArg m c i = (r : EReal))
    (q : Fin 256) (e : Fin 1024) : left m c t (ix2 q e) = result (proj m c) (biasArg m c) (ix2 ⟨256 * t.val + q.val, by have := point_lt t; omega⟩ e) := by
  have ht := point_lt t
  obtain ⟨xr, hxr⟩ : ∃ xr : S2x4096x9296.Idx → ℝ, ∀ (b : Fin 2) (r : Fin 4096) (e : Fin 2048), proj m c (ix3 b r ⟨e.val, by omega⟩) = (xr (ix3 b r ⟨e.val, by omega⟩) : EReal) :=
    ⟨fun i => (proj m c i).toReal, fun b r e => by obtain ⟨a, ha⟩ := hx b r e; beta_reduce; rw [ha, EReal.toReal_coe]⟩
  have hq : ∀ (b : Fin 2) (r : Fin 4096) (h : Fin 8) (d : Fin 128), proj m c (ix3 b r ⟨128 * h.val + d.val, by omega⟩) = (xr (ix3 b r ⟨128 * h.val + d.val, by omega⟩) : EReal) :=
    fun b r h d => hxr b r ⟨128 * h.val + d.val, by omega⟩
  have hk : ∀ (b : Fin 2) (r : Fin 4096) (h : Fin 8) (d : Fin 128), proj m c (ix3 b r ⟨1024 + (128 * h.val + d.val), by omega⟩) = (xr (ix3 b r ⟨1024 + (128 * h.val + d.val), by omega⟩) : EReal) :=
    fun b r h d => hxr b r ⟨1024 + (128 * h.val + d.val), by omega⟩
  choose br hbr using hb
  have hh : e.val / 128 < 8 := by omega
  obtain ⟨h, hh⟩ : ∃ h : Fin 8, h.val = e.val / 128 := ⟨⟨e.val / 128, hh⟩, rfl⟩
  unfold left
  rw [block_at scOf _ _ (biases m c) _ _ _ _ q e h hh (winScore m c t h q) (fun _ => rfl)]
  rw [result_at (proj m c) (biasArg m c) ⟨256 * t.val + q.val, by omega⟩ e ⟨t.val / 16, by omega⟩ h ⟨4 * (t.val % 16) + q.val / 64, by omega⟩ ⟨q.val % 64, by omega⟩ ⟨e.val % 128, by omega⟩
    (by simp only []; omega) (by simp only []; omega)]
  refine congrArg₂ _ ?_ ?_
  · have hrow : ∀ j : Fin 576, 64 * (4 * (t.val % 16) + q.val / 64) + j.val - 512 < 4096 := fun j => by omega
    refine softmax_eq (fun j : Fin 576 => (⟨64 * (q.val / 64) + j.val, by omega⟩ : Fin 768)) (fun a b hab => Fin.ext (by simpa using hab))
      (fun j => 512 ≤ 64 * (4 * (t.val % 16) + q.val / 64) + j.val)
      (fun j => (∑ d : Fin 128, xr (ix3 ⟨t.val / 16, by omega⟩ ⟨64 * (4 * (t.val % 16) + q.val / 64) + q.val % 64, by omega⟩ ⟨128 * h.val + d.val, by omega⟩)
          * xr (ix3 ⟨t.val / 16, by omega⟩ ⟨64 * (4 * (t.val % 16) + q.val / 64) + j.val - 512, hrow j⟩ ⟨1024 + (128 * h.val + d.val), by omega⟩)) * (11863283 / 134217728)
        + br (ix3 0 h ⟨min 256 (q.val % 64 + 640 - j.val), by omega⟩))
      _ _ ?_ ?_ ?_ ?_ ?_ _ _ ?_ ?_
    · intro j hj
      simp only [scoreAt]
      rw [dif_pos hj, scale_eq]
      simp only [hq, hk, hbr]
      push_cast
      rw [coe_sum]
      push_cast
      rfl
    · intro j hj
      simp only [scoreAt]
      rw [dif_neg hj]
    · intro j hj
      rw [winScore_eq, if_pos (by simp only []; omega), if_pos (by simp only []; omega)]
      simp only [hq, hk, hbr]
      have e1 : ∀ d : Fin 128, xr (ix3 ⟨t.val / 16, by omega⟩ ⟨256 * (t.val % 16 - min (t.val % 16) (2 - (64 * (q.val / 64) + j.val) / 256)) + (64 * (q.val / 64) + j.val) % 256, by omega⟩ ⟨1024 + (128 * h.val + d.val), by omega⟩)
          = xr (ix3 ⟨t.val / 16, by omega⟩ ⟨64 * (4 * (t.val % 16) + q.val / 64) + j.val - 512, hrow j⟩ ⟨1024 + (128 * h.val + d.val), by omega⟩) := fun d =>
        congrArg (fun i => xr (ix3 _ i _)) (Fin.ext (by simp only []; omega))
      have e2 : ∀ d : Fin 128, xr (ix3 ⟨t.val / 16, by omega⟩ ⟨256 * (t.val % 16) + q.val, by omega⟩ ⟨128 * h.val + d.val, by omega⟩)
          = xr (ix3 ⟨t.val / 16, by omega⟩ ⟨64 * (4 * (t.val % 16) + q.val / 64) + q.val % 64, by omega⟩ ⟨128 * h.val + d.val, by omega⟩) := fun d =>
        congrArg (fun i => xr (ix3 _ i _)) (Fin.ext (by simp only []; omega))
      have e3 : br (ix3 0 h ⟨tablePos ((64 * (q.val / 64) + j.val + 768 - q.val) % 768), tablePos_lt _⟩) = br (ix3 0 h ⟨min 256 (q.val % 64 + 640 - j.val), by omega⟩) :=
        congrArg (fun i => br (ix3 0 h i)) (Fin.ext (tablePos_band q.val j.val q.isLt j.isLt))
      simp only [e1, e2, e3, ← EReal.coe_mul]
      rw [← coe_sum, ← EReal.coe_mul, ← EReal.coe_add]
      refine congrArg _ ?_
      rw [Finset.sum_congr rfl fun d _ => mul_comm _ _]
      ring
    · intro j hj
      rw [winScore_eq, if_neg (by simp only []; omega)]
    · intro k hkr
      have hk' : ¬ (q.val / 64 ≤ k.val / 64 ∧ k.val / 64 ≤ q.val / 64 + 8) := fun hc =>
        hkr ⟨⟨k.val - 64 * (q.val / 64), by omega⟩, Fin.ext (by simp only []; omega)⟩
      rw [winScore_eq, if_neg hk', EReal.add_bot]
      split <;> rfl
    · intro j hj
      simp only [valueAt]
      rw [dif_pos hj]
      refine (values_at m c t _ _ _).trans ((proj_congr m c _ ⟨t.val / 16, by omega⟩ _ ⟨64 * (4 * (t.val % 16) + q.val / 64) + j.val - 512, hrow j⟩ _ rfl ?_).trans ?_)
      · simp only []
        omega
      · exact congrArg (fun i => proj m c (ix3 _ _ i)) (Fin.ext (by simp only []; omega))
    · exact ⟨⟨512, by omega⟩, by simp⟩
  · rw [gates_at, zero_sub]
    rw [proj_congr m c ⟨t.val / 16, by omega⟩ ⟨t.val / 16, by omega⟩ ⟨256 * (t.val % 16) + q.val, by omega⟩ ⟨64 * (4 * (t.val % 16) + q.val / 64) + q.val % 64, by omega⟩
      ⟨3072 + e.val, by omega⟩ rfl (by simp only []; omega)]

/-- The result array after the run. -/
theorem final (c : Dev nD) (hx : ∀ (b : Fin 2) (r : Fin 4096) (e : Fin 2048), ∃ a : ℝ, proj m c (ix3 b r ⟨e.val, by omega⟩) = (a : EReal)) (hb : ∀ i, ∃ r : ℝ, biasArg m c i = (r : EReal)) :
    (dats m 0 c).arrAt 9 (cfgs 0).N = result (proj m c) (biasArg m c) := by
  refine (dats m 0 c).arrAt_eq_of_covers 9 _ (by decide +kernel) fun t _ y => ?_
  blk_simp
  rw [after0_9]
  idx_vars y
  refine (left_at m c t hx hb _ _).trans ?_
  blk_ext [idx t]

end Cert.KernelIdeal.MixerA
-- ==== Proof.MixerA.Claims.lean ====
/- The claims of the first mixer, each proved. -/
module

public import proofs.«01_k».proof.Defs
public import proofs.«01_k».proof.Proof.MixerA.KernelFrame
public import proofs.«01_k».proof.Proof.MixerA.Value
public import proofs.«01_k».proof.Proof.Gen.ReferenceIdeal.Run
public import Idealize.ShloMosaic.Lib.Claim
public import Idealize.ShloMosaic.Lib.Quiescent

@[expose] public section

set_option maxRecDepth 16384

noncomputable section

namespace Cert.MixerA

open Idealize.ShloMosaic Idealize.ShloMosaic.TcCoe Idealize.SL.Sem

/-- The reference's frame. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩) (Cert.ReferenceIdeal.Value.run (F := Ideal) m ρ)

/-- The named constants are the literals, rounded. -/
theorem constants : Cert.preserves_Kernel_KernelIdeal :=
  ⟨IdealRules.named_const.statement Cert.KernelIdeal.κ "log2e" .f32 0x3FB8AA3B#32 (((Real.log 2)⁻¹ : ℝ) : EReal) rfl,
    IdealRules.named_const.statement Cert.KernelIdeal.κ "scale2" .f32 0x3E0293EE#32 (((11863283 / 134217728) * (Real.log 2)⁻¹ : ℝ) : EReal) rfl⟩

/-- The kernel computes the reference. -/
theorem agree : Cert.algebraic_KernelIdeal_ReferenceIdeal_pre_finite := by
  intro m ρ m' ρ' hpre hagree
  refine ⟨fun c => Cert.ReferenceIdeal.MixerA.result (Cert.KernelIdeal.MixerA.proj m c) (Cert.KernelIdeal.MixerA.biasArg m c), ?_, ?_⟩
  · run_from Cert.KernelIdeal.MixerA.run m ρ
    exact Cert.KernelIdeal.MixerA.final m c (real_of_fn _ _ (hpre c)).1 (real_of_fn _ _ (hpre c)).2
  · refine (θ_run Cert.ReferenceIdeal.defs _ _).mono (fun _ h c => ⟨(h c).1.trans ?_, (h c).2⟩) (Cert.ReferenceIdeal.Value.run (F := Ideal) m' ρ')
    refine (Cert.ReferenceIdeal.MixerA.result_eq m' c).trans ?_
    rw [(hagree c).1, (hagree c).2]

end Cert.MixerA
-- ==== Proof.Projection.Segments.lean ====
/- The input projection's transposed segments (queries and values of both mixers, the indexer's queries): what the call computes, block by block, and that it is the reference. -/
module

public import proofs.«01_k».proof.Proof.Gen.KernelTIdeal.Value
public import proofs.«01_k».proof.Proof.Gen.ReferenceTIdeal.Run
public import Idealize.ShloMosaic.Lib.Pipeline.ValueKit
public import Idealize.ShloMosaic.Lib.Pointwise
public import Idealize.ShloMosaic.Lib.StableHlo.ReadAt

@[expose] public section

set_option maxRecDepth 16384

noncomputable section

namespace Cert.ReferenceTIdeal

open Idealize.ShloMosaic Idealize.ShloMosaic.TcCoe Cert.ReferenceTIdeal Cert.ReferenceTIdeal.Gen

/-- The reference's projection: the normed rows times the weights. -/
def projection (h : FVec Ideal S2x4096x2048 .f32) (w : FVec Ideal S1x2048x9296 .f32) : FVec Ideal S2x4096x9296 .f32 :=
  Host.dotGeneral dot_S2x4096x2048_S2048x9296_S2x4096x9296_2_0_01_1_n_n none h (shapeCast _ w shapeCasts_S1x2048x9296_S2048x9296)

/-- The reference's result: five segments of the projection, in transposed slabs of 256 rows. -/
def segments (h : FVec Ideal S2x4096x2048 .f32) (w : FVec Ideal S1x2048x9296 .f32) : FVec Ideal S5x32x1024x256 .bf16 :=
  transpose S5x32x1024x256 [0, 1, 3, 2] (shapeCast _ (truncf .bf16 ((concatenate S5x2x4096x1024 0 [⟨S1x2x4096x1024, ((broadcastInDim S1x2x4096x1024 ![1, 2, 3] bcast_S2x4096x1024_S1x2x4096x1024_1_2_3 (extractStridedSlice S2x4096x1024 ![0, 0, 0] (projection h w) slices_S2x4096x9296_S2x4096x1024_0_0_0)) : FVec Ideal S1x2x4096x1024 .f32)⟩, ⟨S1x2x4096x1024, ((broadcastInDim S1x2x4096x1024 ![1, 2, 3] bcast_S2x4096x1024_S1x2x4096x1024_1_2_3 (extractStridedSlice S2x4096x1024 ![0, 0, 2048] (projection h w) slices_S2x4096x9296_S2x4096x1024_0_0_2048)) : FVec Ideal S1x2x4096x1024 .f32)⟩, ⟨S1x2x4096x1024, ((broadcastInDim S1x2x4096x1024 ![1, 2, 3] bcast_S2x4096x1024_S1x2x4096x1024_1_2_3 (extractStridedSlice S2x4096x1024 ![0, 0, 4096] (projection h w) slices_S2x4096x9296_S2x4096x1024_0_0_4096)) : FVec Ideal S1x2x4096x1024 .f32)⟩, ⟨S1x2x4096x1024, ((broadcastInDim S1x2x4096x1024 ![1, 2, 3] bcast_S2x4096x1024_S1x2x4096x1024_1_2_3 (extractStridedSlice S2x4096x1024 ![0, 0, 6144] (projection h w) slices_S2x4096x9296_S2x4096x1024_0_0_6144)) : FVec Ideal S1x2x4096x1024 .f32)⟩, ⟨S1x2x4096x1024, ((broadcastInDim S1x2x4096x1024 ![1, 2, 3] bcast_S2x4096x1024_S1x2x4096x1024_1_2_3 (extractStridedSlice S2x4096x1024 ![0, 0, 8192] (projection h w) slices_S2x4096x9296_S2x4096x1024_0_0_8192)) : FVec Ideal S1x2x4096x1024 .f32)⟩] concatenates_S1x2x4096x1024_S1x2x4096x1024_S1x2x4096x1024_S1x2x4096x1024_S1x2x4096x1024_S5x2x4096x1024_d0 : FVec Ideal S5x2x4096x1024 .f32)) bitsLt_bf16_f32) shapeCasts_S5x2x4096x1024_S5x32x256x1024) transposes_S5x32x256x1024_S5x32x1024x256_0_1_3_2

/-- The projection at an index: a row against a column of the weights. -/
theorem projection_at (h : FVec Ideal S2x4096x2048 .f32) (w : FVec Ideal S1x2048x9296 .f32) (b : Fin 2) (r : Fin 4096) (e : Fin 9296) :
    projection h w (ix3 b r e) = ∑ k : Fin 2048, h (ix3 b r k) * w (ix3 0 k e) := by
  pointwise [projection]

/-- The reference's result at an entry is the projection at the segment's column and the slab's row. -/
theorem segments_at (h : FVec Ideal S2x4096x2048 .f32) (w : FVec Ideal S1x2048x9296 .f32) (s : Fin 5) (g : Fin 32) (e : Fin 1024) (q : Fin 256) :
    segments h w (ix4 s g e q)
      = projection h w (ix3 ⟨(256 * g.val + q.val) / 4096, by omega⟩ ⟨(256 * g.val + q.val) % 4096, by omega⟩ ⟨2048 * s.val + e.val, by omega⟩) := by
  pointwise [segments]
  obtain ⟨s, hs⟩ := s
  have hb : g.val / 16 = (256 * g.val + q.val) / 4096 := by omega
  have hr : g.val % 16 * 256 + q.val = (256 * g.val + q.val) % 4096 := by omega
  interval_cases s <;> simp only [hb, hr] <;> simp

end Cert.ReferenceTIdeal

namespace Cert.KernelTIdeal.Projection

open Idealize.ShloMosaic Idealize.ShloMosaic.TcCoe Idealize.SL.Sem Cert.KernelTIdeal Cert.KernelTIdeal.Gen
open Idealize.ShloMosaic.Pipeline (Dat)

/-- Which block of each array a grid point takes. -/
theorem idx : ∀ t : Fin cfg0.N, win0_0.index t = ![2 * (t.val / 8), 0] ∧ win0_1.index t = ![t.val % 8, 0] ∧ win0_2.index t = ![t.val / 8, t.val % 8, 0, 0] :=
  (by decide +kernel : ∀ t : Fin grid0.N, _)

variable (m : (ℓ : Loc nD τ sig) → Buf (Elt Ideal) ℓ)

/-- A row of a weights' block is a row of the weights. -/
theorem row_lt (t : Fin cfg0.N) (r : Fin 1024) : (2 * (t.val / 8)) * 1024 + r.val < 9296 := by
  have ht : t.val < 40 := lt_of_lt_of_eq t.isLt N_0
  have hr := r.isLt
  omega

/-- The weights' block at a point, entry by entry. -/
theorem weights_at (c : Dev nD) (t : Fin cfg0.N) (y : S1024x2048.Idx) :
    X0_0 m c t y = V m c main_v3 (ix2 ⟨(2 * (t.val / 8)) * 1024 + (y 0).val, row_lt t (y 0)⟩ (y 1)) := by
  unfold X0_0
  unfold Pipeline.Window.fill
  rw [dif_pos (moved0_0 t y)]
  blk_ext [iblk, idx t]

/-- After every point the scratch holds the point's own block of weights. -/
theorem scratch (c : Dev nD) (n : ℕ) (hn : n < cfg0.N) : (outsAt0 m c n hn).2 = k0_pay1 (X0_0 m c ⟨n, hn⟩) := by
  induction n with
  | zero =>
    rw [outsAt0_A m c ⟨0, hn⟩ (Nat.zero_mod _)]
    frame_out
  | succ n ih =>
    by_cases h : (n + 1) % 8 = 0
    · rw [outsAt0_A m c ⟨n + 1, hn⟩ h]
      frame_out
    · rw [outsAt0_B m c ⟨n + 1, hn⟩ h]
      refine (ih (Nat.lt_of_succ_lt hn)).trans (congrArg k0_pay1 (funext fun y => ?_))
      rw [weights_at, weights_at]
      have hq : (n + 1) / 8 = n / 8 := by omega
      blk_ext [hq]

/-- The stores of a point: its product's slabs of 256 rows, each transposed. -/
theorem slab0 (H W : FVec Ideal S1024x2048 .bf16) (x : S1x1x1024x256.Idx) :
    (k0_pay3 (F := Ideal) H W x : EReal) = (k0_pay2 (F := Ideal) H W (ix2 ⟨(x 3).val, (show (x 3).val < 256 from (x 3).isLt).trans (by decide)⟩ (x 2)) : EReal) := by
  pointwise [k0_pay3]
/-- The same of the second slab. -/
theorem slab1 (H W : FVec Ideal S1024x2048 .bf16) (x : S1x1x1024x256.Idx) :
    (k0_pay4 (F := Ideal) H W x : EReal) = (k0_pay2 (F := Ideal) H W (ix2 ⟨256 + (x 3).val, by have h : (x 3).val < 256 := (x 3).isLt; omega⟩ (x 2)) : EReal) := by
  pointwise [k0_pay4]
/-- The same of the third. -/
theorem slab2 (H W : FVec Ideal S1024x2048 .bf16) (x : S1x1x1024x256.Idx) :
    (k0_pay5 (F := Ideal) H W x : EReal) = (k0_pay2 (F := Ideal) H W (ix2 ⟨512 + (x 3).val, by have h : (x 3).val < 256 := (x 3).isLt; omega⟩ (x 2)) : EReal) := by
  pointwise [k0_pay5]
/-- The same of the fourth. -/
theorem slab3 (H W : FVec Ideal S1024x2048 .bf16) (x : S1x1x1024x256.Idx) :
    (k0_pay6 (F := Ideal) H W x : EReal) = (k0_pay2 (F := Ideal) H W (ix2 ⟨768 + (x 3).val, by have h : (x 3).val < 256 := (x 3).isLt; omega⟩ (x 2)) : EReal) := by
  pointwise [k0_pay6]

/-- The product of a point's rows with its block of weights. -/
def product (c : Dev nD) (t : Fin cfg0.N) : FVec Ideal S1024x1024 .f32 := k0_pay2 (F := Ideal) (iblk m c 1 t) (k0_pay1 (F := Ideal) (X0_0 m c t))

/-- Reading an entry of the product at equal places. -/
theorem product_congr (c : Dev nD) (t : Fin cfg0.N) {W : FVec Ideal S1024x2048 .bf16} (hW : W = k0_pay1 (F := Ideal) (X0_0 m c t))
    {r r' e e' : Fin 1024} (hr : r.val = r'.val) (he : e.val = e'.val) :
    k0_pay2 (F := Ideal) (iblk m c 1 t) W (ix2 r e) = product m c t (ix2 r' e') := by
  rw [Fin.ext hr, Fin.ext he, hW]
  rfl

/-- What a point writes back. -/
theorem stored (c : Dev nD) (t : Fin cfg0.N) (y : S1x4x1024x256.Idx) :
    (outsAt0 m c t.val t.isLt).1 y = product m c t (ix2 ⟨256 * (y 1).val + (y 3).val, by have h1 : (y 1).val < 4 := (y 1).isLt; have h3 : (y 3).val < 256 := (y 3).isLt; omega⟩ (y 2)) := by
  by_cases h : t.val % 8 = 0
  · rw [outsAt0_A m c t h]
    frame_out
    canon_tiles x hx
    · exact (slab3 _ _ x).trans (product_congr m c t rfl (by show 768 + (x 3).val = 256 * (y 1).val + (y 3).val; omega) hx2.symm)
    · exact (slab2 _ _ x).trans (product_congr m c t rfl (by show 512 + (x 3).val = 256 * (y 1).val + (y 3).val; omega) hx2.symm)
    · exact (slab1 _ _ x).trans (product_congr m c t rfl (by show 256 + (x 3).val = 256 * (y 1).val + (y 3).val; omega) hx2.symm)
    · exact (slab0 _ _ x).trans (product_congr m c t rfl (by show (x 3).val = 256 * (y 1).val + (y 3).val; omega) hx2.symm)
  · have hs : (outsAt0 m c (t.val - 1) (Nat.lt_of_le_of_lt (Nat.sub_le _ _) t.isLt)).2 = k0_pay1 (X0_0 m c t) := by
      have hs := scratch m c t.val t.isLt
      rw [outsAt0_B m c t h] at hs
      exact hs
    rw [outsAt0_B m c t h, hs]
    frame_out
    canon_tiles x hx
    · exact (slab3 _ _ x).trans (product_congr m c t (Memref.IsWhole.read_unread _ _) (by show 768 + (x 3).val = 256 * (y 1).val + (y 3).val; omega) hx2.symm)
    · exact (slab2 _ _ x).trans (product_congr m c t (Memref.IsWhole.read_unread _ _) (by show 512 + (x 3).val = 256 * (y 1).val + (y 3).val; omega) hx2.symm)
    · exact (slab1 _ _ x).trans (product_congr m c t (Memref.IsWhole.read_unread _ _) (by show 256 + (x 3).val = 256 * (y 1).val + (y 3).val; omega) hx2.symm)
    · exact (slab0 _ _ x).trans (product_congr m c t (Memref.IsWhole.read_unread _ _) (by show (x 3).val = 256 * (y 1).val + (y 3).val; omega) hx2.symm)

/-- The rows handed to the call are the normed rows, batch after batch. -/
theorem rows_at (c : Dev nD) (n : Fin 8192) (k : Fin 2048) :
    (V m c main_v1 : FVec Ideal S8192x2048 .bf16) (ix2 n k) = (m ((c : Thread nD τ).loc main_arg0) : FVec Ideal S2x4096x2048 .f32) (ix3 ⟨n.val / 4096, by omega⟩ ⟨n.val % 4096, by omega⟩ k) := by
  unfold V
  after_reads_at

/-- The weights handed to the call, transposed. -/
theorem columns_at (c : Dev nD) (e : Fin 9296) (k : Fin 2048) :
    (V m c main_v3 : FVec Ideal S9296x2048 .f32) (ix2 e k) = (m ((c : Thread nD τ).loc main_arg1) : FVec Ideal S1x2048x9296 .f32) (ix3 0 k e) := by
  unfold V
  after_reads_at

/-- An entry of the product is the reference's projection at its place. -/
theorem product_at (c : Dev nD) (t : Fin cfg0.N) (r : Fin 1024) (e : Fin 1024) (b : Fin 2) (p : Fin 4096) (f : Fin 9296)
    (hn : 4096 * b.val + p.val = 1024 * (t.val % 8) + r.val) (hf : f.val = 2048 * (t.val / 8) + e.val) :
    product m c t (ix2 r e) = Cert.ReferenceTIdeal.projection (m ((c : Thread nD τ).loc main_arg0)) (m ((c : Thread nD τ).loc main_arg1)) (ix3 b p f) := by
  have ht : t.val < 40 := lt_of_lt_of_eq t.isLt N_0
  rw [Cert.ReferenceTIdeal.projection_at]
  pointwise [product, k0_pay2, k0_pay1]
  refine Finset.sum_congr rfl fun k _ => ?_
  refine congrArg₂ (fun a b : EReal => a * b) ?_ ?_
  · refine (show _ = (V m c main_v1 : FVec Ideal S8192x2048 .bf16) (ix2 ⟨1024 * (t.val % 8) + r.val, by omega⟩ k) from ?_).trans ((rows_at m c _ k).trans ?_)
    · blk_ext [iblk, idx t]
    · blk_ext
  · refine (weights_at m c t (ix2 e k)).trans ((columns_at m c _ k).trans ?_)
    refine congrArg (fun e => (m ((c : Thread nD τ).loc main_arg1) : FVec Ideal S1x2048x9296 .f32) (ix3 0 k e)) (Fin.ext ?_)
    show (2 * (t.val / 8)) * 1024 + e.val = f.val
    omega

/-- The call's result is the reference's. -/
theorem final (c : Dev nD) : (dats m 0 c).arrAt 2 (cfgs 0).N
    = Cert.ReferenceTIdeal.segments (m ((c : Thread nD τ).loc main_arg0)) (m ((c : Thread nD τ).loc main_arg1)) := by
  refine (dats m 0 c).arrAt_eq_of_covers 2 _ (by decide +kernel) fun t _ y => ?_
  have ht : t.val < 40 := lt_of_lt_of_eq t.isLt N_0
  have h0 : (y 0).val < 1 := (y 0).isLt
  have h1 : (y 1).val < 4 := (y 1).isLt
  have h2 : (y 2).val < 1024 := (y 2).isLt
  have h3 : (y 3).val < 256 := (y 3).isLt
  have hp : ((cfg0.win 2).blk t).view.emb y = (ix4 (⟨t.val / 8, by omega⟩ : Fin 5) (⟨4 * (t.val % 8) + (y 1).val, by omega⟩ : Fin 32) (y 2 : Fin 1024) (y 3 : Fin 256) : S5x32x1024x256.Idx) := by
    blk_ext [idx t]
  blk_simp
  rw [after0_2]
  refine (stored m c t y).trans ((product_at m c t _ _ _ _ _ ?_ ?_).trans ((Cert.ReferenceTIdeal.segments_at _ _ _ _ _ _).symm.trans (congrArg _ hp.symm)))
  · show 4096 * ((256 * (4 * (t.val % 8) + (y 1).val) + (y 3).val) / 4096) + (256 * (4 * (t.val % 8) + (y 1).val) + (y 3).val) % 4096 = 1024 * (t.val % 8) + (256 * (y 1).val + (y 3).val)
    omega
  · rfl

end Cert.KernelTIdeal.Projection

end
-- ==== Proof.Projection.Keys.lean ====
/- The keys' columns of the input projection: what the call computes, block by block, and that it is the reference. -/
module

public import proofs.«01_k».proof.Proof.Gen.KernelKIdeal.Value
public import proofs.«01_k».proof.Proof.Gen.ReferenceKIdeal.Run
public import Idealize.ShloMosaic.Lib.Pipeline.ValueKit
public import Idealize.ShloMosaic.Lib.Pointwise
public import Idealize.ShloMosaic.Lib.StableHlo.ReadAt

@[expose] public section

set_option maxRecDepth 16384

noncomputable section

namespace Cert.ReferenceKIdeal

open Idealize.ShloMosaic Idealize.ShloMosaic.TcCoe Cert.ReferenceKIdeal Cert.ReferenceKIdeal.Gen

/-- The reference's result, of the normed rows and the projection's weights. -/
def keys (h : FVec Ideal S2x4096x2048 .f32) (w : FVec Ideal S1x2048x9296 .f32) : FVec Ideal S8192x2048 .bf16 :=
  truncf .bf16 (shapeCast _ (concatenate S2x4096x2048 2 [⟨S2x4096x1024, (extractStridedSlice S2x4096x1024 ![0, 0, 1024] (Host.dotGeneral dot_S2x4096x2048_S2048x9296_S2x4096x9296_2_0_01_1_n_n none h (shapeCast _ w shapeCasts_S1x2048x9296_S2048x9296)) slices_S2x4096x9296_S2x4096x1024_0_0_1024)⟩, ⟨S2x4096x1024, (extractStridedSlice S2x4096x1024 ![0, 0, 5120] (Host.dotGeneral dot_S2x4096x2048_S2048x9296_S2x4096x9296_2_0_01_1_n_n none h (shapeCast _ w shapeCasts_S1x2048x9296_S2048x9296)) slices_S2x4096x9296_S2x4096x1024_0_0_5120)⟩] concatenates_S2x4096x1024_S2x4096x1024_S2x4096x2048_d2) shapeCasts_S2x4096x2048_S8192x2048) bitsLt_bf16_f32

/-- The column of the projection that a column of the result holds: the first segment's keys, then the second's. -/
def column (e : Fin 2048) : Fin 9296 := ⟨1024 * (1 + 4 * (e.val / 1024)) + e.val % 1024, by omega⟩

/-- The reference's result at an entry: the row's product with the column. -/
theorem keys_at (h : FVec Ideal S2x4096x2048 .f32) (w : FVec Ideal S1x2048x9296 .f32) (n : Fin 8192) (e : Fin 2048) :
    keys h w (ix2 n e) = ∑ k : Fin 2048, h (ix3 ⟨n.val / 4096, by omega⟩ ⟨n.val % 4096, by omega⟩ k) * w (ix3 0 k (column e)) := by
  have hw : ∀ (k : Fin 2048) (i j : Fin 9296), i.val = j.val → w (ix3 0 k i) = w (ix3 0 k j) := fun k i j e => by rw [Fin.ext e]
  pointwise [keys]
  split
  · exact Finset.sum_congr rfl fun k _ => congrArg (h (ix3 _ _ k) * ·) (hw k _ _ (by simp only [column]; omega))
  · exact Finset.sum_congr rfl fun k _ => congrArg (h (ix3 _ _ k) * ·) (hw k _ _ (by simp only [column]; omega))

end Cert.ReferenceKIdeal

namespace Cert.KernelKIdeal.Projection

open Idealize.ShloMosaic Idealize.ShloMosaic.TcCoe Idealize.SL.Sem Cert.KernelKIdeal Cert.KernelKIdeal.Gen
open Idealize.ShloMosaic.Pipeline (Dat)

/-- Which block of each array a grid point takes. -/
theorem idx : ∀ t : Fin cfg0.N, win0_0.index t = ![t.val % 8, 0] ∧ win0_1.index t = ![1 + 4 * (t.val / 8), 0] ∧ win0_2.index t = ![t.val % 8, t.val / 8] :=
  (by decide +kernel : ∀ t : Fin grid0.N, _)

variable (m : (ℓ : Loc nD τ sig) → Buf (Elt Ideal) ℓ)

/-- A row of a weights' block is a row of the weights. -/
theorem row_lt (t : Fin cfg0.N) (r : Fin 1024) : (1 + 4 * (t.val / 8)) * 1024 + r.val < 9296 := by
  have ht : t.val < 16 := lt_of_lt_of_eq t.isLt N_0
  have hr := r.isLt
  omega

/-- The weights' block at a point, entry by entry. -/
theorem weights_at (c : Dev nD) (t : Fin cfg0.N) (y : S1024x2048.Idx) :
    X0_1 m c t y = V m c main_v3 (ix2 ⟨(1 + 4 * (t.val / 8)) * 1024 + (y 0).val, row_lt t (y 0)⟩ (y 1)) := by
  unfold X0_1
  unfold Pipeline.Window.fill
  rw [dif_pos (moved0_1 t y)]
  blk_ext [iblk, idx t]

/-- After every point the scratch holds the point's own block of weights. -/
theorem scratch (c : Dev nD) (n : ℕ) (hn : n < cfg0.N) : (outsAt0 m c n hn).2 = k0_pay1 (X0_1 m c ⟨n, hn⟩) := by
  induction n with
  | zero =>
    rw [outsAt0_A m c ⟨0, hn⟩ (Nat.zero_mod _)]
    frame_out
  | succ n ih =>
    by_cases h : (n + 1) % 8 = 0
    · rw [outsAt0_A m c ⟨n + 1, hn⟩ h]
      frame_out
    · rw [outsAt0_B m c ⟨n + 1, hn⟩ h]
      refine (ih (Nat.lt_of_succ_lt hn)).trans (congrArg k0_pay1 (funext fun y => ?_))
      rw [weights_at, weights_at]
      have hq : (n + 1) / 8 = n / 8 := by omega
      blk_ext [hq]

/-- What a point writes back: the product of its rows with its block of weights. -/
theorem stored (c : Dev nD) (t : Fin cfg0.N) : (outsAt0 m c t.val t.isLt).1 = k0_pay2 (iblk m c 0 t) (k0_pay1 (X0_1 m c t)) := by
  by_cases h : t.val % 8 = 0
  · rw [outsAt0_A m c t h]
    frame_out
  · have hs : (outsAt0 m c (t.val - 1) (Nat.lt_of_le_of_lt (Nat.sub_le _ _) t.isLt)).2 = k0_pay1 (X0_1 m c t) := by
      have hs := scratch m c t.val t.isLt
      rw [outsAt0_B m c t h] at hs
      exact hs
    rw [outsAt0_B m c t h, hs]
    frame_out
    exact congrArg (k0_pay2 (iblk m c 0 t)) (Memref.IsWhole.read_unread _ _)

/-- The rows handed to the call are the normed rows, batch after batch. -/
theorem rows_at (c : Dev nD) (n : Fin 8192) (k : Fin 2048) :
    (V m c main_v1 : FVec Ideal S8192x2048 .bf16) (ix2 n k) = (m ((c : Thread nD τ).loc main_arg0) : FVec Ideal S2x4096x2048 .f32) (ix3 ⟨n.val / 4096, by omega⟩ ⟨n.val % 4096, by omega⟩ k) := by
  unfold V
  after_reads_at

/-- The weights handed to the call, transposed. -/
theorem columns_at (c : Dev nD) (e : Fin 9296) (k : Fin 2048) :
    (V m c main_v3 : FVec Ideal S9296x2048 .f32) (ix2 e k) = (m ((c : Thread nD τ).loc main_arg1) : FVec Ideal S1x2048x9296 .f32) (ix3 0 k e) := by
  unfold V
  after_reads_at

/-- An entry of what a point writes back is the reference's entry at its place. -/
theorem point (c : Dev nD) (t : Fin cfg0.N) (y : S1024x1024.Idx) : k0_pay2 (F := Ideal) (iblk m c 0 t) (k0_pay1 (X0_1 m c t)) y
    = Cert.ReferenceKIdeal.keys (m ((c : Thread nD τ).loc main_arg0)) (m ((c : Thread nD τ).loc main_arg1)) (((cfg0.win 2).blk t).view.emb y) := by
  have ht : t.val < 16 := lt_of_lt_of_eq t.isLt N_0
  have h0 : (y 0).val < 1024 := (y 0).isLt
  have h1 : (y 1).val < 1024 := (y 1).isLt
  have hp : ((cfg0.win 2).blk t).view.emb y = (ix2 (⟨1024 * (t.val % 8) + (y 0).val, by omega⟩ : Fin 8192) (⟨1024 * (t.val / 8) + (y 1).val, by omega⟩ : Fin 2048) : S8192x2048.Idx) := by
    blk_ext [idx t]
  rw [hp, Cert.ReferenceKIdeal.keys_at]
  pointwise [k0_pay2, k0_pay1]
  refine Finset.sum_congr rfl fun k _ => ?_
  refine congrArg₂ (fun a b : EReal => a * b) ?_ ?_
  · refine (show _ = (V m c main_v1 : FVec Ideal S8192x2048 .bf16) (ix2 ⟨1024 * (t.val % 8) + (y 0).val, by omega⟩ k) from ?_).trans (rows_at m c _ k)
    blk_ext [iblk, idx t]
  · refine (weights_at m c t (ix2 (y 1) k)).trans ((columns_at m c _ k).trans ?_)
    refine congrArg (fun e => (m ((c : Thread nD τ).loc main_arg1) : FVec Ideal S1x2048x9296 .f32) (ix3 0 k e)) (Fin.ext ?_)
    show (1 + 4 * (t.val / 8)) * 1024 + (y 1).val = 1024 * (1 + 4 * ((1024 * (t.val / 8) + (y 1).val) / 1024)) + (1024 * (t.val / 8) + (y 1).val) % 1024
    omega

/-- The call's result is the reference's. -/
theorem final (c : Dev nD) : (dats m 0 c).arrAt 2 (cfgs 0).N
    = Cert.ReferenceKIdeal.keys (m ((c : Thread nD τ).loc main_arg0)) (m ((c : Thread nD τ).loc main_arg1)) := by
  refine (dats m 0 c).arrAt_eq_of_covers 2 _ (by decide +kernel) fun t _ y => ?_
  blk_simp
  rw [after0_2, stored]
  exact point m c t y

end Cert.KernelKIdeal.Projection

end
-- ==== Proof.Projection.Gates.lean ====
/- The gates' columns of the input projection: what the call computes, block by block, and that it is the reference. -/
module

public import proofs.«01_k».proof.Proof.Gen.KernelGIdeal.Value
public import proofs.«01_k».proof.Proof.Gen.ReferenceGIdeal.Run
public import Idealize.ShloMosaic.Lib.Pipeline.ValueKit
public import Idealize.ShloMosaic.Lib.Pointwise
public import Idealize.ShloMosaic.Lib.StableHlo.ReadAt

@[expose] public section

set_option maxRecDepth 16384

noncomputable section

namespace Cert.ReferenceGIdeal

open Idealize.ShloMosaic Idealize.ShloMosaic.TcCoe Cert.ReferenceGIdeal Cert.ReferenceGIdeal.Gen

/-- The reference's result, of the normed rows and the projection's weights. -/
def gates (h : FVec Ideal S2x4096x2048 .f32) (w : FVec Ideal S1x2048x9296 .f32) : FVec Ideal S8192x2048 .f32 :=
  shapeCast _ (concatenate S2x4096x2048 2 [⟨S2x4096x1024, (extractStridedSlice S2x4096x1024 ![0, 0, 3072] (Host.dotGeneral dot_S2x4096x2048_S2048x9296_S2x4096x9296_2_0_01_1_n_n none h (shapeCast _ w shapeCasts_S1x2048x9296_S2048x9296)) slices_S2x4096x9296_S2x4096x1024_0_0_3072)⟩, ⟨S2x4096x1024, (extractStridedSlice S2x4096x1024 ![0, 0, 7168] (Host.dotGeneral dot_S2x4096x2048_S2048x9296_S2x4096x9296_2_0_01_1_n_n none h (shapeCast _ w shapeCasts_S1x2048x9296_S2048x9296)) slices_S2x4096x9296_S2x4096x1024_0_0_7168)⟩] concatenates_S2x4096x1024_S2x4096x1024_S2x4096x2048_d2) shapeCasts_S2x4096x2048_S8192x2048

/-- The column of the projection that a column of the result holds: the first segment's gates, then the second's. -/
def column (e : Fin 2048) : Fin 9296 := ⟨1024 * (3 + 4 * (e.val / 1024)) + e.val % 1024, by omega⟩

/-- The reference's result at an entry: the row's product with the column. -/
theorem gates_at (h : FVec Ideal S2x4096x2048 .f32) (w : FVec Ideal S1x2048x9296 .f32) (n : Fin 8192) (e : Fin 2048) :
    gates h w (ix2 n e) = ∑ k : Fin 2048, h (ix3 ⟨n.val / 4096, by omega⟩ ⟨n.val % 4096, by omega⟩ k) * w (ix3 0 k (column e)) := by
  have hw : ∀ (k : Fin 2048) (i j : Fin 9296), i.val = j.val → w (ix3 0 k i) = w (ix3 0 k j) := fun k i j e => by rw [Fin.ext e]
  pointwise [gates]
  split
  · exact Finset.sum_congr rfl fun k _ => congrArg (h (ix3 _ _ k) * ·) (hw k _ _ (by simp only [column]; omega))
  · exact Finset.sum_congr rfl fun k _ => congrArg (h (ix3 _ _ k) * ·) (hw k _ _ (by simp only [column]; omega))

end Cert.ReferenceGIdeal

namespace Cert.KernelGIdeal.Projection

open Idealize.ShloMosaic Idealize.ShloMosaic.TcCoe Idealize.SL.Sem Cert.KernelGIdeal Cert.KernelGIdeal.Gen
open Idealize.ShloMosaic.Pipeline (Dat)

/-- Which block of each array a grid point takes. -/
theorem idx : ∀ t : Fin cfg0.N, win0_0.index t = ![t.val % 8, 0] ∧ win0_1.index t = ![3 + 4 * (t.val / 8), 0] ∧ win0_2.index t = ![t.val % 8, t.val / 8] :=
  (by decide +kernel : ∀ t : Fin grid0.N, _)

variable (m : (ℓ : Loc nD τ sig) → Buf (Elt Ideal) ℓ)

/-- A row of a weights' block is a row of the weights. -/
theorem row_lt (t : Fin cfg0.N) (r : Fin 1024) : (3 + 4 * (t.val / 8)) * 1024 + r.val < 9296 := by
  have ht : t.val < 16 := lt_of_lt_of_eq t.isLt N_0
  have hr := r.isLt
  omega

/-- The weights' block at a point, entry by entry. -/
theorem weights_at (c : Dev nD) (t : Fin cfg0.N) (y : S1024x2048.Idx) :
    X0_1 m c t y = V m c main_v3 (ix2 ⟨(3 + 4 * (t.val / 8)) * 1024 + (y 0).val, row_lt t (y 0)⟩ (y 1)) := by
  unfold X0_1
  unfold Pipeline.Window.fill
  rw [dif_pos (moved0_1 t y)]
  blk_ext [iblk, idx t]

/-- After every point the scratch holds the point's own block of weights. -/
theorem scratch (c : Dev nD) (n : ℕ) (hn : n < cfg0.N) : (outsAt0 m c n hn).2 = k0_pay1 (X0_1 m c ⟨n, hn⟩) := by
  induction n with
  | zero =>
    rw [outsAt0_A m c ⟨0, hn⟩ (Nat.zero_mod _)]
    frame_out
  | succ n ih =>
    by_cases h : (n + 1) % 8 = 0
    · rw [outsAt0_A m c ⟨n + 1, hn⟩ h]
      frame_out
    · rw [outsAt0_B m c ⟨n + 1, hn⟩ h]
      refine (ih (Nat.lt_of_succ_lt hn)).trans (congrArg k0_pay1 (funext fun y => ?_))
      rw [weights_at, weights_at]
      have hq : (n + 1) / 8 = n / 8 := by omega
      blk_ext [hq]

/-- What a point writes back: the product of its rows with its block of weights. -/
theorem stored (c : Dev nD) (t : Fin cfg0.N) : (outsAt0 m c t.val t.isLt).1 = k0_pay2 (iblk m c 0 t) (k0_pay1 (X0_1 m c t)) := by
  by_cases h : t.val % 8 = 0
  · rw [outsAt0_A m c t h]
    frame_out
  · have hs : (outsAt0 m c (t.val - 1) (Nat.lt_of_le_of_lt (Nat.sub_le _ _) t.isLt)).2 = k0_pay1 (X0_1 m c t) := by
      have hs := scratch m c t.val t.isLt
      rw [outsAt0_B m c t h] at hs
      exact hs
    rw [outsAt0_B m c t h, hs]
    frame_out
    exact congrArg (k0_pay2 (iblk m c 0 t)) (Memref.IsWhole.read_unread _ _)

/-- The rows handed to the call are the normed rows, batch after batch. -/
theorem rows_at (c : Dev nD) (n : Fin 8192) (k : Fin 2048) :
    (V m c main_v1 : FVec Ideal S8192x2048 .bf16) (ix2 n k) = (m ((c : Thread nD τ).loc main_arg0) : FVec Ideal S2x4096x2048 .f32) (ix3 ⟨n.val / 4096, by omega⟩ ⟨n.val % 4096, by omega⟩ k) := by
  unfold V
  after_reads_at

/-- The weights handed to the call, transposed. -/
theorem columns_at (c : Dev nD) (e : Fin 9296) (k : Fin 2048) :
    (V m c main_v3 : FVec Ideal S9296x2048 .f32) (ix2 e k) = (m ((c : Thread nD τ).loc main_arg1) : FVec Ideal S1x2048x9296 .f32) (ix3 0 k e) := by
  unfold V
  after_reads_at

/-- An entry of what a point writes back is the reference's entry at its place. -/
theorem point (c : Dev nD) (t : Fin cfg0.N) (y : S1024x1024.Idx) : k0_pay2 (F := Ideal) (iblk m c 0 t) (k0_pay1 (X0_1 m c t)) y
    = Cert.ReferenceGIdeal.gates (m ((c : Thread nD τ).loc main_arg0)) (m ((c : Thread nD τ).loc main_arg1)) (((cfg0.win 2).blk t).view.emb y) := by
  have ht : t.val < 16 := lt_of_lt_of_eq t.isLt N_0
  have h0 : (y 0).val < 1024 := (y 0).isLt
  have h1 : (y 1).val < 1024 := (y 1).isLt
  have hp : ((cfg0.win 2).blk t).view.emb y = (ix2 (⟨1024 * (t.val % 8) + (y 0).val, by omega⟩ : Fin 8192) (⟨1024 * (t.val / 8) + (y 1).val, by omega⟩ : Fin 2048) : S8192x2048.Idx) := by
    blk_ext [idx t]
  rw [hp, Cert.ReferenceGIdeal.gates_at]
  pointwise [k0_pay2, k0_pay1]
  refine Finset.sum_congr rfl fun k _ => ?_
  refine congrArg₂ (fun a b : EReal => a * b) ?_ ?_
  · refine (show _ = (V m c main_v1 : FVec Ideal S8192x2048 .bf16) (ix2 ⟨1024 * (t.val % 8) + (y 0).val, by omega⟩ k) from ?_).trans (rows_at m c _ k)
    blk_ext [iblk, idx t]
  · refine (weights_at m c t (ix2 (y 1) k)).trans ((columns_at m c _ k).trans ?_)
    refine congrArg (fun e => (m ((c : Thread nD τ).loc main_arg1) : FVec Ideal S1x2048x9296 .f32) (ix3 0 k e)) (Fin.ext ?_)
    show (3 + 4 * (t.val / 8)) * 1024 + (y 1).val = 1024 * (3 + 4 * ((1024 * (t.val / 8) + (y 1).val) / 1024)) + (1024 * (t.val / 8) + (y 1).val) % 1024
    omega

/-- The call's result is the reference's. -/
theorem final (c : Dev nD) : (dats m 0 c).arrAt 2 (cfgs 0).N
    = Cert.ReferenceGIdeal.gates (m ((c : Thread nD τ).loc main_arg0)) (m ((c : Thread nD τ).loc main_arg1)) := by
  refine (dats m 0 c).arrAt_eq_of_covers 2 _ (by decide +kernel) fun t _ y => ?_
  blk_simp
  rw [after0_2, stored]
  exact point m c t y

end Cert.KernelGIdeal.Projection

end
-- ==== Proof.Projection.Claims.lean ====
/- The claims about the input projection: the frames, and that each of the three calls computes its reference. -/
module

public import proofs.«01_k».proof.Defs
public import proofs.«01_k».proof.Proof.Gen.KernelT
public import proofs.«01_k».proof.Proof.Gen.KernelTIdeal.Value
public import proofs.«01_k».proof.Proof.Gen.ReferenceTIdeal.Run
public import proofs.«01_k».proof.Proof.Gen.KernelK
public import proofs.«01_k».proof.Proof.Gen.KernelKIdeal.Value
public import proofs.«01_k».proof.Proof.Gen.ReferenceKIdeal.Run
public import proofs.«01_k».proof.Proof.Gen.KernelG
public import proofs.«01_k».proof.Proof.Gen.KernelGIdeal.Value
public import proofs.«01_k».proof.Proof.Gen.ReferenceGIdeal.Run
public import proofs.«01_k».proof.Proof.Projection.Segments
public import proofs.«01_k».proof.Proof.Projection.Keys
public import proofs.«01_k».proof.Proof.Projection.Gates
public import Idealize.ShloMosaic.Lib.Quiescent

@[expose] public section

noncomputable section

namespace Cert.Projection.Segments

open Idealize.ShloMosaic Idealize.ShloMosaic.TcCoe Idealize.SL.Sem Idealize.ShloMosaic.Tactic

/-- At words the two programs' kernels are one text. -/
theorem defs_eq : Cert.KernelTIdeal.defs (F := Bits) = Cert.KernelT.defs (F := Bits) := by sl_kernel_rfl
/-- And so are their main functions. -/
theorem main_eq : Cert.KernelTIdeal.main (F := Bits) = Cert.KernelT.main (F := Bits) := by sl_kernel_rfl

/-- The frames: of the program at words, taken from the run over any floats, of the program over the extended reals, and of the reference. -/
theorem frame_words : Cert.quiescent_KernelT := fun m ρ _ => by
  have h := Cert.KernelTIdeal.Gen.frame (F := Bits) m ρ
  rw [defs_eq, main_eq] at h
  exact h

/-- The frame of the program over the extended reals. -/
theorem frame_ideal : Cert.quiescent_KernelTIdeal := fun m ρ _ => Cert.KernelTIdeal.Gen.frame m ρ

/-- The reference's frame. -/
theorem frame_reference : Cert.quiescent_ReferenceTIdeal := fun m ρ _ =>
  (θ_run Cert.ReferenceTIdeal.defs _ _).mono (fun r h => ⟨fun c => (h c).2, Idealize.ShloMosaic.sem_eq_zero_of_no_sems (by decide) r.2⟩) (Cert.ReferenceTIdeal.Value.run (F := Ideal) m ρ)

/-- The kernel computes the reference. -/
theorem agree : Cert.algebraic_KernelTIdeal_ReferenceTIdeal := by
  intro m ρ m' ρ' hpre hagree
  refine ⟨fun c => Cert.ReferenceTIdeal.segments (m (c.tc.loc Cert.KernelTIdeal.main_arg0)) (m (c.tc.loc Cert.KernelTIdeal.main_arg1)), ?_, ?_⟩
  · exact (θ_run Cert.KernelTIdeal.defs _ _).mono (fun r h c => ⟨(h c).1.trans (Cert.KernelTIdeal.Projection.final m c), (h c).2⟩) (Cert.KernelTIdeal.Value.run_blocks (F := Ideal) m ρ)
  · refine (θ_run Cert.ReferenceTIdeal.defs _ _).mono (fun _ h c => ⟨(h c).1.trans ?_, (h c).2⟩) (Cert.ReferenceTIdeal.Value.run (F := Ideal) m' ρ')
    · rw [(hagree c).1, (hagree c).2]
      rfl

end Cert.Projection.Segments

namespace Cert.Projection.Keys

open Idealize.ShloMosaic Idealize.ShloMosaic.TcCoe Idealize.SL.Sem Idealize.ShloMosaic.Tactic

/-- At words the two programs' kernels are one text. -/
theorem defs_eq : Cert.KernelKIdeal.defs (F := Bits) = Cert.KernelK.defs (F := Bits) := by sl_kernel_rfl
/-- And so are their main functions. -/
theorem main_eq : Cert.KernelKIdeal.main (F := Bits) = Cert.KernelK.main (F := Bits) := by sl_kernel_rfl

/-- The frames: of the program at words, taken from the run over any floats, of the program over the extended reals, and of the reference. -/
theorem frame_words : Cert.quiescent_KernelK := fun m ρ _ => by
  have h := Cert.KernelKIdeal.Gen.frame (F := Bits) m ρ
  rw [defs_eq, main_eq] at h
  exact h

/-- The frame of the program over the extended reals. -/
theorem frame_ideal : Cert.quiescent_KernelKIdeal := fun m ρ _ => Cert.KernelKIdeal.Gen.frame m ρ

/-- The reference's frame. -/
theorem frame_reference : Cert.quiescent_ReferenceKIdeal := fun m ρ _ =>
  (θ_run Cert.ReferenceKIdeal.defs _ _).mono (fun r h => ⟨fun c => (h c).2, Idealize.ShloMosaic.sem_eq_zero_of_no_sems (by decide) r.2⟩) (Cert.ReferenceKIdeal.Value.run (F := Ideal) m ρ)

/-- The kernel computes the reference. -/
theorem agree : Cert.algebraic_KernelKIdeal_ReferenceKIdeal := by
  intro m ρ m' ρ' hpre hagree
  refine ⟨fun c => Cert.ReferenceKIdeal.keys (m (c.tc.loc Cert.KernelKIdeal.main_arg0)) (m (c.tc.loc Cert.KernelKIdeal.main_arg1)), ?_, ?_⟩
  · exact (θ_run Cert.KernelKIdeal.defs _ _).mono (fun r h c => ⟨(h c).1.trans (Cert.KernelKIdeal.Projection.final m c), (h c).2⟩) (Cert.KernelKIdeal.Value.run_blocks (F := Ideal) m ρ)
  · refine (θ_run Cert.ReferenceKIdeal.defs _ _).mono (fun _ h c => ⟨(h c).1.trans ?_, (h c).2⟩) (Cert.ReferenceKIdeal.Value.run (F := Ideal) m' ρ')
    · rw [(hagree c).1, (hagree c).2]
      rfl

end Cert.Projection.Keys

namespace Cert.Projection.Gates

open Idealize.ShloMosaic Idealize.ShloMosaic.TcCoe Idealize.SL.Sem Idealize.ShloMosaic.Tactic

/-- At words the two programs' kernels are one text. -/
theorem defs_eq : Cert.KernelGIdeal.defs (F := Bits) = Cert.KernelG.defs (F := Bits) := by sl_kernel_rfl
/-- And so are their main functions. -/
theorem main_eq : Cert.KernelGIdeal.main (F := Bits) = Cert.KernelG.main (F := Bits) := by sl_kernel_rfl

/-- The frames: of the program at words, taken from the run over any floats, of the program over the extended reals, and of the reference. -/
theorem frame_words : Cert.quiescent_KernelG := fun m ρ _ => by
  have h := Cert.KernelGIdeal.Gen.frame (F := Bits) m ρ
  rw [defs_eq, main_eq] at h
  exact h

/-- The frame of the program over the extended reals. -/
theorem frame_ideal : Cert.quiescent_KernelGIdeal := fun m ρ _ => Cert.KernelGIdeal.Gen.frame m ρ

/-- The reference's frame. -/
theorem frame_reference : Cert.quiescent_ReferenceGIdeal := fun m ρ _ =>
  (θ_run Cert.ReferenceGIdeal.defs _ _).mono (fun r h => ⟨fun c => (h c).2, Idealize.ShloMosaic.sem_eq_zero_of_no_sems (by decide) r.2⟩) (Cert.ReferenceGIdeal.Value.run (F := Ideal) m ρ)

/-- The kernel computes the reference. -/
theorem agree : Cert.algebraic_KernelGIdeal_ReferenceGIdeal := by
  intro m ρ m' ρ' hpre hagree
  refine ⟨fun c => Cert.ReferenceGIdeal.gates (m (c.tc.loc Cert.KernelGIdeal.main_arg0)) (m (c.tc.loc Cert.KernelGIdeal.main_arg1)), ?_, ?_⟩
  · exact (θ_run Cert.KernelGIdeal.defs _ _).mono (fun r h c => ⟨(h c).1.trans (Cert.KernelGIdeal.Projection.final m c), (h c).2⟩) (Cert.KernelGIdeal.Value.run_blocks (F := Ideal) m ρ)
  · refine (θ_run Cert.ReferenceGIdeal.defs _ _).mono (fun _ h c => ⟨(h c).1.trans ?_, (h c).2⟩) (Cert.ReferenceGIdeal.Value.run (F := Ideal) m' ρ')
    · rw [(hagree c).1, (hagree c).2]
      rfl

end Cert.Projection.Gates

end
-- ==== Proof.Output.Block.lean ====
/- The output projection: what the call computes, block by block, and that it is the reference. -/
module

public import proofs.«01_k».proof.Proof.Gen.KernelOIdeal.Value
public import proofs.«01_k».proof.Proof.Gen.ReferenceOIdeal.Run
public import Idealize.ShloMosaic.Lib.Pipeline.ValueKit
public import Idealize.ShloMosaic.Lib.Pipeline.ReadBack
public import Idealize.ShloMosaic.Lib.Pointwise
public import Idealize.ShloMosaic.Lib.StableHlo.ReadAt

@[expose] public section

set_option maxRecDepth 16384

noncomputable section

namespace Cert.ReferenceOIdeal

open Idealize.ShloMosaic Idealize.ShloMosaic.TcCoe Cert.ReferenceOIdeal Cert.ReferenceOIdeal.Gen

/-- The layer's input with the two mixers' outputs, side by side, projected and added. -/
def added (x : FVec Ideal S2x4096x2048 .f32) (ya yb : FVec Ideal S2x4096x1024 .f32) (w : FVec Ideal S1x2048x2048 .f32) : FVec Ideal S2x4096x2048 .f32 :=
  addf x (Host.dotGeneral dot_S2x4096x2048_S2048x2048_S2x4096x2048_2_0_01_1_n_n none (concatenate S2x4096x2048 2 [⟨S2x4096x1024, ya⟩, ⟨S2x4096x1024, yb⟩] concatenates_S2x4096x1024_S2x4096x1024_S2x4096x2048_d2) (shapeCast _ w shapeCasts_S1x2048x2048_S2048x2048))

/-- A sequence scaled to unit mean square and by a gain. -/
def normed (y : FVec Ideal S2x4096x2048 .f32) (g : FVec Ideal S2048 .f32) : FVec Ideal S2x4096x2048 .f32 :=
  mulf (mulf y (broadcastInDim S2x4096x2048 ![0, 1, 2] bcast_S2x4096x1_S2x4096x2048_0_1_2 (Host.rsqrt (addf (Host.divf (broadcastInDim S2x4096x1 ![0, 1] bcast_S2x4096_S2x4096x1_0_1 (Host.reduceAdd (mulf y y) (constant S_ .f32 0x00000000#32) reducesTo_S2x4096x2048_S2x4096_d2 h_S_)) (broadcastInDim S2x4096x1 ![] bcast_S_S2x4096x1 (constant S_ .f32 0x45000000#32))) (broadcastInDim S2x4096x1 ![] bcast_S_S2x4096x1 (constant S_ .f32 0x358637BD#32)))))) (broadcastInDim S2x4096x2048 ![0, 1, 2] bcast_S1x1x2048_S2x4096x2048_0_1_2 (broadcastInDim S1x1x2048 ![2] bcast_S2048_S1x1x2048_2 g))

/-- The reference's result: the layer's output, row after row. -/
def output (x : FVec Ideal S2x4096x2048 .f32) (ya yb : FVec Ideal S2x4096x1024 .f32) (w : FVec Ideal S1x2048x2048 .f32) (g : FVec Ideal S2048 .f32) : FVec Ideal S8192x2048 .f32 :=
  shapeCast _ (normed (added x ya yb w) g) shapeCasts_S2x4096x2048_S8192x2048

/-- The residual and the two halves of the output projection, before normalisation, at an index. -/
theorem added_at (x : FVec Ideal S2x4096x2048 .f32) (ya yb : FVec Ideal S2x4096x1024 .f32) (w : FVec Ideal S1x2048x2048 .f32) (b : Fin 2) (r : Fin 4096) (e : Fin 2048) :
    added x ya yb w (ix3 b r e) = x (ix3 b r e) + ∑ k : Fin 1024, ya (ix3 b r k) * w (ix3 0 ⟨k.val, by omega⟩ e)
      + ∑ k : Fin 1024, yb (ix3 b r k) * w (ix3 0 ⟨1024 + k.val, by omega⟩ e) := by
  pointwise [added]
  exact (add_assoc _ _ _).symm

/-- An entry of the output: the row's entry over the row's root mean square, times the gain. -/
theorem output_at (x : FVec Ideal S2x4096x2048 .f32) (ya yb : FVec Ideal S2x4096x1024 .f32) (w : FVec Ideal S1x2048x2048 .f32) (g : FVec Ideal S2048 .f32) (n : Fin 8192) (e : Fin 2048) (row : Fin 2048 → EReal)
    (hrow : ∀ k, row k = added x ya yb w (ix3 ⟨n.val / 4096, by omega⟩ ⟨n.val % 4096, by omega⟩ k)) :
    output x ya yb w g (ix2 n e) = row e * Ideal.rsqrt (Ideal.div (∑ k, row k * row k) (Ideal.ofBits .f32 0x45000000#32) + Ideal.ofBits .f32 0x358637BD#32) * g (ix1 e) := by
  obtain rfl : row = fun k => added x ya yb w (ix3 ⟨n.val / 4096, by omega⟩ ⟨n.val % 4096, by omega⟩ k) := funext hrow
  pointwise [output, normed]

end Cert.ReferenceOIdeal

namespace Cert.KernelOIdeal.Output

open Idealize.ShloMosaic Idealize.ShloMosaic.TcCoe Idealize.SL.Sem Cert.KernelOIdeal Cert.KernelOIdeal.Gen
open Idealize.ShloMosaic.Pipeline (Dat)

/-- An entry of a block's result: the row's entry over the row's root mean square, times the gain. -/
theorem block_at (X : FVec Ideal S512x2048 .f32) (A : FVec Ideal S512x1024 .bf16) (U : FVec Ideal S1x1024x2048 .bf16) (B : FVec Ideal S512x1024 .bf16) (W : FVec Ideal S1x1024x2048 .bf16) (g : FVec Ideal S1x2048 .f32) (n : Fin 512) (e : Fin 2048) (row : Fin 2048 → EReal)
    (hrow : ∀ k, row k = X (ix2 n k) + ∑ i : Fin 1024, A (ix2 n i) * U (ix3 0 i k) + ∑ i : Fin 1024, B (ix2 n i) * W (ix3 0 i k)) :
    (k0_pay3 (F := Ideal) X A U B W g (ix2 n e) : EReal) = row e * Ideal.rsqrt (Ideal.div (∑ k, row k * row k) (Ideal.ofBits .f32 0x45000000#32) + Ideal.ofBits .f32 0x358637BD#32) * g (ix2 0 e) := by
  obtain rfl : row = fun k => X (ix2 n k) + ∑ i : Fin 1024, A (ix2 n i) * U (ix3 0 i k) + ∑ i : Fin 1024, B (ix2 n i) * W (ix3 0 i k) := funext hrow
  pointwise [k0_pay3]

/-- Which block of each array a grid point takes. -/
theorem idx : ∀ t : Fin cfg0.N, win0_0.index t = ![t.val, 0] ∧ win0_1.index t = ![t.val, 0] ∧ win0_2.index t = ![t.val, 0] ∧ win0_3.index t = ![0, 0, 0] ∧ win0_4.index t = ![0, 1, 0] ∧ win0_5.index t = ![0, 0] ∧ win0_6.index t = ![t.val, 0] :=
  (by decide +kernel : ∀ t : Fin grid0.N, _)

variable (m : (ℓ : Loc nD τ sig) → Buf (Elt Ideal) ℓ)

/-- A half of the output weights: the rows that one mixer's columns meet. -/
def half (c : Dev nD) (j : Fin 2) : FVec Ideal S1x1024x2048 .bf16 := fun y =>
  (m ((c : Thread nD τ).loc main_arg3) : FVec Ideal S1x2048x2048 .f32) (ix3 0 ⟨1024 * j.val + (y 1).val, by have h : (y 1).val < 1024 := (y 1).isLt; omega⟩ (y 2))

/-- The first store into the scratch array: the upper half of the output weights, rounded. -/
theorem first (c : Dev nD) (t : Fin cfg0.N) (y : S1x1024x2048.Idx) : k0_pay1 (F := Ideal) (iblk m c 3 t) y = half m c 0 y := by
  pointwise [k0_pay1]
  refine Eq.trans ?_ (congrFun (V_main_arg3 m c) _)
  blk_ext [iblk, idx t]

/-- The second store: the lower half. -/
theorem second (c : Dev nD) (t : Fin cfg0.N) (y : S1x1024x2048.Idx) : k0_pay2 (F := Ideal) (iblk m c 4 t) y = half m c 1 y := by
  pointwise [k0_pay2]
  refine Eq.trans ?_ (congrFun (V_main_arg3 m c) _)
  blk_ext [iblk, idx t]

/-- After every point the scratch holds the output weights, its two planes the two halves. -/
theorem scratch (c : Dev nD) (n : ℕ) (hn : n < cfg0.N) (y : S2x1024x2048.Idx) : (outsAt0 m c n hn).2 y = half m c (y 0) (ix3 0 (y 1) (y 2)) := by
  induction n with
  | zero =>
    rw [outsAt0_A m c ⟨0, hn⟩ (Nat.zero_mod _)]
    frame_out
    canon_tiles x hx
    · refine (second m c ⟨0, hn⟩ x).trans ?_
      unfold half
      blk_ext
    · refine (first m c ⟨0, hn⟩ x).trans ?_
      unfold half
      blk_ext
  | succ n ih =>
    have hN : n + 1 < 16 := lt_of_lt_of_eq hn N_0
    rw [outsAt0_B m c ⟨n + 1, hn⟩ (by show ¬ (n + 1) % 16 = 0; omega)]
    exact ih (Nat.lt_of_succ_lt hn)

/-- What a point writes back: its rows' block, computed with the two halves of the weights. -/
theorem stored (c : Dev nD) (t : Fin cfg0.N) :
    (outsAt0 m c t.val t.isLt).1 = k0_pay3 (F := Ideal) (iblk m c 0 t) (iblk m c 1 t) (half m c 0) (iblk m c 2 t) (half m c 1) (iblk m c 5 t) := by
  by_cases h : t.val % 16 = 0
  · rw [outsAt0_A m c t h]
    frame_out
    refine congrArg₂ (fun U W => k0_pay3 (F := Ideal) (iblk m c 0 t) (iblk m c 1 t) U (iblk m c 2 t) W (iblk m c 5 t)) ?_ ?_
    · rw [View.readCov_skip _ _ _ _ _ (by decide), View.readCov_cons_toLoadRect]
      exact funext (first m c t)
    · rw [View.readCov_cons_toLoadRect]
      exact funext (second m c t)
  · rw [outsAt0_B m c t h]
    frame_out
    refine congrArg₂ (fun U W => k0_pay3 (F := Ideal) (iblk m c 0 t) (iblk m c 1 t) U (iblk m c 2 t) W (iblk m c 5 t)) ?_ ?_
    · refine (congrArg (fun S => View.ld S _) (Memref.IsWhole.read_unread _ _)).trans (funext fun x => (scratch m c _ _ _).trans ?_)
      unfold half
      blk_ext [Rect.idx_unit_val]
    · refine (congrArg (fun S => View.ld S _) (Memref.IsWhole.read_unread _ _)).trans (funext fun x => (scratch m c _ _ _).trans ?_)
      unfold half
      blk_ext [Rect.idx_unit_val]

/-- The rows handed to the call: the layer's input, and the two mixers' outputs. -/
theorem input_at (c : Dev nD) (n : Fin 8192) (k : Fin 2048) :
    (V m c main_v0 : FVec Ideal S8192x2048 .f32) (ix2 n k) = (m ((c : Thread nD τ).loc main_arg0) : FVec Ideal S2x4096x2048 .f32) (ix3 ⟨n.val / 4096, by omega⟩ ⟨n.val % 4096, by omega⟩ k) := by
  unfold V
  after_reads_at

/-- A row of the first mixer's output, as the host lays it out. -/
theorem mixerA_at (c : Dev nD) (n : Fin 8192) (k : Fin 1024) :
    (V m c main_v2 : FVec Ideal S8192x1024 .bf16) (ix2 n k) = (m ((c : Thread nD τ).loc main_arg1) : FVec Ideal S2x4096x1024 .f32) (ix3 ⟨n.val / 4096, by omega⟩ ⟨n.val % 4096, by omega⟩ k) := by
  unfold V
  after_reads_at

/-- A row of the second mixer's output, as the host lays it out. -/
theorem mixerB_at (c : Dev nD) (n : Fin 8192) (k : Fin 1024) :
    (V m c main_v4 : FVec Ideal S8192x1024 .bf16) (ix2 n k) = (m ((c : Thread nD τ).loc main_arg2) : FVec Ideal S2x4096x1024 .f32) (ix3 ⟨n.val / 4096, by omega⟩ ⟨n.val % 4096, by omega⟩ k) := by
  unfold V
  after_reads_at

/-- The final gain, as the host lays it out. -/
theorem gain_at (c : Dev nD) (e : Fin 2048) :
    (V m c main_v5 : FVec Ideal S1x2048 .f32) (ix2 0 e) = (m ((c : Thread nD τ).loc main_arg4) : FVec Ideal S2048 .f32) (ix1 e) := by
  unfold V
  after_reads_at

/-- An entry of what a point writes back is the reference's entry at its place. -/
theorem point (c : Dev nD) (t : Fin cfg0.N) (y : S512x2048.Idx) : k0_pay3 (F := Ideal) (iblk m c 0 t) (iblk m c 1 t) (half m c 0) (iblk m c 2 t) (half m c 1) (iblk m c 5 t) y
    = Cert.ReferenceOIdeal.output (m ((c : Thread nD τ).loc main_arg0)) (m ((c : Thread nD τ).loc main_arg1)) (m ((c : Thread nD τ).loc main_arg2)) (m ((c : Thread nD τ).loc main_arg3)) (m ((c : Thread nD τ).loc main_arg4)) (((cfg0.win 6).blk t).view.emb y) := by
  have ht : t.val < 16 := lt_of_lt_of_eq t.isLt N_0
  have h0 : (y 0).val < 512 := (y 0).isLt
  have hp : ((cfg0.win 6).blk t).view.emb y = (ix2 (⟨512 * t.val + (y 0).val, by omega⟩ : Fin 8192) (y 1 : Fin 2048) : S8192x2048.Idx) := by
    blk_ext [idx t]
  have hy : y = ix2 (y 0 : Fin 512) (y 1 : Fin 2048) := by blk_ext
  refine (congrArg _ hy).trans ((block_at _ _ _ _ _ _ (y 0) (y 1) (fun k => Cert.ReferenceOIdeal.added (m ((c : Thread nD τ).loc main_arg0)) (m ((c : Thread nD τ).loc main_arg1)) (m ((c : Thread nD τ).loc main_arg2)) (m ((c : Thread nD τ).loc main_arg3)) (ix3 ⟨(512 * t.val + (y 0).val) / 4096, by omega⟩ ⟨(512 * t.val + (y 0).val) % 4096, by omega⟩ k)) fun k => ?_).trans ?_)
  rotate_left
  · refine (congrArg₂ (fun a b : EReal => a * b) rfl ?_).trans ((Cert.ReferenceOIdeal.output_at _ _ _ _ _ (⟨512 * t.val + (y 0).val, by omega⟩ : Fin 8192) (y 1) _ (fun k => rfl)).symm.trans (congrArg _ hp.symm))
    refine Eq.trans ?_ (gain_at m c (y 1))
    blk_ext [iblk, idx t]
  · refine (Cert.ReferenceOIdeal.added_at _ _ _ _ _ _ k).trans ?_
    refine congrArg₂ (fun a b : EReal => a + b) (congrArg₂ (fun a b : EReal => a + b) ?_ (Finset.sum_congr rfl fun i _ => congrArg₂ (fun a b : EReal => a * b) ?_ ?_)) (Finset.sum_congr rfl fun i _ => congrArg₂ (fun a b : EReal => a * b) ?_ ?_)
    · refine (input_at m c (⟨512 * t.val + (y 0).val, by omega⟩ : Fin 8192) k).symm.trans ?_
      blk_ext [iblk, idx t]
    · refine (mixerA_at m c (⟨512 * t.val + (y 0).val, by omega⟩ : Fin 8192) i).symm.trans ?_
      blk_ext [iblk, idx t]
    · unfold half
      blk_ext
    · refine (mixerB_at m c (⟨512 * t.val + (y 0).val, by omega⟩ : Fin 8192) i).symm.trans ?_
      blk_ext [iblk, idx t]
    · unfold half
      blk_ext

/-- The call's result is the reference's. -/
theorem final (c : Dev nD) : (dats m 0 c).arrAt 6 (cfgs 0).N
    = Cert.ReferenceOIdeal.output (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp
  rw [after0_6, stored]
  exact point m c t y

end Cert.KernelOIdeal.Output

end
-- ==== Proof.Output.Claims.lean ====
/- The claims about the output projection: the frames, and that the call computes its reference. -/
module

public import proofs.«01_k».proof.Defs
public import proofs.«01_k».proof.Proof.Gen.KernelO
public import proofs.«01_k».proof.Proof.Gen.KernelOIdeal.Value
public import proofs.«01_k».proof.Proof.Gen.ReferenceOIdeal.Run
public import proofs.«01_k».proof.Proof.Output.Block
public import Idealize.ShloMosaic.Lib.Quiescent

@[expose] public section

noncomputable section

namespace Cert.Output.Claims

open Idealize.ShloMosaic Idealize.ShloMosaic.TcCoe Idealize.SL.Sem Idealize.ShloMosaic.Tactic

/-- At words the two programs' kernels are one text. -/
theorem defs_eq : Cert.KernelOIdeal.defs (F := Bits) = Cert.KernelO.defs (F := Bits) := by sl_kernel_rfl
/-- And so are their main functions. -/
theorem main_eq : Cert.KernelOIdeal.main (F := Bits) = Cert.KernelO.main (F := Bits) := by sl_kernel_rfl

/-- The frames: of the program at words, taken from the run over any floats, of the program over the extended reals, and of the reference. -/
theorem frame_words : Cert.quiescent_KernelO := fun m ρ _ => by
  have h := Cert.KernelOIdeal.Gen.frame (F := Bits) m ρ
  rw [defs_eq, main_eq] at h
  exact h

/-- The frame of the program over the extended reals. -/
theorem frame_ideal : Cert.quiescent_KernelOIdeal := fun m ρ _ => Cert.KernelOIdeal.Gen.frame m ρ

/-- The reference's frame. -/
theorem frame_reference : Cert.quiescent_ReferenceOIdeal := fun m ρ _ =>
  (θ_run Cert.ReferenceOIdeal.defs _ _).mono (fun r h => ⟨fun c => (h c).2, Idealize.ShloMosaic.sem_eq_zero_of_no_sems (by decide) r.2⟩) (Cert.ReferenceOIdeal.Value.run (F := Ideal) m ρ)

/-- The kernel computes the reference. -/
theorem agree : Cert.algebraic_KernelOIdeal_ReferenceOIdeal := by
  intro m ρ m' ρ' hpre hagree
  refine ⟨fun c => Cert.ReferenceOIdeal.output (m (c.tc.loc Cert.KernelOIdeal.main_arg0)) (m (c.tc.loc Cert.KernelOIdeal.main_arg1)) (m (c.tc.loc Cert.KernelOIdeal.main_arg2)) (m (c.tc.loc Cert.KernelOIdeal.main_arg3)) (m (c.tc.loc Cert.KernelOIdeal.main_arg4)), ?_, ?_⟩
  · exact (θ_run Cert.KernelOIdeal.defs _ _).mono (fun r h c => ⟨(h c).1.trans (Cert.KernelOIdeal.Output.final m c), (h c).2⟩) (Cert.KernelOIdeal.Value.run_blocks (F := Ideal) m ρ)
  · refine (θ_run Cert.ReferenceOIdeal.defs _ _).mono (fun _ h c => ⟨(h c).1.trans ?_, (h c).2⟩) (Cert.ReferenceOIdeal.Value.run (F := Ideal) m' ρ')
    · rw [(hagree c).1, (hagree c).2.1, (hagree c).2.2.1, (hagree c).2.2.2.1, (hagree c).2.2.2.2]
      rfl

end Cert.Output.Claims

end
-- ==== Proof.Normed.Block.lean ====
/- The first call: the norm of the layer's input and the projection's last columns: what it computes, block by block, and that it is the reference. -/
module

public import proofs.«01_k».proof.Proof.Gen.KernelNIdeal.Value
public import proofs.«01_k».proof.Proof.Gen.ReferenceNIdeal.Run
public import Idealize.ShloMosaic.Lib.Pipeline.ValueKit
public import Idealize.ShloMosaic.Lib.Pointwise
public import Idealize.ShloMosaic.Lib.StableHlo.ReadAt

@[expose] public section

set_option maxRecDepth 16384

noncomputable section

namespace Cert.ReferenceNIdeal

open Idealize.ShloMosaic Idealize.ShloMosaic.TcCoe Cert.ReferenceNIdeal Cert.ReferenceNIdeal.Gen

/-- A sequence scaled to unit mean square and by a gain. -/
def normed (y : FVec Ideal S2x4096x2048 .f32) (g : FVec Ideal S1x2048 .f32) : FVec Ideal S2x4096x2048 .f32 :=
  mulf (mulf y (broadcastInDim S2x4096x2048 ![0, 1, 2] bcast_S2x4096x1_S2x4096x2048_0_1_2 (Host.rsqrt (addf (Host.divf (broadcastInDim S2x4096x1 ![0, 1] bcast_S2x4096_S2x4096x1_0_1 (Host.reduceAdd (mulf y y) (constant S_ .f32 0x00000000#32) reducesTo_S2x4096x2048_S2x4096_d2 h_S_)) (broadcastInDim S2x4096x1 ![] bcast_S_S2x4096x1 (constant S_ .f32 0x45000000#32))) (broadcastInDim S2x4096x1 ![] bcast_S_S2x4096x1 (constant S_ .f32 0x358637BD#32)))))) (broadcastInDim S2x4096x2048 ![0, 1, 2] bcast_S1x1x2048_S2x4096x2048_0_1_2 (broadcastInDim S1x1x2048 ![2] bcast_S2048_S1x1x2048_2 (shapeCast _ g shapeCasts_S1x2048_S2048)))

/-- The reference's first result: the normed rows. -/
def rows (x : FVec Ideal S2x4096x2048 .f32) (g : FVec Ideal S1x2048 .f32) : FVec Ideal S8192x2048 .bf16 :=
  truncf .bf16 (shapeCast _ (normed x g) shapeCasts_S2x4096x2048_S8192x2048) bitsLt_bf16_f32

/-- The reference's second result: the rows' products with the last columns of the weights, filled up with zeros. -/
def tail (x : FVec Ideal S2x4096x2048 .f32) (g : FVec Ideal S1x2048 .f32) (w : FVec Ideal S1x2048x9296 .f32) : FVec Ideal S8192x128 .f32 :=
  pad S8192x128 ![0, 0] ![0, 48] ![0, 0] (shapeCast _ (extractStridedSlice S2x4096x80 ![0, 0, 9216] (Host.dotGeneral dot_S2x4096x2048_S2048x9296_S2x4096x9296_2_0_01_1_n_n none (normed x g) (shapeCast _ w shapeCasts_S1x2048x9296_S2048x9296)) slices_S2x4096x9296_S2x4096x80_0_0_9216) shapeCasts_S2x4096x80_S8192x80) (sitofp .f32 (constantI S_ 32 0#32)) pads_S8192x80_S8192x128_000_0480 h_S_

/-- The reference's third result: the second one transposed. -/
def tailT (x : FVec Ideal S2x4096x2048 .f32) (g : FVec Ideal S1x2048 .f32) (w : FVec Ideal S1x2048x9296 .f32) : FVec Ideal S128x8192 .f32 :=
  transpose S128x8192 [1, 0] (tail x g w) transposes_S8192x128_S128x8192_1_0

/-- An entry of the normed rows: the row's entry over the row's root mean square, times the gain. -/
theorem rows_at (x : FVec Ideal S2x4096x2048 .f32) (g : FVec Ideal S1x2048 .f32) (n : Fin 8192) (e : Fin 2048) :
    (rows x g (ix2 n e) : EReal) = x (ix3 ⟨n.val / 4096, by omega⟩ ⟨n.val % 4096, by omega⟩ e) * Ideal.rsqrt (Ideal.div (∑ k : Fin 2048, x (ix3 ⟨n.val / 4096, by omega⟩ ⟨n.val % 4096, by omega⟩ k) * x (ix3 ⟨n.val / 4096, by omega⟩ ⟨n.val % 4096, by omega⟩ k)) (Ideal.ofBits .f32 0x45000000#32) + Ideal.ofBits .f32 0x358637BD#32) * g (ix2 0 e) := by
  pointwise [rows, normed]

/-- The integer zero is the number zero. -/
theorem zero_word : (FloatOps.sitofp (F := Ideal) .f32 (0#32) : EReal) = 0 := by
  show (((0#32).toInt : ℝ) : EReal) = 0
  simp

/-- An entry of the last columns: the normed row's product with a column of the weights, or with zeros. -/
theorem tail_at (x : FVec Ideal S2x4096x2048 .f32) (g : FVec Ideal S1x2048 .f32) (w : FVec Ideal S1x2048x9296 .f32) (n : Fin 8192) (e : Fin 128) :
    (tail x g w (ix2 n e) : EReal) = ∑ k : Fin 2048, rows x g (ix2 n k) * (if h : e.val < 80 then w (ix3 0 k ⟨9216 + e.val, by omega⟩) else 0) := by
  have hr : ∀ k, rows x g (ix2 n k) = normed x g (ix3 ⟨n.val / 4096, by omega⟩ ⟨n.val % 4096, by omega⟩ k) := fun k => by pointwise [rows]
  simp only [hr]
  pointwise [tail]
  split
  · rfl
  · exact zero_word.trans (Finset.sum_eq_zero fun k _ => mul_zero _).symm

/-- An entry of the transposed last columns. -/
theorem tailT_at (x : FVec Ideal S2x4096x2048 .f32) (g : FVec Ideal S1x2048 .f32) (w : FVec Ideal S1x2048x9296 .f32) (n : Fin 8192) (e : Fin 128) :
    (tailT x g w (ix2 e n) : EReal) = ∑ k : Fin 2048, rows x g (ix2 n k) * (if h : e.val < 80 then w (ix3 0 k ⟨9216 + e.val, by omega⟩) else 0) := by
  rw [← tail_at]
  pointwise [tailT]

end Cert.ReferenceNIdeal

namespace Cert.KernelNIdeal.Normed

open Idealize.ShloMosaic Idealize.ShloMosaic.TcCoe Idealize.SL.Sem Cert.KernelNIdeal Cert.KernelNIdeal.Gen
open Idealize.ShloMosaic.Pipeline (Dat)

/-- An entry of a block's normed rows. -/
theorem block_at (X : FVec Ideal S512x2048 .f32) (g : FVec Ideal S1x2048 .f32) (n : Fin 512) (e : Fin 2048) :
    (k0_pay1 (F := Ideal) X g (ix2 n e) : EReal) = X (ix2 n e) * Ideal.rsqrt (Ideal.div (∑ k : Fin 2048, X (ix2 n k) * X (ix2 n k)) (Ideal.ofBits .f32 0x45000000#32) + Ideal.ofBits .f32 0x358637BD#32) * g (ix2 0 e) := by
  pointwise [k0_pay1]

/-- A block of the tail at an index: the normalised row against a column of the weights. -/
theorem tail_block_at (X : FVec Ideal S512x2048 .f32) (g : FVec Ideal S1x2048 .f32) (W : FVec Ideal S2048x128 .bf16) (n : Fin 512) (e : Fin 128) :
    (k0_pay2 (F := Ideal) X g W (ix2 n e) : EReal) = ∑ k : Fin 2048, k0_pay1 (F := Ideal) X g (ix2 n k) * W (ix2 k e) := by
  pointwise [k0_pay2]

/-- A block of the transposed tail at an index. -/
theorem tailT_block_at (X : FVec Ideal S512x2048 .f32) (g : FVec Ideal S1x2048 .f32) (W : FVec Ideal S128x2048 .bf16) (n : Fin 512) (e : Fin 128) :
    (k0_pay3 (F := Ideal) X g W (ix2 e n) : EReal) = ∑ k : Fin 2048, W (ix2 e k) * k0_pay1 (F := Ideal) X g (ix2 n k) := by
  pointwise [k0_pay3]

/-- Which block of each array a grid point takes. -/
theorem idx : ∀ t : Fin cfg0.N, win0_0.index t = ![t.val, 0] ∧ win0_1.index t = ![0, 0] ∧ win0_2.index t = ![0, 0] ∧ win0_3.index t = ![0, 0] ∧ win0_4.index t = ![t.val, 0] ∧ win0_5.index t = ![t.val, 0] ∧ win0_6.index t = ![0, t.val] :=
  (by decide +kernel : ∀ t : Fin grid0.N, _)

variable (m : (ℓ : Loc nD τ sig) → Buf (Elt Ideal) ℓ)

/-- The rows handed to the call are the layer's input, batch after batch. -/
theorem input_at (c : Dev nD) (n : Fin 8192) (k : Fin 2048) :
    (V m c main_v5 : FVec Ideal S8192x2048 .f32) (ix2 n k) = (m ((c : Thread nD τ).loc main_arg0) : FVec Ideal S2x4096x2048 .f32) (ix3 ⟨n.val / 4096, by omega⟩ ⟨n.val % 4096, by omega⟩ k) := by
  unfold V
  after_reads_at

/-- The gain, as the host lays it out. -/
theorem gain_at (c : Dev nD) (e : Fin 2048) :
    (V m c main_v8 : FVec Ideal S1x2048 .f32) (ix2 0 e) = (m ((c : Thread nD τ).loc main_arg1) : FVec Ideal S1x2048 .f32) (ix2 0 e) := by
  unfold V
  after_reads_at

/-- The integer zero is the number zero. -/
theorem zero_word : (FloatOps.sitofp (F := Ideal) .bf16 (0#32) : EReal) = 0 := by
  show (((0#32).toInt : ℝ) : EReal) = 0
  simp

/-- The weights handed to the call: the last columns, filled up with zeros; -/
theorem columns_at (c : Dev nD) (e : Fin 128) (k : Fin 2048) :
    (V m c main_v4 : FVec Ideal S128x2048 .bf16) (ix2 e k) = if h : e.val < 80 then (m ((c : Thread nD τ).loc main_arg2) : FVec Ideal S1x2048x9296 .f32) (ix3 0 k ⟨9216 + e.val, by omega⟩) else (0 : EReal) := by
  unfold V
  after_reads_at
  split
  · rfl
  · exact zero_word

/-- and the same transposed. -/
theorem columnsT_at (c : Dev nD) (e : Fin 128) (k : Fin 2048) :
    (V m c main_v7 : FVec Ideal S2048x128 .bf16) (ix2 k e) = if h : e.val < 80 then (m ((c : Thread nD τ).loc main_arg2) : FVec Ideal S1x2048x9296 .f32) (ix3 0 k ⟨9216 + e.val, by omega⟩) else (0 : EReal) := by
  unfold V
  after_reads_at
  split
  · rfl
  · exact zero_word

/-- What a point writes back. -/
theorem stored4 (c : Dev nD) (t : Fin cfg0.N) : (dats m 0 c).after 4 t = k0_pay1 (F := Ideal) (iblk m c 0 t) (iblk m c 1 t) := by
  rw [after0_4]
  frame_out

/-- What a point stores into its block of the tail. -/
theorem stored5 (c : Dev nD) (t : Fin cfg0.N) : (dats m 0 c).after 5 t = k0_pay2 (F := Ideal) (iblk m c 0 t) (iblk m c 1 t) (iblk m c 2 t) := by
  rw [after0_5]
  frame_out

/-- What a point stores into its block of the transposed tail. -/
theorem stored6 (c : Dev nD) (t : Fin cfg0.N) : (dats m 0 c).after 6 t = k0_pay3 (F := Ideal) (iblk m c 0 t) (iblk m c 1 t) (iblk m c 3 t) := by
  rw [after0_6]
  frame_out

/-- The reference's three results at a memory. -/
abbrev rows (c : Dev nD) := Cert.ReferenceNIdeal.rows (m ((c : Thread nD τ).loc main_arg0)) (m ((c : Thread nD τ).loc main_arg1))
/-- The reference's tail, from the arguments. -/
abbrev tail (c : Dev nD) := Cert.ReferenceNIdeal.tail (m ((c : Thread nD τ).loc main_arg0)) (m ((c : Thread nD τ).loc main_arg1)) (m ((c : Thread nD τ).loc main_arg2))
/-- The reference's transposed tail, from the arguments. -/
abbrev tailT (c : Dev nD) := Cert.ReferenceNIdeal.tailT (m ((c : Thread nD τ).loc main_arg0)) (m ((c : Thread nD τ).loc main_arg1)) (m ((c : Thread nD τ).loc main_arg2))

/-- A row of a point's block is a row of the array. -/
theorem row_lt (t : Fin cfg0.N) (r : Fin 512) : 512 * t.val + r.val < 8192 := by
  have ht : t.val < 16 := lt_of_lt_of_eq t.isLt N_0
  have hr := r.isLt
  omega

/-- The input's entry in a point's block. -/
theorem entry (c : Dev nD) (t : Fin cfg0.N) (r : Fin 512) (k : Fin 2048) : (iblk m c 0 t (ix2 r k) : EReal)
    = (m ((c : Thread nD τ).loc main_arg0) : FVec Ideal S2x4096x2048 .f32) (ix3 ⟨(512 * t.val + r.val) / 4096, by have h := row_lt t r; omega⟩ ⟨(512 * t.val + r.val) % 4096, by omega⟩ k) := by
  refine Eq.trans ?_ (input_at m c ⟨512 * t.val + r.val, row_lt t r⟩ k)
  blk_ext [iblk, idx t]

/-- A block's normed rows are the reference's at their place. -/
theorem rows_block (c : Dev nD) (t : Fin cfg0.N) (r : Fin 512) (k : Fin 2048) :
    (k0_pay1 (F := Ideal) (iblk m c 0 t) (iblk m c 1 t) (ix2 r k) : EReal) = rows m c (ix2 ⟨512 * t.val + r.val, row_lt t r⟩ k) := by
  have hg : (iblk m c 1 t (ix2 0 k) : EReal) = (m ((c : Thread nD τ).loc main_arg1) : FVec Ideal S1x2048 .f32) (ix2 0 k) := by
    refine Eq.trans ?_ (gain_at m c k)
    blk_ext [iblk, idx t]
  refine (block_at _ _ r k).trans ((Cert.ReferenceNIdeal.rows_at _ _ ⟨512 * t.val + r.val, row_lt t r⟩ k).trans ?_).symm
  refine congrArg₂ (fun a b : EReal => a * b) (congrArg₂ (fun a b : EReal => a * b) (entry m c t r k).symm (congrArg (fun s : EReal => Ideal.rsqrt (Ideal.div s (Ideal.ofBits .f32 0x45000000#32) + Ideal.ofBits .f32 0x358637BD#32)) (Finset.sum_congr rfl fun i _ => ?_))) hg.symm
  exact congrArg₂ (fun a b : EReal => a * b) (entry m c t r i).symm (entry m c t r i).symm

/-- The call's first result is the reference's, -/
theorem final4 (c : Dev nD) : (dats m 0 c).arrAt 4 (cfgs 0).N = rows m c := by
  refine (dats m 0 c).arrAt_eq_of_covers 4 _ (by decide +kernel) fun t _ y => ?_
  have hp : ((cfg0.win 4).blk t).view.emb y = (ix2 (⟨512 * t.val + (y 0).val, row_lt t (y 0)⟩ : Fin 8192) (y 1 : Fin 2048) : S8192x2048.Idx) := by
    blk_ext [idx t]
  have hy : y = ix2 (y 0 : Fin 512) (y 1 : Fin 2048) := by blk_ext
  blk_simp
  rw [stored4]
  exact (congrArg _ hy).trans ((rows_block m c t (y 0) (y 1)).trans (congrArg (rows m c) hp.symm))

/-- the second -/
theorem final5 (c : Dev nD) : (dats m 0 c).arrAt 5 (cfgs 0).N = tail m c := by
  refine (dats m 0 c).arrAt_eq_of_covers 5 _ (by decide +kernel) fun t _ y => ?_
  have hp : ((cfg0.win 5).blk t).view.emb y = (ix2 (⟨512 * t.val + (y 0).val, row_lt t (y 0)⟩ : Fin 8192) (y 1 : Fin 128) : S8192x128.Idx) := by
    blk_ext [idx t]
  have hy : y = ix2 (y 0 : Fin 512) (y 1 : Fin 128) := by blk_ext
  blk_simp
  rw [stored5]
  refine (congrArg _ hy).trans ((tail_block_at _ _ _ (y 0) (y 1)).trans (((Cert.ReferenceNIdeal.tail_at _ _ _ _ _).symm.trans (congrArg (tail m c) hp.symm)).symm.trans ?_).symm)
  refine Finset.sum_congr rfl fun k _ => congrArg₂ (fun a b : EReal => a * b) (rows_block m c t (y 0) k).symm ((columnsT_at m c (y 1) k).symm.trans ?_)
  blk_ext [iblk, idx t]

/-- and the third. -/
theorem final6 (c : Dev nD) : (dats m 0 c).arrAt 6 (cfgs 0).N = tailT m c := by
  refine (dats m 0 c).arrAt_eq_of_covers 6 _ (by decide +kernel) fun t _ y => ?_
  have hp : ((cfg0.win 6).blk t).view.emb y = (ix2 (y 0 : Fin 128) (⟨512 * t.val + (y 1).val, row_lt t (y 1)⟩ : Fin 8192) : S128x8192.Idx) := by
    blk_ext [idx t]
  have hy : y = ix2 (y 0 : Fin 128) (y 1 : Fin 512) := by blk_ext
  blk_simp
  rw [stored6]
  refine (congrArg _ hy).trans ((tailT_block_at _ _ _ (y 1) (y 0)).trans (((Cert.ReferenceNIdeal.tailT_at _ _ _ _ _).symm.trans (congrArg (tailT m c) hp.symm)).symm.trans ?_).symm)
  refine Finset.sum_congr rfl fun k _ => (mul_comm (_ : EReal) _).trans (congrArg₂ (fun a b : EReal => a * b) ((columns_at m c (y 0) k).symm.trans ?_) (rows_block m c t (y 1) k).symm)
  blk_ext [iblk, idx t]

end Cert.KernelNIdeal.Normed

end
-- ==== Proof.Normed.Claims.lean ====
/- The claims about the first call: the frames, and that it computes its reference. -/
module

public import proofs.«01_k».proof.Defs
public import proofs.«01_k».proof.Proof.Gen.KernelN
public import proofs.«01_k».proof.Proof.Gen.KernelNIdeal.Value
public import proofs.«01_k».proof.Proof.Gen.ReferenceNIdeal.Run
public import proofs.«01_k».proof.Proof.Normed.Block
public import Idealize.ShloMosaic.Lib.Quiescent

@[expose] public section

noncomputable section

namespace Cert.Normed.Claims

open Idealize.ShloMosaic Idealize.ShloMosaic.TcCoe Idealize.SL.Sem Idealize.ShloMosaic.Tactic

/-- At words the two programs' kernels are one text. -/
theorem defs_eq : Cert.KernelNIdeal.defs (F := Bits) = Cert.KernelN.defs (F := Bits) := by sl_kernel_rfl
/-- And so are their main functions. -/
theorem main_eq : Cert.KernelNIdeal.main (F := Bits) = Cert.KernelN.main (F := Bits) := by sl_kernel_rfl

/-- The frames: of the program at words, taken from the run over any floats, of the program over the extended reals, and of the reference. -/
theorem frame_words : Cert.quiescent_KernelN := fun m ρ _ => by
  have h := Cert.KernelNIdeal.Gen.frame (F := Bits) m ρ
  rw [defs_eq, main_eq] at h
  exact h

/-- The frame of the program over the extended reals. -/
theorem frame_ideal : Cert.quiescent_KernelNIdeal := fun m ρ _ => Cert.KernelNIdeal.Gen.frame m ρ

/-- The reference's frame. -/
theorem frame_reference : Cert.quiescent_ReferenceNIdeal := fun m ρ _ =>
  (θ_run Cert.ReferenceNIdeal.defs _ _).mono (fun r h => ⟨fun c => (h c).2.2.2, Idealize.ShloMosaic.sem_eq_zero_of_no_sems (by decide) r.2⟩) (Cert.ReferenceNIdeal.Value.run (F := Ideal) m ρ)

/-- The kernel computes the reference. -/
theorem agree : Cert.algebraic_KernelNIdeal_ReferenceNIdeal := by
  intro m ρ m' ρ' hpre hagree
  refine ⟨fun c => Cert.ReferenceNIdeal.rows (m (c.tc.loc Cert.KernelNIdeal.main_arg0)) (m (c.tc.loc Cert.KernelNIdeal.main_arg1)), fun c => Cert.ReferenceNIdeal.tail (m (c.tc.loc Cert.KernelNIdeal.main_arg0)) (m (c.tc.loc Cert.KernelNIdeal.main_arg1)) (m (c.tc.loc Cert.KernelNIdeal.main_arg2)), fun c => Cert.ReferenceNIdeal.tailT (m (c.tc.loc Cert.KernelNIdeal.main_arg0)) (m (c.tc.loc Cert.KernelNIdeal.main_arg1)) (m (c.tc.loc Cert.KernelNIdeal.main_arg2)), ?_, ?_⟩
  · exact (θ_run Cert.KernelNIdeal.defs _ _).mono (fun r h c => ⟨(h c).1.trans (Cert.KernelNIdeal.Normed.final4 m c), (h c).2.1.trans (Cert.KernelNIdeal.Normed.final5 m c), (h c).2.2.1.trans (Cert.KernelNIdeal.Normed.final6 m c), (h c).2.2.2⟩) (Cert.KernelNIdeal.Value.run_blocks (F := Ideal) m ρ)
  · refine (θ_run Cert.ReferenceNIdeal.defs _ _).mono (fun _ h c => ⟨(h c).1.trans ?_, (h c).2.1.trans ?_, (h c).2.2.1.trans ?_, (h c).2.2.2⟩) (Cert.ReferenceNIdeal.Value.run (F := Ideal) m' ρ')
    · rw [(hagree c).1, (hagree c).2.1]
      rfl
    · rw [(hagree c).1, (hagree c).2.1, (hagree c).2.2]
      rfl
    · rw [(hagree c).1, (hagree c).2.1, (hagree c).2.2]
      rfl

end Cert.Normed.Claims

end
-- ==== Proof.lean ====
/- The certificate's claim, assembled. -/
module

public import proofs.«01_k».proof.Defs
public import proofs.«01_k».proof.Proof.Gen.Kernel
public import proofs.«01_k».proof.Proof.Gen.KernelIdeal
public import proofs.«01_k».proof.Proof.Gen.KernelIdeal.Frame.Runs
public import proofs.«01_k».proof.Proof.Gen.ReferenceIdeal
public import proofs.«01_k».proof.Proof.Gen.ReferenceIdeal.Run
public import proofs.«01_k».proof.Proof.Gen.Pre_finite
public import proofs.«01_k».proof.Proof.MixerA.KernelFrame
public import proofs.«01_k».proof.Proof.MixerA.Claims
public import proofs.«01_k».proof.Proof.Gen.KernelT
public import proofs.«01_k».proof.Proof.Gen.KernelTIdeal
public import proofs.«01_k».proof.Proof.Gen.ReferenceTIdeal
public import proofs.«01_k».proof.Proof.Gen.KernelK
public import proofs.«01_k».proof.Proof.Gen.KernelKIdeal
public import proofs.«01_k».proof.Proof.Gen.ReferenceKIdeal
public import proofs.«01_k».proof.Proof.Gen.KernelG
public import proofs.«01_k».proof.Proof.Gen.KernelGIdeal
public import proofs.«01_k».proof.Proof.Gen.ReferenceGIdeal
public import proofs.«01_k».proof.Proof.Gen.KernelO
public import proofs.«01_k».proof.Proof.Gen.KernelOIdeal
public import proofs.«01_k».proof.Proof.Gen.ReferenceOIdeal
public import proofs.«01_k».proof.Proof.Gen.KernelN
public import proofs.«01_k».proof.Proof.Gen.KernelNIdeal
public import proofs.«01_k».proof.Proof.Gen.ReferenceNIdeal
public import proofs.«01_k».proof.Proof.Projection.Claims
public import proofs.«01_k».proof.Proof.Output.Claims
public import proofs.«01_k».proof.Proof.Normed.Claims
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.KernelT.Gen.facts, Cert.KernelTIdeal.Gen.facts, Cert.ReferenceTIdeal.Gen.facts,
    Cert.KernelK.Gen.facts, Cert.KernelKIdeal.Gen.facts, Cert.ReferenceKIdeal.Gen.facts,
    Cert.KernelG.Gen.facts, Cert.KernelGIdeal.Gen.facts, Cert.ReferenceGIdeal.Gen.facts,
    Cert.KernelO.Gen.facts, Cert.KernelOIdeal.Gen.facts, Cert.ReferenceOIdeal.Gen.facts,
    Cert.KernelN.Gen.facts, Cert.KernelNIdeal.Gen.facts, Cert.ReferenceNIdeal.Gen.facts,
    Cert.Pre_finite.Gen.facts,
    Cert.KernelIdeal.MixerA.frame_kernel, fun m ρ _ => Cert.KernelIdeal.MixerA.framed m ρ, fun m ρ _ => Cert.KernelIdeal.MixerA.framed m ρ,
    Cert.MixerA.frame_reference, fun m ρ _ => Cert.MixerA.frame_reference m ρ trivial,
    Cert.Projection.Segments.frame_words, Cert.Projection.Segments.frame_ideal, Cert.Projection.Segments.frame_reference,
    Cert.Projection.Keys.frame_words, Cert.Projection.Keys.frame_ideal, Cert.Projection.Keys.frame_reference,
    Cert.Projection.Gates.frame_words, Cert.Projection.Gates.frame_ideal, Cert.Projection.Gates.frame_reference,
    Cert.Output.Claims.frame_words, Cert.Output.Claims.frame_ideal, Cert.Output.Claims.frame_reference,
    Cert.Normed.Claims.frame_words, Cert.Normed.Claims.frame_ideal, Cert.Normed.Claims.frame_reference,
    Cert.MixerA.constants, Cert.MixerA.agree,
    trivial, Cert.Projection.Segments.agree,
    trivial, Cert.Projection.Keys.agree,
    trivial, Cert.Projection.Gates.agree,
    trivial, Cert.Output.Claims.agree,
    trivial, Cert.Normed.Claims.agree⟩

end Cert.Proof

end
